-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_MixA (m : (ℓ : Loc Cert.MixA.nD Cert.MixA.τ Cert.MixA.sig) → Buf (Elt Bits) ℓ) : Prop :=
  True

def Pre_MixAIdeal (m : (ℓ : Loc Cert.MixAIdeal.nD Cert.MixAIdeal.τ Cert.MixAIdeal.sig) → Buf (Elt Ideal) ℓ) : Prop :=
  True

def Pre_RefMixAIdeal (m : (ℓ : Loc Cert.RefMixAIdeal.nD Cert.RefMixAIdeal.τ Cert.RefMixAIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_RefQIdeal (m : (ℓ : Loc Cert.RefQIdeal.nD Cert.RefQIdeal.τ Cert.RefQIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_RefKvIdeal (m : (ℓ : Loc Cert.RefKvIdeal.nD Cert.RefKvIdeal.τ Cert.RefKvIdeal.sig) → Buf (Elt Ideal) ℓ) : Prop :=
  True

def Pre_CacheKv (m : (ℓ : Loc Cert.CacheKv.nD Cert.CacheKv.τ Cert.CacheKv.sig) → Buf (Elt Bits) ℓ) : Prop :=
  True

def Pre_CacheKvIdeal (m : (ℓ : Loc Cert.CacheKvIdeal.nD Cert.CacheKvIdeal.τ Cert.CacheKvIdeal.sig) → Buf (Elt Ideal) ℓ) : Prop :=
  True

def Pre_RefCacheKvIdeal (m : (ℓ : Loc Cert.RefCacheKvIdeal.nD Cert.RefCacheKvIdeal.τ Cert.RefCacheKvIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_RefFinalPIdeal (m : (ℓ : Loc Cert.RefFinalPIdeal.nD Cert.RefFinalPIdeal.τ Cert.RefFinalPIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_RefFinalSIdeal (m : (ℓ : Loc Cert.RefFinalSIdeal.nD Cert.RefFinalSIdeal.τ Cert.RefFinalSIdeal.sig) → Buf (Elt Ideal) ℓ) : Prop :=
  True

def Pre_Modu (m : (ℓ : Loc Cert.Modu.nD Cert.Modu.τ Cert.Modu.sig) → Buf (Elt Bits) ℓ) : Prop :=
  True

def Pre_ModuIdeal (m : (ℓ : Loc Cert.ModuIdeal.nD Cert.ModuIdeal.τ Cert.ModuIdeal.sig) → Buf (Elt Ideal) ℓ) : Prop :=
  True

def Pre_RefModuIdeal (m : (ℓ : Loc Cert.RefModuIdeal.nD Cert.RefModuIdeal.τ Cert.RefModuIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.2.2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.2.2.2 = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite_scores [hPre_finite_scores : Cert.Pre_finite_scores.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).2.1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).2.2.1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).2.2.2.1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).2.2.2.2.1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).2.2.2.2.2.1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).2.2.2.2.2.2.1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).2.2.2.2.2.2.2.1 = (fun _ => 1#1)
    ∧ (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6)) (m ((c.tc : Thread Cert.RefAttnIdeal.nD Cert.RefAttnIdeal.τ).loc Cert.RefAttnIdeal.main_arg7)) (m ((c.tc : Thread Cert.RefAttnIdeal.nD Cert.RefAttnIdeal.τ).loc Cert.RefAttnIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_MixA [hMixA : Cert.MixA.Facts] : Prop :=
  ∀ (m : (ℓ : Loc Cert.MixA.nD Cert.MixA.τ Cert.MixA.sig) → Buf (Elt Bits) ℓ) (g : Dev Cert.MixA.nD → PrngReg), Pre_MixA m →
    θ_run (Cert.MixA.defs (F := Bits)) (onTc (τ := Cert.MixA.τ) (Cert.MixA.main (F := Bits))) ⟨m, fun _ => 0, g⟩ (fun r => (∀ c : Dev Cert.MixA.nD,
      r.2.mem ((c.tc : Thread Cert.MixA.nD Cert.MixA.τ).loc Cert.MixA.main_arg0) = m ((c.tc : Thread Cert.MixA.nD Cert.MixA.τ).loc Cert.MixA.main_arg0)
      ∧ r.2.mem ((c.tc : Thread Cert.MixA.nD Cert.MixA.τ).loc Cert.MixA.main_arg1) = m ((c.tc : Thread Cert.MixA.nD Cert.MixA.τ).loc Cert.MixA.main_arg1)
      ∧ r.2.mem ((c.tc : Thread Cert.MixA.nD Cert.MixA.τ).loc Cert.MixA.main_arg2) = m ((c.tc : Thread Cert.MixA.nD Cert.MixA.τ).loc Cert.MixA.main_arg2))
      ∧ r.2.sem = fun _ => 0)

def quiescent_MixAIdeal [hMixAIdeal : Cert.MixAIdeal.Facts] : Prop :=
  ∀ (m : (ℓ : Loc Cert.MixAIdeal.nD Cert.MixAIdeal.τ Cert.MixAIdeal.sig) → Buf (Elt Ideal) ℓ) (g : Dev Cert.MixAIdeal.nD → PrngReg), Pre_MixAIdeal m →
    θ_run (Cert.MixAIdeal.defs (F := Ideal)) (onTc (τ := Cert.MixAIdeal.τ) (Cert.MixAIdeal.main (F := Ideal))) ⟨m, fun _ => 0, g⟩ (fun r => (∀ c : Dev Cert.MixAIdeal.nD,
      r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
      ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
      ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2))
      ∧ r.2.sem = fun _ => 0)

def quiescent_RefMixAIdeal [hRefMixAIdeal : Cert.RefMixAIdeal.Facts] : Prop :=
  ∀ (m : (ℓ : Loc Cert.RefMixAIdeal.nD Cert.RefMixAIdeal.τ Cert.RefMixAIdeal.sig) → Buf (Elt Ideal) ℓ) (g : Dev Cert.RefMixAIdeal.nD → PrngReg), Pre_RefMixAIdeal m →
    θ_run (Cert.RefMixAIdeal.defs (F := Ideal)) (onTc (τ := Cert.RefMixAIdeal.τ) (Cert.RefMixAIdeal.main (F := Ideal))) ⟨m, fun _ => 0, g⟩ (fun r => (∀ c : Dev Cert.RefMixAIdeal.nD,
      r.2.mem ((c.tc : Thread Cert.RefMixAIdeal.nD Cert.RefMixAIdeal.τ).loc Cert.RefMixAIdeal.main_arg0) = m ((c.tc : Thread Cert.RefMixAIdeal.nD Cert.RefMixAIdeal.τ).loc Cert.RefMixAIdeal.main_arg0)
      ∧ r.2.mem ((c.tc : Thread Cert.RefMixAIdeal.nD Cert.RefMixAIdeal.τ).loc Cert.RefMixAIdeal.main_arg1) = m ((c.tc : Thread Cert.RefMixAIdeal.nD Cert.RefMixAIdeal.τ).loc Cert.RefMixAIdeal.main_arg1)
      ∧ r.2.mem ((c.tc : Thread Cert.RefMixAIdeal.nD Cert.RefMixAIdeal.τ).loc Cert.RefMixAIdeal.main_arg2) = m ((c.tc : Thread Cert.RefMixAIdeal.nD Cert.RefMixAIdeal.τ).loc Cert.RefMixAIdeal.main_arg2))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2)
      ∧ r.2.mem ((c.tc : Thread Cert.Q.nD Cert.Q.τ).loc Cert.Q.main_arg3) = m ((c.tc : Thread Cert.Q.nD Cert.Q.τ).loc Cert.Q.main_arg3))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_RefKvIdeal [hRefKvIdeal : Cert.RefKvIdeal.Facts] : Prop :=
  ∀ (m : (ℓ : Loc Cert.RefKvIdeal.nD Cert.RefKvIdeal.τ Cert.RefKvIdeal.sig) → Buf (Elt Ideal) ℓ) (g : Dev Cert.RefKvIdeal.nD → PrngReg), Pre_RefKvIdeal m →
    θ_run (Cert.RefKvIdeal.defs (F := Ideal)) (onTc (τ := Cert.RefKvIdeal.τ) (Cert.RefKvIdeal.main (F := Ideal))) ⟨m, fun _ => 0, g⟩ (fun r => (∀ c : Dev Cert.RefKvIdeal.nD,
      r.2.mem ((c.tc : Thread Cert.RefKvIdeal.nD Cert.RefKvIdeal.τ).loc Cert.RefKvIdeal.main_arg0) = m ((c.tc : Thread Cert.RefKvIdeal.nD Cert.RefKvIdeal.τ).loc Cert.RefKvIdeal.main_arg0)
      ∧ r.2.mem ((c.tc : Thread Cert.RefKvIdeal.nD Cert.RefKvIdeal.τ).loc Cert.RefKvIdeal.main_arg1) = m ((c.tc : Thread Cert.RefKvIdeal.nD Cert.RefKvIdeal.τ).loc Cert.RefKvIdeal.main_arg1)
      ∧ r.2.mem ((c.tc : Thread Cert.RefKvIdeal.nD Cert.RefKvIdeal.τ).loc Cert.RefKvIdeal.main_arg2) = m ((c.tc : Thread Cert.RefKvIdeal.nD Cert.RefKvIdeal.τ).loc Cert.RefKvIdeal.main_arg2)
      ∧ r.2.mem ((c.tc : Thread Cert.RefKvIdeal.nD Cert.RefKvIdeal.τ).loc Cert.RefKvIdeal.main_arg3) = m ((c.tc : Thread Cert.RefKvIdeal.nD Cert.RefKvIdeal.τ).loc Cert.RefKvIdeal.main_arg3))
      ∧ r.2.sem = fun _ => 0)

def quiescent_CacheKv [hCacheKv : Cert.CacheKv.Facts] : Prop :=
  ∀ (m : (ℓ : Loc Cert.CacheKv.nD Cert.CacheKv.τ Cert.CacheKv.sig) → Buf (Elt Bits) ℓ) (g : Dev Cert.CacheKv.nD → PrngReg), Pre_CacheKv m →
    θ_run (Cert.CacheKv.defs (F := Bits)) (onTc (τ := Cert.CacheKv.τ) (Cert.CacheKv.main (F := Bits))) ⟨m, fun _ => 0, g⟩ (fun r => (∀ c : Dev Cert.CacheKv.nD,
      r.2.mem ((c.tc : Thread Cert.CacheKv.nD Cert.CacheKv.τ).loc Cert.CacheKv.main_arg0) = m ((c.tc : Thread Cert.CacheKv.nD Cert.CacheKv.τ).loc Cert.CacheKv.main_arg0)
      ∧ r.2.mem ((c.tc : Thread Cert.CacheKv.nD Cert.CacheKv.τ).loc Cert.CacheKv.main_arg1) = m ((c.tc : Thread Cert.CacheKv.nD Cert.CacheKv.τ).loc Cert.CacheKv.main_arg1))
      ∧ r.2.sem = fun _ => 0)

def quiescent_CacheKvIdeal [hCacheKvIdeal : Cert.CacheKvIdeal.Facts] : Prop :=
  ∀ (m : (ℓ : Loc Cert.CacheKvIdeal.nD Cert.CacheKvIdeal.τ Cert.CacheKvIdeal.sig) → Buf (Elt Ideal) ℓ) (g : Dev Cert.CacheKvIdeal.nD → PrngReg), Pre_CacheKvIdeal m →
    θ_run (Cert.CacheKvIdeal.defs (F := Ideal)) (onTc (τ := Cert.CacheKvIdeal.τ) (Cert.CacheKvIdeal.main (F := Ideal))) ⟨m, fun _ => 0, g⟩ (fun r => (∀ c : Dev Cert.CacheKvIdeal.nD,
      r.2.mem ((c.tc : Thread Cert.CacheKvIdeal.nD Cert.CacheKvIdeal.τ).loc Cert.CacheKvIdeal.main_arg0) = m ((c.tc : Thread Cert.CacheKvIdeal.nD Cert.CacheKvIdeal.τ).loc Cert.CacheKvIdeal.main_arg0)
      ∧ r.2.mem ((c.tc : Thread Cert.CacheKvIdeal.nD Cert.CacheKvIdeal.τ).loc Cert.CacheKvIdeal.main_arg1) = m ((c.tc : Thread Cert.CacheKvIdeal.nD Cert.CacheKvIdeal.τ).loc Cert.CacheKvIdeal.main_arg1))
      ∧ r.2.sem = fun _ => 0)

def quiescent_RefCacheKvIdeal [hRefCacheKvIdeal : Cert.RefCacheKvIdeal.Facts] : Prop :=
  ∀ (m : (ℓ : Loc Cert.RefCacheKvIdeal.nD Cert.RefCacheKvIdeal.τ Cert.RefCacheKvIdeal.sig) → Buf (Elt Ideal) ℓ) (g : Dev Cert.RefCacheKvIdeal.nD → PrngReg), Pre_RefCacheKvIdeal m →
    θ_run (Cert.RefCacheKvIdeal.defs (F := Ideal)) (onTc (τ := Cert.RefCacheKvIdeal.τ) (Cert.RefCacheKvIdeal.main (F := Ideal))) ⟨m, fun _ => 0, g⟩ (fun r => (∀ c : Dev Cert.RefCacheKvIdeal.nD,
      r.2.mem ((c.tc : Thread Cert.RefCacheKvIdeal.nD Cert.RefCacheKvIdeal.τ).loc Cert.RefCacheKvIdeal.main_arg0) = m ((c.tc : Thread Cert.RefCacheKvIdeal.nD Cert.RefCacheKvIdeal.τ).loc Cert.RefCacheKvIdeal.main_arg0)
      ∧ r.2.mem ((c.tc : Thread Cert.RefCacheKvIdeal.nD Cert.RefCacheKvIdeal.τ).loc Cert.RefCacheKvIdeal.main_arg1) = m ((c.tc : Thread Cert.RefCacheKvIdeal.nD Cert.RefCacheKvIdeal.τ).loc Cert.RefCacheKvIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2)
      ∧ r.2.mem ((c.tc : Thread Cert.RefNormIdeal.nD Cert.RefNormIdeal.τ).loc Cert.RefNormIdeal.main_arg3) = m ((c.tc : Thread Cert.RefNormIdeal.nD Cert.RefNormIdeal.τ).loc Cert.RefNormIdeal.main_arg3))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1))
      ∧ r.2.sem = fun _ => 0)

def quiescent_RefFinalPIdeal [hRefFinalPIdeal : Cert.RefFinalPIdeal.Facts] : Prop :=
  ∀ (m : (ℓ : Loc Cert.RefFinalPIdeal.nD Cert.RefFinalPIdeal.τ Cert.RefFinalPIdeal.sig) → Buf (Elt Ideal) ℓ) (g : Dev Cert.RefFinalPIdeal.nD → PrngReg), Pre_RefFinalPIdeal m →
    θ_run (Cert.RefFinalPIdeal.defs (F := Ideal)) (onTc (τ := Cert.RefFinalPIdeal.τ) (Cert.RefFinalPIdeal.main (F := Ideal))) ⟨m, fun _ => 0, g⟩ (fun r => (∀ c : Dev Cert.RefFinalPIdeal.nD,
      r.2.mem ((c.tc : Thread Cert.RefFinalPIdeal.nD Cert.RefFinalPIdeal.τ).loc Cert.RefFinalPIdeal.main_arg0) = m ((c.tc : Thread Cert.RefFinalPIdeal.nD Cert.RefFinalPIdeal.τ).loc Cert.RefFinalPIdeal.main_arg0)
      ∧ r.2.mem ((c.tc : Thread Cert.RefFinalPIdeal.nD Cert.RefFinalPIdeal.τ).loc Cert.RefFinalPIdeal.main_arg1) = m ((c.tc : Thread Cert.RefFinalPIdeal.nD Cert.RefFinalPIdeal.τ).loc Cert.RefFinalPIdeal.main_arg1))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ r.2.sem = fun _ => 0)

def quiescent_RefFinalSIdeal [hRefFinalSIdeal : Cert.RefFinalSIdeal.Facts] : Prop :=
  ∀ (m : (ℓ : Loc Cert.RefFinalSIdeal.nD Cert.RefFinalSIdeal.τ Cert.RefFinalSIdeal.sig) → Buf (Elt Ideal) ℓ) (g : Dev Cert.RefFinalSIdeal.nD → PrngReg), Pre_RefFinalSIdeal m →
    θ_run (Cert.RefFinalSIdeal.defs (F := Ideal)) (onTc (τ := Cert.RefFinalSIdeal.τ) (Cert.RefFinalSIdeal.main (F := Ideal))) ⟨m, fun _ => 0, g⟩ (fun r => (∀ c : Dev Cert.RefFinalSIdeal.nD,
      r.2.mem ((c.tc : Thread Cert.RefFinalSIdeal.nD Cert.RefFinalSIdeal.τ).loc Cert.RefFinalSIdeal.main_arg0) = m ((c.tc : Thread Cert.RefFinalSIdeal.nD Cert.RefFinalSIdeal.τ).loc Cert.RefFinalSIdeal.main_arg0)
      ∧ r.2.mem ((c.tc : Thread Cert.RefFinalSIdeal.nD Cert.RefFinalSIdeal.τ).loc Cert.RefFinalSIdeal.main_arg1) = m ((c.tc : Thread Cert.RefFinalSIdeal.nD Cert.RefFinalSIdeal.τ).loc Cert.RefFinalSIdeal.main_arg1))
      ∧ r.2.sem = fun _ => 0)

def quiescent_Modu [hModu : Cert.Modu.Facts] : Prop :=
  ∀ (m : (ℓ : Loc Cert.Modu.nD Cert.Modu.τ Cert.Modu.sig) → Buf (Elt Bits) ℓ) (g : Dev Cert.Modu.nD → PrngReg), Pre_Modu m →
    θ_run (Cert.Modu.defs (F := Bits)) (onTc (τ := Cert.Modu.τ) (Cert.Modu.main (F := Bits))) ⟨m, fun _ => 0, g⟩ (fun r => (∀ c : Dev Cert.Modu.nD,
      r.2.mem ((c.tc : Thread Cert.Modu.nD Cert.Modu.τ).loc Cert.Modu.main_arg0) = m ((c.tc : Thread Cert.Modu.nD Cert.Modu.τ).loc Cert.Modu.main_arg0)
      ∧ r.2.mem ((c.tc : Thread Cert.Modu.nD Cert.Modu.τ).loc Cert.Modu.main_arg1) = m ((c.tc : Thread Cert.Modu.nD Cert.Modu.τ).loc Cert.Modu.main_arg1)
      ∧ r.2.mem ((c.tc : Thread Cert.Modu.nD Cert.Modu.τ).loc Cert.Modu.main_arg2) = m ((c.tc : Thread Cert.Modu.nD Cert.Modu.τ).loc Cert.Modu.main_arg2)
      ∧ r.2.mem ((c.tc : Thread Cert.Modu.nD Cert.Modu.τ).loc Cert.Modu.main_arg3) = m ((c.tc : Thread Cert.Modu.nD Cert.Modu.τ).loc Cert.Modu.main_arg3))
      ∧ r.2.sem = fun _ => 0)

def quiescent_ModuIdeal [hModuIdeal : Cert.ModuIdeal.Facts] : Prop :=
  ∀ (m : (ℓ : Loc Cert.ModuIdeal.nD Cert.ModuIdeal.τ Cert.ModuIdeal.sig) → Buf (Elt Ideal) ℓ) (g : Dev Cert.ModuIdeal.nD → PrngReg), Pre_ModuIdeal m →
    θ_run (Cert.ModuIdeal.defs (F := Ideal)) (onTc (τ := Cert.ModuIdeal.τ) (Cert.ModuIdeal.main (F := Ideal))) ⟨m, fun _ => 0, g⟩ (fun r => (∀ c : Dev Cert.ModuIdeal.nD,
      r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
      ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
      ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2)
      ∧ r.2.mem ((c.tc : Thread Cert.ModuIdeal.nD Cert.ModuIdeal.τ).loc Cert.ModuIdeal.main_arg3) = m ((c.tc : Thread Cert.ModuIdeal.nD Cert.ModuIdeal.τ).loc Cert.ModuIdeal.main_arg3))
      ∧ r.2.sem = fun _ => 0)

def quiescent_RefModuIdeal [hRefModuIdeal : Cert.RefModuIdeal.Facts] : Prop :=
  ∀ (m : (ℓ : Loc Cert.RefModuIdeal.nD Cert.RefModuIdeal.τ Cert.RefModuIdeal.sig) → Buf (Elt Ideal) ℓ) (g : Dev Cert.RefModuIdeal.nD → PrngReg), Pre_RefModuIdeal m →
    θ_run (Cert.RefModuIdeal.defs (F := Ideal)) (onTc (τ := Cert.RefModuIdeal.τ) (Cert.RefModuIdeal.main (F := Ideal))) ⟨m, fun _ => 0, g⟩ (fun r => (∀ c : Dev Cert.RefModuIdeal.nD,
      r.2.mem ((c.tc : Thread Cert.RefModuIdeal.nD Cert.RefModuIdeal.τ).loc Cert.RefModuIdeal.main_arg0) = m ((c.tc : Thread Cert.RefModuIdeal.nD Cert.RefModuIdeal.τ).loc Cert.RefModuIdeal.main_arg0)
      ∧ r.2.mem ((c.tc : Thread Cert.RefModuIdeal.nD Cert.RefModuIdeal.τ).loc Cert.RefModuIdeal.main_arg1) = m ((c.tc : Thread Cert.RefModuIdeal.nD Cert.RefModuIdeal.τ).loc Cert.RefModuIdeal.main_arg1)
      ∧ r.2.mem ((c.tc : Thread Cert.RefModuIdeal.nD Cert.RefModuIdeal.τ).loc Cert.RefModuIdeal.main_arg2) = m ((c.tc : Thread Cert.RefModuIdeal.nD Cert.RefModuIdeal.τ).loc Cert.RefModuIdeal.main_arg2)
      ∧ r.2.mem ((c.tc : Thread Cert.RefModuIdeal.nD Cert.RefModuIdeal.τ).loc Cert.RefModuIdeal.main_arg3) = m ((c.tc : Thread Cert.RefModuIdeal.nD Cert.RefModuIdeal.τ).loc Cert.RefModuIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3)
      ∧ r.2.mem ((c.tc : Thread Cert.RefAttnIdeal.nD Cert.RefAttnIdeal.τ).loc Cert.RefAttnIdeal.main_arg4) = m ((c.tc : Thread Cert.RefAttnIdeal.nD Cert.RefAttnIdeal.τ).loc Cert.RefAttnIdeal.main_arg4)
      ∧ r.2.mem ((c.tc : Thread Cert.RefAttnIdeal.nD Cert.RefAttnIdeal.τ).loc Cert.RefAttnIdeal.main_arg5) = m ((c.tc : Thread Cert.RefAttnIdeal.nD Cert.RefAttnIdeal.τ).loc Cert.RefAttnIdeal.main_arg5)
      ∧ r.2.mem ((c.tc : Thread Cert.RefAttnIdeal.nD Cert.RefAttnIdeal.τ).loc Cert.RefAttnIdeal.main_arg6) = m ((c.tc : Thread Cert.RefAttnIdeal.nD Cert.RefAttnIdeal.τ).loc Cert.RefAttnIdeal.main_arg6)
      ∧ r.2.mem ((c.tc : Thread Cert.RefAttnIdeal.nD Cert.RefAttnIdeal.τ).loc Cert.RefAttnIdeal.main_arg7) = m ((c.tc : Thread Cert.RefAttnIdeal.nD Cert.RefAttnIdeal.τ).loc Cert.RefAttnIdeal.main_arg7)
      ∧ r.2.mem ((c.tc : Thread Cert.RefAttnIdeal.nD Cert.RefAttnIdeal.τ).loc Cert.RefAttnIdeal.main_arg8) = m ((c.tc : Thread Cert.RefAttnIdeal.nD Cert.RefAttnIdeal.τ).loc Cert.RefAttnIdeal.main_arg8))
      ∧ r.2.sem = fun _ => 0)

def quiescent_RefAttnIdeal_pre_finite_scores [hRefAttnIdeal : Cert.RefAttnIdeal.Facts] [hPre_finite_scores : Cert.Pre_finite_scores.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite_scores m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3)
      ∧ r.2.mem ((c.tc : Thread Cert.RefAttnIdeal.nD Cert.RefAttnIdeal.τ).loc Cert.RefAttnIdeal.main_arg4) = m ((c.tc : Thread Cert.RefAttnIdeal.nD Cert.RefAttnIdeal.τ).loc Cert.RefAttnIdeal.main_arg4)
      ∧ r.2.mem ((c.tc : Thread Cert.RefAttnIdeal.nD Cert.RefAttnIdeal.τ).loc Cert.RefAttnIdeal.main_arg5) = m ((c.tc : Thread Cert.RefAttnIdeal.nD Cert.RefAttnIdeal.τ).loc Cert.RefAttnIdeal.main_arg5)
      ∧ r.2.mem ((c.tc : Thread Cert.RefAttnIdeal.nD Cert.RefAttnIdeal.τ).loc Cert.RefAttnIdeal.main_arg6) = m ((c.tc : Thread Cert.RefAttnIdeal.nD Cert.RefAttnIdeal.τ).loc Cert.RefAttnIdeal.main_arg6)
      ∧ r.2.mem ((c.tc : Thread Cert.RefAttnIdeal.nD Cert.RefAttnIdeal.τ).loc Cert.RefAttnIdeal.main_arg7) = m ((c.tc : Thread Cert.RefAttnIdeal.nD Cert.RefAttnIdeal.τ).loc Cert.RefAttnIdeal.main_arg7)
      ∧ r.2.mem ((c.tc : Thread Cert.RefAttnIdeal.nD Cert.RefAttnIdeal.τ).loc Cert.RefAttnIdeal.main_arg8) = m ((c.tc : Thread Cert.RefAttnIdeal.nD Cert.RefAttnIdeal.τ).loc Cert.RefAttnIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v71) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v14) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v40) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v14) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_MixA_MixAIdeal : Prop :=
  True

def algebraic_MixAIdeal_RefMixAIdeal [hMixAIdeal : Cert.MixAIdeal.Facts] [hRefMixAIdeal : Cert.RefMixAIdeal.Facts] : Prop :=
  ∀ (m : (ℓ : Loc Cert.MixAIdeal.nD Cert.MixAIdeal.τ Cert.MixAIdeal.sig) → Buf (Elt Ideal) ℓ) (g : Dev Cert.MixAIdeal.nD → PrngReg)
    (m' : (ℓ : Loc Cert.RefMixAIdeal.nD Cert.RefMixAIdeal.τ Cert.RefMixAIdeal.sig) → Buf (Elt Ideal) ℓ) (g' : Dev Cert.RefMixAIdeal.nD → PrngReg), Pre_MixAIdeal m →
    (∀ c : Dev Cert.MixAIdeal.nD,
      m' ((c.tc : Thread Cert.RefMixAIdeal.nD Cert.RefMixAIdeal.τ).loc Cert.RefMixAIdeal.main_arg0) = m ((c.tc : Thread Cert.MixAIdeal.nD Cert.MixAIdeal.τ).loc Cert.MixAIdeal.main_arg0)
      ∧ m' ((c.tc : Thread Cert.RefMixAIdeal.nD Cert.RefMixAIdeal.τ).loc Cert.RefMixAIdeal.main_arg1) = m ((c.tc : Thread Cert.MixAIdeal.nD Cert.MixAIdeal.τ).loc Cert.MixAIdeal.main_arg1)
      ∧ m' ((c.tc : Thread Cert.RefMixAIdeal.nD Cert.RefMixAIdeal.τ).loc Cert.RefMixAIdeal.main_arg2) = m ((c.tc : Thread Cert.MixAIdeal.nD Cert.MixAIdeal.τ).loc Cert.MixAIdeal.main_arg2)) →
    ∃ (v0 : (c : Dev Cert.MixAIdeal.nD) → Buf (Elt Ideal) ((c.tc : Thread Cert.MixAIdeal.nD Cert.MixAIdeal.τ).loc Cert.MixAIdeal.main_v1)),
      θ_run (Cert.MixAIdeal.defs (F := Ideal)) (onTc (τ := Cert.MixAIdeal.τ) (Cert.MixAIdeal.main (F := Ideal))) ⟨m, fun _ => 0, g⟩ (fun r => ∀ c : Dev Cert.MixAIdeal.nD,
          r.2.mem ((c.tc : Thread Cert.MixAIdeal.nD Cert.MixAIdeal.τ).loc Cert.MixAIdeal.main_v1) = v0 c
          ∧ r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
          ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
          ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2))
      ∧ θ_run (Cert.RefMixAIdeal.defs (F := Ideal)) (onTc (τ := Cert.RefMixAIdeal.τ) (Cert.RefMixAIdeal.main (F := Ideal))) ⟨m', fun _ => 0, g'⟩ (fun r => ∀ c : Dev Cert.RefMixAIdeal.nD,
          r.2.mem ((c.tc : Thread Cert.RefMixAIdeal.nD Cert.RefMixAIdeal.τ).loc Cert.RefMixAIdeal.main_v66) = v0 c
          ∧ r.2.mem ((c.tc : Thread Cert.RefMixAIdeal.nD Cert.RefMixAIdeal.τ).loc Cert.RefMixAIdeal.main_arg0) = m' ((c.tc : Thread Cert.RefMixAIdeal.nD Cert.RefMixAIdeal.τ).loc Cert.RefMixAIdeal.main_arg0)
          ∧ r.2.mem ((c.tc : Thread Cert.RefMixAIdeal.nD Cert.RefMixAIdeal.τ).loc Cert.RefMixAIdeal.main_arg1) = m' ((c.tc : Thread Cert.RefMixAIdeal.nD Cert.RefMixAIdeal.τ).loc Cert.RefMixAIdeal.main_arg1)
          ∧ r.2.mem ((c.tc : Thread Cert.RefMixAIdeal.nD Cert.RefMixAIdeal.τ).loc Cert.RefMixAIdeal.main_arg2) = m' ((c.tc : Thread Cert.RefMixAIdeal.nD Cert.RefMixAIdeal.τ).loc Cert.RefMixAIdeal.main_arg2))

def preserves_Q_QIdeal : Prop :=
  True

def algebraic_QIdeal_RefQIdeal [hQIdeal : Cert.QIdeal.Facts] [hRefQIdeal : Cert.RefQIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.RefQIdeal.nD Cert.RefQIdeal.τ Cert.RefQIdeal.sig) → Buf (Elt Ideal) ℓ) (g' : Dev Cert.RefQIdeal.nD → PrngReg), Pre_QIdeal m →
    (∀ c : Dev Cert.QIdeal.nD,
      m' ((c.tc : Thread Cert.RefQIdeal.nD Cert.RefQIdeal.τ).loc Cert.RefQIdeal.main_arg0) = m ((c.tc : Thread Cert.QIdeal.nD Cert.QIdeal.τ).loc Cert.QIdeal.main_arg0)
      ∧ m' ((c.tc : Thread Cert.RefQIdeal.nD Cert.RefQIdeal.τ).loc Cert.RefQIdeal.main_arg1) = m ((c.tc : Thread Cert.QIdeal.nD Cert.QIdeal.τ).loc Cert.QIdeal.main_arg1)
      ∧ m' ((c.tc : Thread Cert.RefQIdeal.nD Cert.RefQIdeal.τ).loc Cert.RefQIdeal.main_arg2) = m ((c.tc : Thread Cert.QIdeal.nD Cert.QIdeal.τ).loc Cert.QIdeal.main_arg2)
      ∧ m' ((c.tc : Thread Cert.RefQIdeal.nD Cert.RefQIdeal.τ).loc Cert.RefQIdeal.main_arg3) = m ((c.tc : Thread Cert.QIdeal.nD Cert.QIdeal.τ).loc Cert.QIdeal.main_arg3)) →
    ∃ (v0 : (c : Dev Cert.QIdeal.nD) → Buf (Elt Ideal) ((c.tc : Thread Cert.QIdeal.nD Cert.QIdeal.τ).loc Cert.QIdeal.main_v14)) (v1 : (c : Dev Cert.QIdeal.nD) → Buf (Elt Ideal) ((c.tc : Thread Cert.QIdeal.nD Cert.QIdeal.τ).loc Cert.QIdeal.main_v15)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v14) = v0 c
          ∧ r.2.mem ((c.tc : Thread Cert.QIdeal.nD Cert.QIdeal.τ).loc Cert.QIdeal.main_v15) = v1 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2)
          ∧ r.2.mem ((c.tc : Thread Cert.QIdeal.nD Cert.QIdeal.τ).loc Cert.QIdeal.main_arg3) = m ((c.tc : Thread Cert.QIdeal.nD Cert.QIdeal.τ).loc Cert.QIdeal.main_arg3))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v25) = v0 c
          ∧ r.2.mem ((c.tc : Thread Cert.RefQIdeal.nD Cert.RefQIdeal.τ).loc Cert.RefQIdeal.main_v27) = v1 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1)
          ∧ r.2.mem ((c.tc : Thread Cert.RefQIdeal.nD Cert.RefQIdeal.τ).loc Cert.RefQIdeal.main_arg2) = m' ((c.tc : Thread Cert.RefQIdeal.nD Cert.RefQIdeal.τ).loc Cert.RefQIdeal.main_arg2)
          ∧ r.2.mem ((c.tc : Thread Cert.RefQIdeal.nD Cert.RefQIdeal.τ).loc Cert.RefQIdeal.main_arg3) = m' ((c.tc : Thread Cert.RefQIdeal.nD Cert.RefQIdeal.τ).loc Cert.RefQIdeal.main_arg3))

def preserves_Kv_KvIdeal : Prop :=
  True

def algebraic_KvIdeal_RefKvIdeal [hKvIdeal : Cert.KvIdeal.Facts] [hRefKvIdeal : Cert.RefKvIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.RefKvIdeal.nD Cert.RefKvIdeal.τ Cert.RefKvIdeal.sig) → Buf (Elt Ideal) ℓ) (g' : Dev Cert.RefKvIdeal.nD → PrngReg), Pre_KvIdeal m →
    (∀ c : Dev Cert.KvIdeal.nD,
      m' ((c.tc : Thread Cert.RefKvIdeal.nD Cert.RefKvIdeal.τ).loc Cert.RefKvIdeal.main_arg0) = m ((c.tc : Thread Cert.KvIdeal.nD Cert.KvIdeal.τ).loc Cert.KvIdeal.main_arg0)
      ∧ m' ((c.tc : Thread Cert.RefKvIdeal.nD Cert.RefKvIdeal.τ).loc Cert.RefKvIdeal.main_arg1) = m ((c.tc : Thread Cert.KvIdeal.nD Cert.KvIdeal.τ).loc Cert.KvIdeal.main_arg1)
      ∧ m' ((c.tc : Thread Cert.RefKvIdeal.nD Cert.RefKvIdeal.τ).loc Cert.RefKvIdeal.main_arg2) = m ((c.tc : Thread Cert.KvIdeal.nD Cert.KvIdeal.τ).loc Cert.KvIdeal.main_arg2)
      ∧ m' ((c.tc : Thread Cert.RefKvIdeal.nD Cert.RefKvIdeal.τ).loc Cert.RefKvIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v5)) (v1 : (c : Dev Cert.KvIdeal.nD) → Buf (Elt Ideal) ((c.tc : Thread Cert.KvIdeal.nD Cert.KvIdeal.τ).loc Cert.KvIdeal.main_v7)) (v2 : (c : Dev Cert.KvIdeal.nD) → Buf (Elt Ideal) ((c.tc : Thread Cert.KvIdeal.nD Cert.KvIdeal.τ).loc Cert.KvIdeal.main_v4_1)) (v3 : (c : Dev Cert.KvIdeal.nD) → Buf (Elt Ideal) ((c.tc : Thread Cert.KvIdeal.nD Cert.KvIdeal.τ).loc Cert.KvIdeal.main_v4_2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v5) = v0 c
          ∧ r.2.mem ((c.tc : Thread Cert.KvIdeal.nD Cert.KvIdeal.τ).loc Cert.KvIdeal.main_v7) = v1 c
          ∧ r.2.mem ((c.tc : Thread Cert.KvIdeal.nD Cert.KvIdeal.τ).loc Cert.KvIdeal.main_v4_1) = v2 c
          ∧ r.2.mem ((c.tc : Thread Cert.KvIdeal.nD Cert.KvIdeal.τ).loc Cert.KvIdeal.main_v4_2) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.RefKvIdeal.defs (F := Ideal)) (onTc (τ := Cert.RefKvIdeal.τ) (Cert.RefKvIdeal.main (F := Ideal))) ⟨m', fun _ => 0, g'⟩ (fun r => ∀ c : Dev Cert.RefKvIdeal.nD,
          r.2.mem ((c.tc : Thread Cert.RefKvIdeal.nD Cert.RefKvIdeal.τ).loc Cert.RefKvIdeal.main_v22) = v0 c
          ∧ r.2.mem ((c.tc : Thread Cert.RefKvIdeal.nD Cert.RefKvIdeal.τ).loc Cert.RefKvIdeal.main_v24) = v1 c
          ∧ r.2.mem ((c.tc : Thread Cert.RefKvIdeal.nD Cert.RefKvIdeal.τ).loc Cert.RefKvIdeal.main_v25) = v2 c
          ∧ r.2.mem ((c.tc : Thread Cert.RefKvIdeal.nD Cert.RefKvIdeal.τ).loc Cert.RefKvIdeal.main_v29) = v3 c
          ∧ r.2.mem ((c.tc : Thread Cert.RefKvIdeal.nD Cert.RefKvIdeal.τ).loc Cert.RefKvIdeal.main_arg0) = m' ((c.tc : Thread Cert.RefKvIdeal.nD Cert.RefKvIdeal.τ).loc Cert.RefKvIdeal.main_arg0)
          ∧ r.2.mem ((c.tc : Thread Cert.RefKvIdeal.nD Cert.RefKvIdeal.τ).loc Cert.RefKvIdeal.main_arg1) = m' ((c.tc : Thread Cert.RefKvIdeal.nD Cert.RefKvIdeal.τ).loc Cert.RefKvIdeal.main_arg1)
          ∧ r.2.mem ((c.tc : Thread Cert.RefKvIdeal.nD Cert.RefKvIdeal.τ).loc Cert.RefKvIdeal.main_arg2) = m' ((c.tc : Thread Cert.RefKvIdeal.nD Cert.RefKvIdeal.τ).loc Cert.RefKvIdeal.main_arg2)
          ∧ r.2.mem ((c.tc : Thread Cert.RefKvIdeal.nD Cert.RefKvIdeal.τ).loc Cert.RefKvIdeal.main_arg3) = m' ((c.tc : Thread Cert.RefKvIdeal.nD Cert.RefKvIdeal.τ).loc Cert.RefKvIdeal.main_arg3))

def preserves_CacheKv_CacheKvIdeal : Prop :=
  True

def algebraic_CacheKvIdeal_RefCacheKvIdeal [hCacheKvIdeal : Cert.CacheKvIdeal.Facts] [hRefCacheKvIdeal : Cert.RefCacheKvIdeal.Facts] : Prop :=
  ∀ (m : (ℓ : Loc Cert.CacheKvIdeal.nD Cert.CacheKvIdeal.τ Cert.CacheKvIdeal.sig) → Buf (Elt Ideal) ℓ) (g : Dev Cert.CacheKvIdeal.nD → PrngReg)
    (m' : (ℓ : Loc Cert.RefCacheKvIdeal.nD Cert.RefCacheKvIdeal.τ Cert.RefCacheKvIdeal.sig) → Buf (Elt Ideal) ℓ) (g' : Dev Cert.RefCacheKvIdeal.nD → PrngReg), Pre_CacheKvIdeal m →
    (∀ c : Dev Cert.CacheKvIdeal.nD,
      m' ((c.tc : Thread Cert.RefCacheKvIdeal.nD Cert.RefCacheKvIdeal.τ).loc Cert.RefCacheKvIdeal.main_arg0) = m ((c.tc : Thread Cert.CacheKvIdeal.nD Cert.CacheKvIdeal.τ).loc Cert.CacheKvIdeal.main_arg0)
      ∧ m' ((c.tc : Thread Cert.RefCacheKvIdeal.nD Cert.RefCacheKvIdeal.τ).loc Cert.RefCacheKvIdeal.main_arg1) = m ((c.tc : Thread Cert.CacheKvIdeal.nD Cert.CacheKvIdeal.τ).loc Cert.CacheKvIdeal.main_arg1)) →
    ∃ (v0 : (c : Dev Cert.CacheKvIdeal.nD) → Buf (Elt Ideal) ((c.tc : Thread Cert.CacheKvIdeal.nD Cert.CacheKvIdeal.τ).loc Cert.CacheKvIdeal.main_v0)),
      θ_run (Cert.CacheKvIdeal.defs (F := Ideal)) (onTc (τ := Cert.CacheKvIdeal.τ) (Cert.CacheKvIdeal.main (F := Ideal))) ⟨m, fun _ => 0, g⟩ (fun r => ∀ c : Dev Cert.CacheKvIdeal.nD,
          r.2.mem ((c.tc : Thread Cert.CacheKvIdeal.nD Cert.CacheKvIdeal.τ).loc Cert.CacheKvIdeal.main_v0) = v0 c
          ∧ r.2.mem ((c.tc : Thread Cert.CacheKvIdeal.nD Cert.CacheKvIdeal.τ).loc Cert.CacheKvIdeal.main_arg0) = m ((c.tc : Thread Cert.CacheKvIdeal.nD Cert.CacheKvIdeal.τ).loc Cert.CacheKvIdeal.main_arg0)
          ∧ r.2.mem ((c.tc : Thread Cert.CacheKvIdeal.nD Cert.CacheKvIdeal.τ).loc Cert.CacheKvIdeal.main_arg1) = m ((c.tc : Thread Cert.CacheKvIdeal.nD Cert.CacheKvIdeal.τ).loc Cert.CacheKvIdeal.main_arg1))
      ∧ θ_run (Cert.RefCacheKvIdeal.defs (F := Ideal)) (onTc (τ := Cert.RefCacheKvIdeal.τ) (Cert.RefCacheKvIdeal.main (F := Ideal))) ⟨m', fun _ => 0, g'⟩ (fun r => ∀ c : Dev Cert.RefCacheKvIdeal.nD,
          r.2.mem ((c.tc : Thread Cert.RefCacheKvIdeal.nD Cert.RefCacheKvIdeal.τ).loc Cert.RefCacheKvIdeal.main_v6) = v0 c
          ∧ r.2.mem ((c.tc : Thread Cert.RefCacheKvIdeal.nD Cert.RefCacheKvIdeal.τ).loc Cert.RefCacheKvIdeal.main_arg0) = m' ((c.tc : Thread Cert.RefCacheKvIdeal.nD Cert.RefCacheKvIdeal.τ).loc Cert.RefCacheKvIdeal.main_arg0)
          ∧ r.2.mem ((c.tc : Thread Cert.RefCacheKvIdeal.nD Cert.RefCacheKvIdeal.τ).loc Cert.RefCacheKvIdeal.main_arg1) = m' ((c.tc : Thread Cert.RefCacheKvIdeal.nD Cert.RefCacheKvIdeal.τ).loc Cert.RefCacheKvIdeal.main_arg1))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)
      ∧ m' ((c.tc : Thread Cert.RefNormIdeal.nD Cert.RefNormIdeal.τ).loc Cert.RefNormIdeal.main_arg2) = m ((c.tc : Thread Cert.NormIdeal.nD Cert.NormIdeal.τ).loc Cert.NormIdeal.main_arg2)
      ∧ m' ((c.tc : Thread Cert.RefNormIdeal.nD Cert.RefNormIdeal.τ).loc Cert.RefNormIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v37) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1)
          ∧ r.2.mem ((c.tc : Thread Cert.RefNormIdeal.nD Cert.RefNormIdeal.τ).loc Cert.RefNormIdeal.main_arg2) = m' ((c.tc : Thread Cert.RefNormIdeal.nD Cert.RefNormIdeal.τ).loc Cert.RefNormIdeal.main_arg2)
          ∧ r.2.mem ((c.tc : Thread Cert.RefNormIdeal.nD Cert.RefNormIdeal.τ).loc Cert.RefNormIdeal.main_arg3) = m' ((c.tc : Thread Cert.RefNormIdeal.nD Cert.RefNormIdeal.τ).loc Cert.RefNormIdeal.main_arg3))

def preserves_FinalP_FinalPIdeal : Prop :=
  True

def algebraic_FinalPIdeal_RefFinalPIdeal [hFinalPIdeal : Cert.FinalPIdeal.Facts] [hRefFinalPIdeal : Cert.RefFinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.RefFinalPIdeal.nD Cert.RefFinalPIdeal.τ Cert.RefFinalPIdeal.sig) → Buf (Elt Ideal) ℓ) (g' : Dev Cert.RefFinalPIdeal.nD → PrngReg), Pre_FinalPIdeal m →
    (∀ c : Dev Cert.FinalPIdeal.nD,
      m' ((c.tc : Thread Cert.RefFinalPIdeal.nD Cert.RefFinalPIdeal.τ).loc Cert.RefFinalPIdeal.main_arg0) = m ((c.tc : Thread Cert.FinalPIdeal.nD Cert.FinalPIdeal.τ).loc Cert.FinalPIdeal.main_arg0)
      ∧ m' ((c.tc : Thread Cert.RefFinalPIdeal.nD Cert.RefFinalPIdeal.τ).loc Cert.RefFinalPIdeal.main_arg1) = m ((c.tc : Thread Cert.FinalPIdeal.nD Cert.FinalPIdeal.τ).loc Cert.FinalPIdeal.main_arg1)) →
    ∃ (v0 : (c : Dev Cert.FinalPIdeal.nD) → Buf (Elt Ideal) ((c.tc : Thread Cert.FinalPIdeal.nD Cert.FinalPIdeal.τ).loc Cert.FinalPIdeal.main_v2)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v2) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1))
      ∧ θ_run (Cert.RefFinalPIdeal.defs (F := Ideal)) (onTc (τ := Cert.RefFinalPIdeal.τ) (Cert.RefFinalPIdeal.main (F := Ideal))) ⟨m', fun _ => 0, g'⟩ (fun r => ∀ c : Dev Cert.RefFinalPIdeal.nD,
          r.2.mem ((c.tc : Thread Cert.RefFinalPIdeal.nD Cert.RefFinalPIdeal.τ).loc Cert.RefFinalPIdeal.main_v14) = v0 c
          ∧ r.2.mem ((c.tc : Thread Cert.RefFinalPIdeal.nD Cert.RefFinalPIdeal.τ).loc Cert.RefFinalPIdeal.main_arg0) = m' ((c.tc : Thread Cert.RefFinalPIdeal.nD Cert.RefFinalPIdeal.τ).loc Cert.RefFinalPIdeal.main_arg0)
          ∧ r.2.mem ((c.tc : Thread Cert.RefFinalPIdeal.nD Cert.RefFinalPIdeal.τ).loc Cert.RefFinalPIdeal.main_arg1) = m' ((c.tc : Thread Cert.RefFinalPIdeal.nD Cert.RefFinalPIdeal.τ).loc Cert.RefFinalPIdeal.main_arg1))

def preserves_FinalS_FinalSIdeal : Prop :=
  True

def algebraic_FinalSIdeal_RefFinalSIdeal [hFinalSIdeal : Cert.FinalSIdeal.Facts] [hRefFinalSIdeal : Cert.RefFinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.RefFinalSIdeal.nD Cert.RefFinalSIdeal.τ Cert.RefFinalSIdeal.sig) → Buf (Elt Ideal) ℓ) (g' : Dev Cert.RefFinalSIdeal.nD → PrngReg), Pre_FinalSIdeal m →
    (∀ c : Dev Cert.FinalSIdeal.nD,
      m' ((c.tc : Thread Cert.RefFinalSIdeal.nD Cert.RefFinalSIdeal.τ).loc Cert.RefFinalSIdeal.main_arg0) = m ((c.tc : Thread Cert.FinalSIdeal.nD Cert.FinalSIdeal.τ).loc Cert.FinalSIdeal.main_arg0)
      ∧ m' ((c.tc : Thread Cert.RefFinalSIdeal.nD Cert.RefFinalSIdeal.τ).loc Cert.RefFinalSIdeal.main_arg1) = m ((c.tc : Thread Cert.FinalSIdeal.nD Cert.FinalSIdeal.τ).loc Cert.FinalSIdeal.main_arg1)) →
    ∃ (v0 : (c : Dev Cert.FinalSIdeal.nD) → Buf (Elt Ideal) ((c.tc : Thread Cert.FinalSIdeal.nD Cert.FinalSIdeal.τ).loc Cert.FinalSIdeal.main_v2)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v2) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ θ_run (Cert.RefFinalSIdeal.defs (F := Ideal)) (onTc (τ := Cert.RefFinalSIdeal.τ) (Cert.RefFinalSIdeal.main (F := Ideal))) ⟨m', fun _ => 0, g'⟩ (fun r => ∀ c : Dev Cert.RefFinalSIdeal.nD,
          r.2.mem ((c.tc : Thread Cert.RefFinalSIdeal.nD Cert.RefFinalSIdeal.τ).loc Cert.RefFinalSIdeal.main_v14) = v0 c
          ∧ r.2.mem ((c.tc : Thread Cert.RefFinalSIdeal.nD Cert.RefFinalSIdeal.τ).loc Cert.RefFinalSIdeal.main_arg0) = m' ((c.tc : Thread Cert.RefFinalSIdeal.nD Cert.RefFinalSIdeal.τ).loc Cert.RefFinalSIdeal.main_arg0)
          ∧ r.2.mem ((c.tc : Thread Cert.RefFinalSIdeal.nD Cert.RefFinalSIdeal.τ).loc Cert.RefFinalSIdeal.main_arg1) = m' ((c.tc : Thread Cert.RefFinalSIdeal.nD Cert.RefFinalSIdeal.τ).loc Cert.RefFinalSIdeal.main_arg1))

def preserves_Modu_ModuIdeal : Prop :=
  True

def algebraic_ModuIdeal_RefModuIdeal [hModuIdeal : Cert.ModuIdeal.Facts] [hRefModuIdeal : Cert.RefModuIdeal.Facts] : Prop :=
  ∀ (m : (ℓ : Loc Cert.ModuIdeal.nD Cert.ModuIdeal.τ Cert.ModuIdeal.sig) → Buf (Elt Ideal) ℓ) (g : Dev Cert.ModuIdeal.nD → PrngReg)
    (m' : (ℓ : Loc Cert.RefModuIdeal.nD Cert.RefModuIdeal.τ Cert.RefModuIdeal.sig) → Buf (Elt Ideal) ℓ) (g' : Dev Cert.RefModuIdeal.nD → PrngReg), Pre_ModuIdeal m →
    (∀ c : Dev Cert.ModuIdeal.nD,
      m' ((c.tc : Thread Cert.RefModuIdeal.nD Cert.RefModuIdeal.τ).loc Cert.RefModuIdeal.main_arg0) = m ((c.tc : Thread Cert.ModuIdeal.nD Cert.ModuIdeal.τ).loc Cert.ModuIdeal.main_arg0)
      ∧ m' ((c.tc : Thread Cert.RefModuIdeal.nD Cert.RefModuIdeal.τ).loc Cert.RefModuIdeal.main_arg1) = m ((c.tc : Thread Cert.ModuIdeal.nD Cert.ModuIdeal.τ).loc Cert.ModuIdeal.main_arg1)
      ∧ m' ((c.tc : Thread Cert.RefModuIdeal.nD Cert.RefModuIdeal.τ).loc Cert.RefModuIdeal.main_arg2) = m ((c.tc : Thread Cert.ModuIdeal.nD Cert.ModuIdeal.τ).loc Cert.ModuIdeal.main_arg2)
      ∧ m' ((c.tc : Thread Cert.RefModuIdeal.nD Cert.RefModuIdeal.τ).loc Cert.RefModuIdeal.main_arg3) = m ((c.tc : Thread Cert.ModuIdeal.nD Cert.ModuIdeal.τ).loc Cert.ModuIdeal.main_arg3)) →
    ∃ (v0 : (c : Dev Cert.ModuIdeal.nD) → Buf (Elt Ideal) ((c.tc : Thread Cert.ModuIdeal.nD Cert.ModuIdeal.τ).loc Cert.ModuIdeal.main_v6)),
      θ_run (Cert.ModuIdeal.defs (F := Ideal)) (onTc (τ := Cert.ModuIdeal.τ) (Cert.ModuIdeal.main (F := Ideal))) ⟨m, fun _ => 0, g⟩ (fun r => ∀ c : Dev Cert.ModuIdeal.nD,
          r.2.mem ((c.tc : Thread Cert.ModuIdeal.nD Cert.ModuIdeal.τ).loc Cert.ModuIdeal.main_v6) = v0 c
          ∧ r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
          ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
          ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2)
          ∧ r.2.mem ((c.tc : Thread Cert.ModuIdeal.nD Cert.ModuIdeal.τ).loc Cert.ModuIdeal.main_arg3) = m ((c.tc : Thread Cert.ModuIdeal.nD Cert.ModuIdeal.τ).loc Cert.ModuIdeal.main_arg3))
      ∧ θ_run (Cert.RefModuIdeal.defs (F := Ideal)) (onTc (τ := Cert.RefModuIdeal.τ) (Cert.RefModuIdeal.main (F := Ideal))) ⟨m', fun _ => 0, g'⟩ (fun r => ∀ c : Dev Cert.RefModuIdeal.nD,
          r.2.mem ((c.tc : Thread Cert.RefModuIdeal.nD Cert.RefModuIdeal.τ).loc Cert.RefModuIdeal.main_v16) = v0 c
          ∧ r.2.mem ((c.tc : Thread Cert.RefModuIdeal.nD Cert.RefModuIdeal.τ).loc Cert.RefModuIdeal.main_arg0) = m' ((c.tc : Thread Cert.RefModuIdeal.nD Cert.RefModuIdeal.τ).loc Cert.RefModuIdeal.main_arg0)
          ∧ r.2.mem ((c.tc : Thread Cert.RefModuIdeal.nD Cert.RefModuIdeal.τ).loc Cert.RefModuIdeal.main_arg1) = m' ((c.tc : Thread Cert.RefModuIdeal.nD Cert.RefModuIdeal.τ).loc Cert.RefModuIdeal.main_arg1)
          ∧ r.2.mem ((c.tc : Thread Cert.RefModuIdeal.nD Cert.RefModuIdeal.τ).loc Cert.RefModuIdeal.main_arg2) = m' ((c.tc : Thread Cert.RefModuIdeal.nD Cert.RefModuIdeal.τ).loc Cert.RefModuIdeal.main_arg2)
          ∧ r.2.mem ((c.tc : Thread Cert.RefModuIdeal.nD Cert.RefModuIdeal.τ).loc Cert.RefModuIdeal.main_arg3) = m' ((c.tc : Thread Cert.RefModuIdeal.nD Cert.RefModuIdeal.τ).loc Cert.RefModuIdeal.main_arg3))

def preserves_Attn_AttnIdeal : Prop :=
  IdealRules.named_const.Statement Cert.AttnIdeal.κ "scale_log2" .f32 0x3DD53B95#32 (((Real.sqrt 192)⁻¹ * (Real.log 2)⁻¹ : ℝ) : EReal)

def algebraic_AttnIdeal_RefAttnIdeal_pre_finite_scores [hAttnIdeal : Cert.AttnIdeal.Facts] [hRefAttnIdeal : Cert.RefAttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite_scores m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)
      ∧ m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3)
      ∧ m' ((c.tc : Thread Cert.RefAttnIdeal.nD Cert.RefAttnIdeal.τ).loc Cert.RefAttnIdeal.main_arg4) = m ((c.tc : Thread Cert.AttnIdeal.nD Cert.AttnIdeal.τ).loc Cert.AttnIdeal.main_arg4)
      ∧ m' ((c.tc : Thread Cert.RefAttnIdeal.nD Cert.RefAttnIdeal.τ).loc Cert.RefAttnIdeal.main_arg5) = m ((c.tc : Thread Cert.AttnIdeal.nD Cert.AttnIdeal.τ).loc Cert.AttnIdeal.main_arg5)
      ∧ m' ((c.tc : Thread Cert.RefAttnIdeal.nD Cert.RefAttnIdeal.τ).loc Cert.RefAttnIdeal.main_arg6) = m ((c.tc : Thread Cert.AttnIdeal.nD Cert.AttnIdeal.τ).loc Cert.AttnIdeal.main_arg6)
      ∧ m' ((c.tc : Thread Cert.RefAttnIdeal.nD Cert.RefAttnIdeal.τ).loc Cert.RefAttnIdeal.main_arg7) = m ((c.tc : Thread Cert.AttnIdeal.nD Cert.AttnIdeal.τ).loc Cert.AttnIdeal.main_arg7)
      ∧ m' ((c.tc : Thread Cert.RefAttnIdeal.nD Cert.RefAttnIdeal.τ).loc Cert.RefAttnIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v19)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v19) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v160) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2)
          ∧ r.2.mem ((c.tc : Thread Cert.RefAttnIdeal.nD Cert.RefAttnIdeal.τ).loc Cert.RefAttnIdeal.main_arg3) = m' ((c.tc : Thread Cert.RefAttnIdeal.nD Cert.RefAttnIdeal.τ).loc Cert.RefAttnIdeal.main_arg3)
          ∧ r.2.mem ((c.tc : Thread Cert.RefAttnIdeal.nD Cert.RefAttnIdeal.τ).loc Cert.RefAttnIdeal.main_arg4) = m' ((c.tc : Thread Cert.RefAttnIdeal.nD Cert.RefAttnIdeal.τ).loc Cert.RefAttnIdeal.main_arg4)
          ∧ r.2.mem ((c.tc : Thread Cert.RefAttnIdeal.nD Cert.RefAttnIdeal.τ).loc Cert.RefAttnIdeal.main_arg5) = m' ((c.tc : Thread Cert.RefAttnIdeal.nD Cert.RefAttnIdeal.τ).loc Cert.RefAttnIdeal.main_arg5)
          ∧ r.2.mem ((c.tc : Thread Cert.RefAttnIdeal.nD Cert.RefAttnIdeal.τ).loc Cert.RefAttnIdeal.main_arg6) = m' ((c.tc : Thread Cert.RefAttnIdeal.nD Cert.RefAttnIdeal.τ).loc Cert.RefAttnIdeal.main_arg6)
          ∧ r.2.mem ((c.tc : Thread Cert.RefAttnIdeal.nD Cert.RefAttnIdeal.τ).loc Cert.RefAttnIdeal.main_arg7) = m' ((c.tc : Thread Cert.RefAttnIdeal.nD Cert.RefAttnIdeal.τ).loc Cert.RefAttnIdeal.main_arg7)
          ∧ r.2.mem ((c.tc : Thread Cert.RefAttnIdeal.nD Cert.RefAttnIdeal.τ).loc Cert.RefAttnIdeal.main_arg8) = m' ((c.tc : Thread Cert.RefAttnIdeal.nD Cert.RefAttnIdeal.τ).loc Cert.RefAttnIdeal.main_arg8))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hMerge : Cert.Merge.Facts) (hMergeIdeal : Cert.MergeIdeal.Facts) (hRefMergeIdeal : Cert.RefMergeIdeal.Facts) (hOut : Cert.Out.Facts) (hOutIdeal : Cert.OutIdeal.Facts) (hRefOutIdeal : Cert.RefOutIdeal.Facts) (hMixA : Cert.MixA.Facts) (hMixAIdeal : Cert.MixAIdeal.Facts) (hRefMixAIdeal : Cert.RefMixAIdeal.Facts) (hQ : Cert.Q.Facts) (hQIdeal : Cert.QIdeal.Facts) (hRefQIdeal : Cert.RefQIdeal.Facts) (hKv : Cert.Kv.Facts) (hKvIdeal : Cert.KvIdeal.Facts) (hRefKvIdeal : Cert.RefKvIdeal.Facts) (hCacheKv : Cert.CacheKv.Facts) (hCacheKvIdeal : Cert.CacheKvIdeal.Facts) (hRefCacheKvIdeal : Cert.RefCacheKvIdeal.Facts) (hNorm : Cert.Norm.Facts) (hNormIdeal : Cert.NormIdeal.Facts) (hRefNormIdeal : Cert.RefNormIdeal.Facts) (hFinalP : Cert.FinalP.Facts) (hFinalPIdeal : Cert.FinalPIdeal.Facts) (hRefFinalPIdeal : Cert.RefFinalPIdeal.Facts) (hFinalS : Cert.FinalS.Facts) (hFinalSIdeal : Cert.FinalSIdeal.Facts) (hRefFinalSIdeal : Cert.RefFinalSIdeal.Facts) (hModu : Cert.Modu.Facts) (hModuIdeal : Cert.ModuIdeal.Facts) (hRefModuIdeal : Cert.RefModuIdeal.Facts) (hAttn : Cert.Attn.Facts) (hAttnIdeal : Cert.AttnIdeal.Facts) (hRefAttnIdeal : Cert.RefAttnIdeal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ quiescent_Merge (hMerge := hMerge)
    ∧ quiescent_MergeIdeal (hMergeIdeal := hMergeIdeal)
    ∧ quiescent_RefMergeIdeal (hRefMergeIdeal := hRefMergeIdeal)
    ∧ quiescent_Out (hOut := hOut)
    ∧ quiescent_OutIdeal (hOutIdeal := hOutIdeal)
    ∧ quiescent_RefOutIdeal (hRefOutIdeal := hRefOutIdeal)
    ∧ quiescent_MixA (hMixA := hMixA)
    ∧ quiescent_MixAIdeal (hMixAIdeal := hMixAIdeal)
    ∧ quiescent_RefMixAIdeal (hRefMixAIdeal := hRefMixAIdeal)
    ∧ quiescent_Q (hQ := hQ)
    ∧ quiescent_QIdeal (hQIdeal := hQIdeal)
    ∧ quiescent_RefQIdeal (hRefQIdeal := hRefQIdeal)
    ∧ quiescent_Kv (hKv := hKv)
    ∧ quiescent_KvIdeal (hKvIdeal := hKvIdeal)
    ∧ quiescent_RefKvIdeal (hRefKvIdeal := hRefKvIdeal)
    ∧ quiescent_CacheKv (hCacheKv := hCacheKv)
    ∧ quiescent_CacheKvIdeal (hCacheKvIdeal := hCacheKvIdeal)
    ∧ quiescent_RefCacheKvIdeal (hRefCacheKvIdeal := hRefCacheKvIdeal)
    ∧ quiescent_Norm (hNorm := hNorm)
    ∧ quiescent_NormIdeal (hNormIdeal := hNormIdeal)
    ∧ quiescent_RefNormIdeal (hRefNormIdeal := hRefNormIdeal)
    ∧ quiescent_FinalP (hFinalP := hFinalP)
    ∧ quiescent_FinalPIdeal (hFinalPIdeal := hFinalPIdeal)
    ∧ quiescent_RefFinalPIdeal (hRefFinalPIdeal := hRefFinalPIdeal)
    ∧ quiescent_FinalS (hFinalS := hFinalS)
    ∧ quiescent_FinalSIdeal (hFinalSIdeal := hFinalSIdeal)
    ∧ quiescent_RefFinalSIdeal (hRefFinalSIdeal := hRefFinalSIdeal)
    ∧ quiescent_Modu (hModu := hModu)
    ∧ quiescent_ModuIdeal (hModuIdeal := hModuIdeal)
    ∧ quiescent_RefModuIdeal (hRefModuIdeal := hRefModuIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_RefAttnIdeal (hRefAttnIdeal := hRefAttnIdeal)
    ∧ quiescent_RefAttnIdeal_pre_finite_scores (hRefAttnIdeal := hRefAttnIdeal) (hPre_finite_scores := hPre_finite_scores)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
    ∧ preserves_Merge_MergeIdeal
    ∧ algebraic_MergeIdeal_RefMergeIdeal (hMergeIdeal := hMergeIdeal) (hRefMergeIdeal := hRefMergeIdeal)
    ∧ preserves_Out_OutIdeal
    ∧ algebraic_OutIdeal_RefOutIdeal (hOutIdeal := hOutIdeal) (hRefOutIdeal := hRefOutIdeal)
    ∧ preserves_MixA_MixAIdeal
    ∧ algebraic_MixAIdeal_RefMixAIdeal (hMixAIdeal := hMixAIdeal) (hRefMixAIdeal := hRefMixAIdeal)
    ∧ preserves_Q_QIdeal
    ∧ algebraic_QIdeal_RefQIdeal (hQIdeal := hQIdeal) (hRefQIdeal := hRefQIdeal)
    ∧ preserves_Kv_KvIdeal
    ∧ algebraic_KvIdeal_RefKvIdeal (hKvIdeal := hKvIdeal) (hRefKvIdeal := hRefKvIdeal)
    ∧ preserves_CacheKv_CacheKvIdeal
    ∧ algebraic_CacheKvIdeal_RefCacheKvIdeal (hCacheKvIdeal := hCacheKvIdeal) (hRefCacheKvIdeal := hRefCacheKvIdeal)
    ∧ preserves_Norm_NormIdeal
    ∧ algebraic_NormIdeal_RefNormIdeal (hNormIdeal := hNormIdeal) (hRefNormIdeal := hRefNormIdeal)
    ∧ preserves_FinalP_FinalPIdeal
    ∧ algebraic_FinalPIdeal_RefFinalPIdeal (hFinalPIdeal := hFinalPIdeal) (hRefFinalPIdeal := hRefFinalPIdeal)
    ∧ preserves_FinalS_FinalSIdeal
    ∧ algebraic_FinalSIdeal_RefFinalSIdeal (hFinalSIdeal := hFinalSIdeal) (hRefFinalSIdeal := hRefFinalSIdeal)
    ∧ preserves_Modu_ModuIdeal
    ∧ algebraic_ModuIdeal_RefModuIdeal (hModuIdeal := hModuIdeal) (hRefModuIdeal := hRefModuIdeal)
    ∧ preserves_Attn_AttnIdeal
    ∧ algebraic_AttnIdeal_RefAttnIdeal_pre_finite_scores (hAttnIdeal := hAttnIdeal) (hRefAttnIdeal := hRefAttnIdeal) (hPre_finite_scores := hPre_finite_scores)
-- ==== Pre_finite_scores.lean ====
abbrev S6144x3072 : Shape := ⟨2, ![6144, 3072]⟩
abbrev S6144x4096 : Shape := ⟨2, ![6144, 4096]⟩
abbrev S6144x128 : Shape := ⟨2, ![6144, 128]⟩
abbrev S512x4096 : Shape := ⟨2, ![512, 4096]⟩
abbrev S2x2x256x64 : Shape := ⟨4, ![2, 2, 256, 64]⟩
abbrev S1024x16 : Shape := ⟨2, ![1024, 16]⟩
abbrev S6144x16x256 : Shape := ⟨3, ![6144, 16, 256]⟩
abbrev S6144x16x128 : Shape := ⟨3, ![6144, 16, 128]⟩
abbrev S512x16x256 : Shape := ⟨3, ![512, 16, 256]⟩
abbrev S512x16x128 : Shape := ⟨3, ![512, 16, 128]⟩
abbrev S6144x64 : Shape := ⟨2, ![6144, 64]⟩
abbrev S2x1x256x64 : Shape := ⟨4, ![2, 1, 256, 64]⟩
abbrev S2x256x64 : Shape := ⟨3, ![2, 256, 64]⟩
abbrev S_ : Shape := ⟨0, ![]⟩

class Facts : Prop where
  bitsLt_bf16_f32 : FTy.bits .bf16 < FTy.bits .f32
  shapeCasts_S6144x4096_S6144x16x256 : S6144x4096.ShapeCasts S6144x16x256
  slices_S6144x16x256_S6144x16x128_0_0_0 : S6144x16x256.Slices ![0, 0, 0] S6144x16x128
  shapeCasts_S512x4096_S512x16x256 : S512x4096.ShapeCasts S512x16x256
  slices_S512x16x256_S512x16x128_0_0_0 : S512x16x256.Slices ![0, 0, 0] S512x16x128
  slices_S6144x128_S6144x64_0_0 : S6144x128.Slices ![0, 0] S6144x64
  slices_S2x2x256x64_S2x1x256x64_0_1_0_0 : S2x2x256x64.Slices ![0, 1, 0, 0] S2x1x256x64
  shapeCasts_S2x1x256x64_S2x256x64 : S2x1x256x64.ShapeCasts S2x256x64
  bcast_S_S6144x3072 : S_.BroadcastsInDim S6144x3072 (![] : Fin 0 → Fin S6144x3072.rank)
  bcast_S_S6144x16x128 : S_.BroadcastsInDim S6144x16x128 (![] : Fin 0 → Fin S6144x16x128.rank)
  bcast_S_S6144x64 : S_.BroadcastsInDim S6144x64 (![] : Fin 0 → Fin S6144x64.rank)
  bcast_S_S512x16x128 : S_.BroadcastsInDim S512x16x128 (![] : Fin 0 → Fin S512x16x128.rank)
  bcast_S_S2x256x64 : S_.BroadcastsInDim S2x256x64 (![] : Fin 0 → Fin S2x256x64.rank)
  bcast_S_S1024x16 : S_.BroadcastsInDim S1024x16 (![] : Fin 0 → Fin S1024x16.rank)

variable [Facts]

def fn_part1 {F : FTy → Type} [FloatOps F] (main_arg5 : FVec F S1024x16 .f32) (main_arg6 : FVec F S1024x16 .f32) (main_arg7 : FVec F S1024x16 .f32) (main_arg8 : FVec F S1024x16 .f32) (main_v9 : FVec F S2x256x64 .f32) (main_v12 : IVec S6144x3072 1) (main_v15 : IVec S6144x16x128 1) (main_v18 : IVec S6144x64 1) (main_v19 : FVec F S512x16x128 .f32) (main_cst_2 : FVec F S_ .f32) : IVec S6144x3072 1 × IVec S6144x16x128 1 × IVec S6144x64 1 × IVec S512x16x128 1 × IVec S2x256x64 1 × IVec S1024x16 1 × IVec S1024x16 1 × IVec S1024x16 1 × IVec S1024x16 1 :=
  let main_v20 : FVec F S512x16x128 .f32 := broadcastInDim S512x16x128 ![] bcast_S_S512x16x128 main_cst_2
  let main_v21 : IVec S512x16x128 1 := cmpf .olt main_v19 main_v20
  let main_v22 : FVec F S2x256x64 .f32 := Host.absf main_v9
  let main_cst_3 : FVec F S_ .f32 := constant S_ .f32 0x7F800000#32
  let main_v23 : FVec F S2x256x64 .f32 := broadcastInDim S2x256x64 ![] bcast_S_S2x256x64 main_cst_3
  let main_v24 : IVec S2x256x64 1 := cmpf .olt main_v22 main_v23
  let main_v25 : FVec F S1024x16 .f32 := Host.absf main_arg5
  let main_cst_4 : FVec F S_ .f32 := constant S_ .f32 0x7F800000#32
  let main_v26 : FVec F S1024x16 .f32 := broadcastInDim S1024x16 ![] bcast_S_S1024x16 main_cst_4
  let main_v27 : IVec S1024x16 1 := cmpf .olt main_v25 main_v26
  let main_v28 : FVec F S1024x16 .f32 := Host.absf main_arg6
  let main_cst_5 : FVec F S_ .f32 := constant S_ .f32 0x7F800000#32
  let main_v29 : FVec F S1024x16 .f32 := broadcastInDim S1024x16 ![] bcast_S_S1024x16 main_cst_5
  let main_v30 : IVec S1024x16 1 := cmpf .olt main_v28 main_v29
  let main_v31 : FVec F S1024x16 .f32 := Host.absf main_arg7
  let main_cst_6 : FVec F S_ .f32 := constant S_ .f32 0x7F800000#32
  let main_v32 : FVec F S1024x16 .f32 := broadcastInDim S1024x16 ![] bcast_S_S1024x16 main_cst_6
  let main_v33 : IVec S1024x16 1 := cmpf .olt main_v31 main_v32
  let main_v34 : FVec F S1024x16 .f32 := Host.absf main_arg8
  let main_cst_7 : FVec F S_ .f32 := constant S_ .f32 0x7F800000#32
  let main_v35 : FVec F S1024x16 .f32 := broadcastInDim S1024x16 ![] bcast_S_S1024x16 main_cst_7
  let main_v36 : IVec S1024x16 1 := cmpf .olt main_v34 main_v35
  (main_v12, main_v15, main_v18, main_v21, main_v24, main_v27, main_v30, main_v33, main_v36)

def fn {F : FTy → Type} [FloatOps F] (main_arg0 : FVec F S6144x3072 .bf16) (main_arg1 : FVec F S6144x4096 .bf16) (main_arg2 : FVec F S6144x128 .f32) (main_arg3 : FVec F S512x4096 .bf16) (main_arg4 : FVec F S2x2x256x64 .f32) (main_arg5 : FVec F S1024x16 .f32) (main_arg6 : FVec F S1024x16 .f32) (main_arg7 : FVec F S1024x16 .f32) (main_arg8 : FVec F S1024x16 .f32) : IVec S6144x3072 1 × IVec S6144x16x128 1 × IVec S6144x64 1 × IVec S512x16x128 1 × IVec S2x256x64 1 × IVec S1024x16 1 × IVec S1024x16 1 × IVec S1024x16 1 × IVec S1024x16 1 :=
  let main_v0 : FVec F S6144x4096 .f32 := (extf .f32 · bitsLt_bf16_f32) main_arg1
  let main_v1 : FVec F S6144x16x256 .f32 := shapeCast S6144x16x256 main_v0 shapeCasts_S6144x4096_S6144x16x256
  let main_v2 : FVec F S6144x16x128 .f32 := (extractStridedSlice S6144x16x128 ![0, 0, 0] · slices_S6144x16x256_S6144x16x128_0_0_0) main_v1
  let main_v3 : FVec F S512x4096 .f32 := (extf .f32 · bitsLt_bf16_f32) main_arg3
  let main_v4 : FVec F S512x16x256 .f32 := shapeCast S512x16x256 main_v3 shapeCasts_S512x4096_S512x16x256
  let main_v5 : FVec F S512x16x128 .f32 := (extractStridedSlice S512x16x128 ![0, 0, 0] · slices_S512x16x256_S512x16x128_0_0_0) main_v4
  let main_v6 : FVec F S6144x3072 .f32 := (extf .f32 · bitsLt_bf16_f32) main_arg0
  let main_v7 : FVec F S6144x64 .f32 := (extractStridedSlice S6144x64 ![0, 0] · slices_S6144x128_S6144x64_0_0) main_arg2
  let main_v8 : FVec F S2x1x256x64 .f32 := (extractStridedSlice S2x1x256x64 ![0, 1, 0, 0] · slices_S2x2x256x64_S2x1x256x64_0_1_0_0) main_arg4
  let main_v9 : FVec F S2x256x64 .f32 := shapeCast S2x256x64 main_v8 shapeCasts_S2x1x256x64_S2x256x64
  let main_v10 : FVec F S6144x3072 .f32 := Host.absf main_v6
  let main_cst : FVec F S_ .f32 := constant S_ .f32 0x7F800000#32
  let main_v11 : FVec F S6144x3072 .f32 := broadcastInDim S6144x3072 ![] bcast_S_S6144x3072 main_cst
  let main_v12 : IVec S6144x3072 1 := cmpf .olt main_v10 main_v11
  let main_v13 : FVec F S6144x16x128 .f32 := Host.absf main_v2
  let main_cst_0 : FVec F S_ .f32 := constant S_ .f32 0x7F800000#32
  let main_v14 : FVec F S6144x16x128 .f32 := broadcastInDim S6144x16x128 ![] bcast_S_S6144x16x128 main_cst_0
  let main_v15 : IVec S6144x16x128 1 := cmpf .olt main_v13 main_v14
  let main_v16 : FVec F S6144x64 .f32 := Host.absf main_v7
  let main_cst_1 : FVec F S_ .f32 := constant S_ .f32 0x7F800000#32
  let main_v17 : FVec F S6144x64 .f32 := broadcastInDim S6144x64 ![] bcast_S_S6144x64 main_cst_1
  let main_v18 : IVec S6144x64 1 := cmpf .olt main_v16 main_v17
  let main_v19 : FVec F S512x16x128 .f32 := Host.absf main_v5
  let main_cst_2 : FVec F S_ .f32 := constant S_ .f32 0x7F800000#32
  fn_part1 (F := F) main_arg5 main_arg6 main_arg7 main_arg8 main_v9 main_v12 main_v15 main_v18 main_v19 main_cst_2
-- ==== Kernel.lean ====
abbrev S6144x2048 : Shape := ⟨2, ![6144, 2048]⟩
abbrev S2x2048x12608 : Shape := ⟨3, ![2, 2048, 12608]⟩
abbrev S2x12608x2048 : Shape := ⟨3, ![2, 12608, 2048]⟩
abbrev S25216x2048 : Shape := ⟨2, ![25216, 2048]⟩
abbrev S6144x8192 : Shape := ⟨2, ![6144, 8192]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S2x2048x12608, .f32⟩
  | .hbm, ⟨2, _⟩ => ⟨S2x12608x2048, .f32⟩
  | .hbm, ⟨3, _⟩ => ⟨S25216x2048, .f32⟩
  | .hbm, ⟨4, _⟩ => ⟨S6144x8192, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def k0_mult1 (i : grid0.Coords) : BitVec 32 :=
  let c17024_i32 : BitVec 32 := 17024#32
  let arg1 : BitVec 32 := BitVec.ofNat 32 (i 1).val
  let c512_i32 : BitVec 32 := 512#32
  let v0 : BitVec 32 := Scalar.muli arg1 c512_i32
  let v1 : BitVec 32 := Scalar.addi c17024_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c17024_i32 : BitVec 32 := 17024#32
  let v1 : BitVec 32 := Scalar.addi c17024_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S6144x2048 : Shape := ⟨2, ![6144, 2048]⟩
abbrev S2x2048x12608 : Shape := ⟨3, ![2, 2048, 12608]⟩
abbrev S1x2048x12608 : Shape := ⟨3, ![1, 2048, 12608]⟩
abbrev S2048x12608 : Shape := ⟨2, ![2048, 12608]⟩
abbrev S6144x12608 : Shape := ⟨2, ![6144, 12608]⟩
abbrev S6144x8192 : Shape := ⟨2, ![6144, 8192]⟩

abbrev nBuf : Space → Nat
  | .hbm => 8
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x12608, .f32⟩
  | .hbm, ⟨2, _⟩ => ⟨S6144x2048, .f32⟩
  | .hbm, ⟨3, _⟩ => ⟨S1x2048x12608, .f32⟩
  | .hbm, ⟨4, _⟩ => ⟨S2048x12608, .f32⟩
  | .hbm, ⟨5, _⟩ => ⟨S6144x12608, .f32⟩
  | .hbm, ⟨6, _⟩ => ⟨S6144x8192, .f32⟩
  | .hbm, ⟨7, _⟩ => ⟨S6144x8192, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Up.lean ====
abbrev S6144x2048 : Shape := ⟨2, ![6144, 2048]⟩
abbrev S2x2048x11264 : Shape := ⟨3, ![2, 2048, 11264]⟩
abbrev S2x3x11264 : Shape := ⟨3, ![2, 3, 11264]⟩
abbrev S6144x5632 : Shape := ⟨2, ![6144, 5632]⟩
abbrev S1024x2048 : Shape := ⟨2, ![1024, 2048]⟩
abbrev S1x2048x512 : Shape := ⟨3, ![1, 2048, 512]⟩
abbrev S1x3x512 : Shape := ⟨3, ![1, 3, 512]⟩
abbrev S1024x512 : Shape := ⟨2, ![1024, 512]⟩
abbrev S2048x512 : Shape := ⟨2, ![2048, 512]⟩
abbrev S3x512 : Shape := ⟨2, ![3, 512]⟩
abbrev S8x512 : Shape := ⟨2, ![8, 512]⟩
abbrev S256x512 : Shape := ⟨2, ![256, 512]⟩
abbrev S248x512 : Shape := ⟨2, ![248, 512]⟩
abbrev S1x512 : Shape := ⟨2, ![1, 512]⟩

abbrev nBuf : Space → Nat
  | .hbm => 4
  | .vmem => 12
  | .smem => 0
  | _ => 0

abbrev bufTy : (tb : Table) → Fin (tcTables nBuf tb) → BufTy
  | .hbm, ⟨0, _⟩ => ⟨S6144x2048, .bf16⟩
  | .hbm, ⟨1, _⟩ => ⟨S2x2048x11264, .f32⟩
  | .hbm, ⟨2, _⟩ => ⟨S2x3x11264, .f32⟩
  | .hbm, ⟨3, _⟩ => ⟨S6144x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1024x512, .bf16⟩
  | .local _ .vmem, ⟨11, _⟩ => ⟨S1024x512, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefUpIdeal.lean ====
abbrev S6144x2048 : Shape := ⟨2, ![6144, 2048]⟩
abbrev S2x2048x11264 : Shape := ⟨3, ![2, 2048, 11264]⟩
abbrev S2x3x11264 : Shape := ⟨3, ![2, 3, 11264]⟩
abbrev S1x2048x11264 : Shape := ⟨3, ![1, 2048, 11264]⟩
abbrev S2048x11264 : Shape := ⟨2, ![2048, 11264]⟩
abbrev S6144x11264 : Shape := ⟨2, ![6144, 11264]⟩
abbrev S4096x11264 : Shape := ⟨2, ![4096, 11264]⟩
abbrev S16x256x11264 : Shape := ⟨3, ![16, 256, 11264]⟩
abbrev S2x1024x11264 : Shape := ⟨3, ![2, 1024, 11264]⟩
abbrev S1x3x11264 : Shape := ⟨3, ![1, 3, 11264]⟩
abbrev S3x11264 : Shape := ⟨2, ![3, 11264]⟩
abbrev S_ : Shape := ⟨0, ![]⟩
abbrev S16x258x11264 : Shape := ⟨3, ![16, 258, 11264]⟩
abbrev S1x11264 : Shape := ⟨2, ![1, 11264]⟩
abbrev S11264 : Shape := ⟨1, ![11264]⟩
abbrev S1x1x11264 : Shape := ⟨3, ![1, 1, 11264]⟩
abbrev S2x1026x11264 : Shape := ⟨3, ![2, 1026, 11264]⟩
abbrev S6144x5632 : Shape := ⟨2, ![6144, 5632]⟩

abbrev nBuf : Space → Nat
  | .hbm => 83
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x11264, .f32⟩
  | .hbm, ⟨2, _⟩ => ⟨S2x3x11264, .f32⟩
  | .hbm, ⟨3, _⟩ => ⟨S6144x2048, .f32⟩
  | .hbm, ⟨4, _⟩ => ⟨S1x2048x11264, .f32⟩
  | .hbm, ⟨5, _⟩ => ⟨S2048x11264, .f32⟩
  | .hbm, ⟨6, _⟩ => ⟨S6144x11264, .f32⟩
  | .hbm, ⟨7, _⟩ => ⟨S4096x11264, .f32⟩
  | .hbm, ⟨8, _⟩ => ⟨S16x256x11264, .f32⟩
  | .hbm, ⟨9, _⟩ => ⟨S2048x11264, .f32⟩
  | .hbm, ⟨10, _⟩ => ⟨S2x1024x11264, .f32⟩
  | .hbm, ⟨11, _⟩ => ⟨S1x3x11264, .f32⟩
  | .hbm, ⟨12, _⟩ => ⟨S3x11264, .f32⟩
  | .hbm, ⟨13, _⟩ => ⟨S_, .i32⟩
  | .hbm, ⟨14, _⟩ => ⟨S_, .f32⟩
  | .hbm, ⟨15, _⟩ => ⟨S16x258x11264, .f32⟩
  | .hbm, ⟨16, _⟩ => ⟨S1x11264, .f32⟩
  | .hbm, ⟨17, _⟩ => ⟨S11264, .f32⟩
  | .hbm, ⟨18, _⟩ => ⟨S16x256x11264, .f32⟩
  | .hbm, ⟨19, _⟩ => ⟨S1x1x11264, .f32⟩
  | .hbm, ⟨20, _⟩ => ⟨S16x256x11264, .f32⟩
  | .hbm, ⟨21, _⟩ => ⟨S16x256x11264, .f32⟩
  | .hbm, ⟨22, _⟩ => ⟨S_, .f32⟩
  | .hbm, ⟨23, _⟩ => ⟨S16x256x11264, .f32⟩
  | .hbm, ⟨24, _⟩ => ⟨S16x256x11264, .f32⟩
  | .hbm, ⟨25, _⟩ => ⟨S1x11264, .f32⟩
  | .hbm, ⟨26, _⟩ => ⟨S11264, .f32⟩
  | .hbm, ⟨27, _⟩ => ⟨S16x256x11264, .f32⟩
  | .hbm, ⟨28, _⟩ => ⟨S1x1x11264, .f32⟩
  | .hbm, ⟨29, _⟩ => ⟨S16x256x11264, .f32⟩
  | .hbm, ⟨30, _⟩ => ⟨S16x256x11264, .f32⟩
  | .hbm, ⟨31, _⟩ => ⟨S16x256x11264, .f32⟩
  | .hbm, ⟨32, _⟩ => ⟨S1x11264, .f32⟩
  | .hbm, ⟨33, _⟩ => ⟨S11264, .f32⟩
  | .hbm, ⟨34, _⟩ => ⟨S16x256x11264, .f32⟩
  | .hbm, ⟨35, _⟩ => ⟨S1x1x11264, .f32⟩
  | .hbm, ⟨36, _⟩ => ⟨S16x256x11264, .f32⟩
  | .hbm, ⟨37, _⟩ => ⟨S16x256x11264, .f32⟩
  | .hbm, ⟨38, _⟩ => ⟨S16x256x11264, .f32⟩
  | .hbm, ⟨39, _⟩ => ⟨S1x3x11264, .f32⟩
  | .hbm, ⟨40, _⟩ => ⟨S3x11264, .f32⟩
  | .hbm, ⟨41, _⟩ => ⟨S_, .i32⟩
  | .hbm, ⟨42, _⟩ => ⟨S_, .f32⟩
  | .hbm, ⟨43, _⟩ => ⟨S2x1026x11264, .f32⟩
  | .hbm, ⟨44, _⟩ => ⟨S1x11264, .f32⟩
  | .hbm, ⟨45, _⟩ => ⟨S11264, .f32⟩
  | .hbm, ⟨46, _⟩ => ⟨S2x1024x11264, .f32⟩
  | .hbm, ⟨47, _⟩ => ⟨S1x1x11264, .f32⟩
  | .hbm, ⟨48, _⟩ => ⟨S2x1024x11264, .f32⟩
  | .hbm, ⟨49, _⟩ => ⟨S2x1024x11264, .f32⟩
  | .hbm, ⟨50, _⟩ => ⟨S_, .f32⟩
  | .hbm, ⟨51, _⟩ => ⟨S2x1024x11264, .f32⟩
  | .hbm, ⟨52, _⟩ => ⟨S2x1024x11264, .f32⟩
  | .hbm, ⟨53, _⟩ => ⟨S1x11264, .f32⟩
  | .hbm, ⟨54, _⟩ => ⟨S11264, .f32⟩
  | .hbm, ⟨55, _⟩ => ⟨S2x1024x11264, .f32⟩
  | .hbm, ⟨56, _⟩ => ⟨S1x1x11264, .f32⟩
  | .hbm, ⟨57, _⟩ => ⟨S2x1024x11264, .f32⟩
  | .hbm, ⟨58, _⟩ => ⟨S2x1024x11264, .f32⟩
  | .hbm, ⟨59, _⟩ => ⟨S2x1024x11264, .f32⟩
  | .hbm, ⟨60, _⟩ => ⟨S1x11264, .f32⟩
  | .hbm, ⟨61, _⟩ => ⟨S11264, .f32⟩
  | .hbm, ⟨62, _⟩ => ⟨S2x1024x11264, .f32⟩
  | .hbm, ⟨63, _⟩ => ⟨S1x1x11264, .f32⟩
  | .hbm, ⟨64, _⟩ => ⟨S2x1024x11264, .f32⟩
  | .hbm, ⟨65, _⟩ => ⟨S2x1024x11264, .f32⟩
  | .hbm, ⟨66, _⟩ => ⟨S2x1024x11264, .f32⟩
  | .hbm, ⟨67, _⟩ => ⟨S4096x11264, .f32⟩
  | .hbm, ⟨68, _⟩ => ⟨S2048x11264, .f32⟩
  | .hbm, ⟨69, _⟩ => ⟨S6144x11264, .f32⟩
  | .hbm, ⟨70, _⟩ => ⟨S6144x5632, .f32⟩
  | .hbm, ⟨71, _⟩ => ⟨S6144x5632, .f32⟩
  | .hbm, ⟨72, _⟩ => ⟨S6144x5632, .f32⟩
  | .hbm, ⟨73, _⟩ => ⟨S6144x5632, .f32⟩
  | .hbm, ⟨74, _⟩ => ⟨S_, .f32⟩
  | .hbm, ⟨75, _⟩ => ⟨S6144x5632, .f32⟩
  | .hbm, ⟨76, _⟩ => ⟨S6144x5632, .f32⟩
  | .hbm, ⟨77, _⟩ => ⟨S_, .f32⟩
  | .hbm, ⟨78, _⟩ => ⟨S6144x5632, .f32⟩
  | .hbm, ⟨79, _⟩ => ⟨S6144x5632, .f32⟩
  | .hbm, ⟨80, _⟩ => ⟨S6144x5632, .f32⟩
  | .hbm, ⟨81, _⟩ => ⟨S6144x5632, .f32⟩
  | .hbm, ⟨82, _⟩ => ⟨S6144x5632, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_0 : Ref sig .tc := ⟨.hbm, 41, rfl⟩
abbrev main_call1_v0 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_1 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_2 : Ref sig .tc := ⟨.hbm, 74, rfl⟩
abbrev main_v65 : Ref sig .tc := ⟨.hbm, 75, rfl⟩
abbrev main_v66 : Ref sig .tc := ⟨.hbm, 76, rfl⟩
abbrev main_cst_3 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩

abbrev nD : Nat := 1
abbrev τ : Topo := Topo.v7x

variable {F : FTy → Type} [FloatOps F]
-- ==== Down.lean ====
abbrev S6144x5632 : Shape := ⟨2, ![6144, 5632]⟩
abbrev S2x5632x2048 : Shape := ⟨3, ![2, 5632, 2048]⟩
abbrev S6144x2048 : Shape := ⟨2, ![6144, 2048]⟩
abbrev S3x1x2048 : Shape := ⟨3, ![3, 1, 2048]⟩
abbrev S1024x5632 : Shape := ⟨2, ![1024, 5632]⟩
abbrev S1x5632x256 : Shape := ⟨3, ![1, 5632, 256]⟩
abbrev S1024x256 : Shape := ⟨2, ![1024, 256]⟩
abbrev S1x1x256 : Shape := ⟨3, ![1, 1, 256]⟩
abbrev S5632x256 : Shape := ⟨2, ![5632, 256]⟩
abbrev S512x256 : Shape := ⟨2, ![512, 256]⟩
abbrev S1x256 : Shape := ⟨2, ![1, 256]⟩

abbrev nBuf : Space → Nat
  | .hbm => 5
  | .vmem => 12
  | .smem => 0
  | _ => 0

abbrev bufTy : (tb : Table) → Fin (tcTables nBuf tb) → BufTy
  | .hbm, ⟨0, _⟩ => ⟨S6144x5632, .bf16⟩
  | .hbm, ⟨1, _⟩ => ⟨S2x5632x2048, .f32⟩
  | .hbm, ⟨2, _⟩ => ⟨S6144x2048, .f32⟩
  | .hbm, ⟨3, _⟩ => ⟨S3x1x2048, .f32⟩
  | .hbm, ⟨4, _⟩ => ⟨S6144x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x256, .f32⟩
  | .local _ .vmem, ⟨3, _⟩ => ⟨S1x5632x256, .f32⟩
  | .local _ .vmem, ⟨4, _⟩ => ⟨S1024x256, .f32⟩
  | .local _ .vmem, ⟨5, _⟩ => ⟨S1024x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1024x256, .f32⟩
  | .local _ .vmem, ⟨11, _⟩ => ⟨S1024x256, .f32⟩
  | _, _ => ⟨S6144x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.subi v17 c3_i32
  let c0_i32_5 : BitVec 32 := 0#32
  let v19 : BitVec 32 := Scalar.maxsi v18 c0_i32_5
  let c0_i32_6 : BitVec 32 := 0#32
  let c0_i32_7 : BitVec 32 := 0#32
  ![v19.toNat, c0_i32_6.toNat, arg1.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c512_i32 : BitVec 32 := 512#32
  let v1 : BitVec 32 := Scalar.addi v0 c512_i32
  let c1024_i32_0 : BitVec 32 := 1024#32
  let v2 : BitVec 32 := Scalar.divsi v1 c1024_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32_0 c0_i32_2
  let v9 : BitVec 32 := Scalar.extui v8
  let c0_i32_3 : BitVec 32 := 0#32
  let v10 : BitVec 1 := Scalar.cmpi .slt c1024_i32_0 c0_i32_3
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.subi v18 c3_i32
  let c0_i32_5 : BitVec 32 := 0#32
  let v20 : BitVec 32 := Scalar.maxsi v19 c0_i32_5
  let c0_i32_6 : BitVec 32 := 0#32
  let c0_i32_7 : BitVec 32 := 0#32
  ![v20.toNat, c0_i32_6.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefDownIdeal.lean ====
abbrev S6144x5632 : Shape := ⟨2, ![6144, 5632]⟩
abbrev S2x5632x2048 : Shape := ⟨3, ![2, 5632, 2048]⟩
abbrev S6144x2048 : Shape := ⟨2, ![6144, 2048]⟩
abbrev S3x1x2048 : Shape := ⟨3, ![3, 1, 2048]⟩
abbrev S1x1x2048 : Shape := ⟨3, ![1, 1, 2048]⟩
abbrev S1x2048 : Shape := ⟨2, ![1, 2048]⟩
abbrev S16x256x2048 : Shape := ⟨3, ![16, 256, 2048]⟩
abbrev S2x1x2048 : Shape := ⟨3, ![2, 1, 2048]⟩
abbrev S2x1024x2048 : Shape := ⟨3, ![2, 1024, 2048]⟩
abbrev S4096x2048 : Shape := ⟨2, ![4096, 2048]⟩
abbrev S2048x2048 : Shape := ⟨2, ![2048, 2048]⟩
abbrev S1x5632x2048 : Shape := ⟨3, ![1, 5632, 2048]⟩
abbrev S5632x2048 : Shape := ⟨2, ![5632, 2048]⟩

abbrev nBuf : Space → Nat
  | .hbm => 19
  | .vmem => 0
  | .smem => 0
  | _ => 0

abbrev bufTy : (tb : Table) → Fin (tcTables nBuf tb) → BufTy
  | .hbm, ⟨0, _⟩ => ⟨S6144x5632, .bf16⟩
  | .hbm, ⟨1, _⟩ => ⟨S2x5632x2048, .f32⟩
  | .hbm, ⟨2, _⟩ => ⟨S6144x2048, .f32⟩
  | .hbm, ⟨3, _⟩ => ⟨S3x1x2048, .f32⟩
  | .hbm, ⟨4, _⟩ => ⟨S1x1x2048, .f32⟩
  | .hbm, ⟨5, _⟩ => ⟨S1x2048, .f32⟩
  | .hbm, ⟨6, _⟩ => ⟨S1x1x2048, .f32⟩
  | .hbm, ⟨7, _⟩ => ⟨S16x256x2048, .f32⟩
  | .hbm, ⟨8, _⟩ => ⟨S2x1x2048, .f32⟩
  | .hbm, ⟨9, _⟩ => ⟨S2x1024x2048, .f32⟩
  | .hbm, ⟨10, _⟩ => ⟨S4096x2048, .f32⟩
  | .hbm, ⟨11, _⟩ => ⟨S2048x2048, .f32⟩
  | .hbm, ⟨12, _⟩ => ⟨S6144x2048, .f32⟩
  | .hbm, ⟨13, _⟩ => ⟨S6144x5632, .f32⟩
  | .hbm, ⟨14, _⟩ => ⟨S1x5632x2048, .f32⟩
  | .hbm, ⟨15, _⟩ => ⟨S5632x2048, .f32⟩
  | .hbm, ⟨16, _⟩ => ⟨S6144x2048, .f32⟩
  | .hbm, ⟨17, _⟩ => ⟨S6144x2048, .f32⟩
  | .hbm, ⟨18, _⟩ => ⟨S6144x2048, .f32⟩
  | _, _ => ⟨S6144x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Merge.lean ====
abbrev S6144x1024 : Shape := ⟨2, ![6144, 1024]⟩
abbrev S2x1024x2048 : Shape := ⟨3, ![2, 1024, 2048]⟩
abbrev S6144x2048 : Shape := ⟨2, ![6144, 2048]⟩
abbrev S2x2048x2048 : Shape := ⟨3, ![2, 2048, 2048]⟩
abbrev S6144x8192 : Shape := ⟨2, ![6144, 8192]⟩
abbrev S1024x1024 : Shape := ⟨2, ![1024, 1024]⟩
abbrev S1x1024x256 : Shape := ⟨3, ![1, 1024, 256]⟩
abbrev S1024x2048 : Shape := ⟨2, ![1024, 2048]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 8
  | .vmem => 20
  | .smem => 0
  | _ => 0

abbrev bufTy : (tb : Table) → Fin (tcTables nBuf tb) → BufTy
  | .hbm, ⟨0, _⟩ => ⟨S6144x1024, .bf16⟩
  | .hbm, ⟨1, _⟩ => ⟨S2x1024x2048, .f32⟩
  | .hbm, ⟨2, _⟩ => ⟨S6144x2048, .bf16⟩
  | .hbm, ⟨3, _⟩ => ⟨S2x2048x2048, .f32⟩
  | .hbm, ⟨4, _⟩ => ⟨S6144x1024, .bf16⟩
  | .hbm, ⟨5, _⟩ => ⟨S2x1024x2048, .f32⟩
  | .hbm, ⟨6, _⟩ => ⟨S6144x8192, .bf16⟩
  | .hbm, ⟨7, _⟩ => ⟨S6144x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1024x2048, .bf16⟩
  | .local _ .vmem, ⟨5, _⟩ => ⟨S1024x2048, .bf16⟩
  | .local _ .vmem, ⟨6, _⟩ => ⟨S1x2048x256, .f32⟩
  | .local _ .vmem, ⟨7, _⟩ => ⟨S1x2048x256, .f32⟩
  | .local _ .vmem, ⟨8, _⟩ => ⟨S1024x1024, .bf16⟩
  | .local _ .vmem, ⟨9, _⟩ => ⟨S1024x1024, .bf16⟩
  | .local _ .vmem, ⟨10, _⟩ => ⟨S1x1024x256, .f32⟩
  | .local _ .vmem, ⟨11, _⟩ => ⟨S1x1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | _, _ => ⟨S6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefMergeIdeal.lean ====
abbrev S6144x1024 : Shape := ⟨2, ![6144, 1024]⟩
abbrev S2x1024x2048 : Shape := ⟨3, ![2, 1024, 2048]⟩
abbrev S6144x2048 : Shape := ⟨2, ![6144, 2048]⟩
abbrev S2x2048x2048 : Shape := ⟨3, ![2, 2048, 2048]⟩
abbrev S6144x8192 : Shape := ⟨2, ![6144, 8192]⟩
abbrev S6144x6144 : Shape := ⟨2, ![6144, 6144]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S6144x1024, .bf16⟩
  | .hbm, ⟨1, _⟩ => ⟨S2x1024x2048, .f32⟩
  | .hbm, ⟨2, _⟩ => ⟨S6144x2048, .bf16⟩
  | .hbm, ⟨3, _⟩ => ⟨S2x2048x2048, .f32⟩
  | .hbm, ⟨4, _⟩ => ⟨S6144x1024, .bf16⟩
  | .hbm, ⟨5, _⟩ => ⟨S2x1024x2048, .f32⟩
  | .hbm, ⟨6, _⟩ => ⟨S6144x8192, .bf16⟩
  | .hbm, ⟨7, _⟩ => ⟨S6144x6144, .bf16⟩
  | .hbm, ⟨8, _⟩ => ⟨S6144x6144, .f32⟩
  | .hbm, ⟨9, _⟩ => ⟨S6144x1024, .f32⟩
  | .hbm, ⟨10, _⟩ => ⟨S1x1024x2048, .f32⟩
  | .hbm, ⟨11, _⟩ => ⟨S1024x2048, .f32⟩
  | .hbm, ⟨12, _⟩ => ⟨S6144x2048, .f32⟩
  | .hbm, ⟨13, _⟩ => ⟨S6144x2048, .f32⟩
  | .hbm, ⟨14, _⟩ => ⟨S1x2048x2048, .f32⟩
  | .hbm, ⟨15, _⟩ => ⟨S2048x2048, .f32⟩
  | .hbm, ⟨16, _⟩ => ⟨S6144x2048, .f32⟩
  | .hbm, ⟨17, _⟩ => ⟨S6144x1024, .f32⟩
  | .hbm, ⟨18, _⟩ => ⟨S1x1024x2048, .f32⟩
  | .hbm, ⟨19, _⟩ => ⟨S1024x2048, .f32⟩
  | .hbm, ⟨20, _⟩ => ⟨S6144x2048, .f32⟩
  | .hbm, ⟨21, _⟩ => ⟨S6144x2048, .f32⟩
  | .hbm, ⟨22, _⟩ => ⟨S6144x2048, .f32⟩
  | .hbm, ⟨23, _⟩ => ⟨S6144x2048, .f32⟩
  | .hbm, ⟨24, _⟩ => ⟨S6144x2048, .f32⟩
  | .hbm, ⟨25, _⟩ => ⟨S6144x2048, .f32⟩
  | .hbm, ⟨26, _⟩ => ⟨S_, .f32⟩
  | .hbm, ⟨27, _⟩ => ⟨S6144x2048, .f32⟩
  | .hbm, ⟨28, _⟩ => ⟨S6144x2048, .f32⟩
  | .hbm, ⟨29, _⟩ => ⟨S_, .f32⟩
  | .hbm, ⟨30, _⟩ => ⟨S6144x2048, .f32⟩
  | .hbm, ⟨31, _⟩ => ⟨S6144x2048, .f32⟩
  | .hbm, ⟨32, _⟩ => ⟨S6144x2048, .f32⟩
  | .hbm, ⟨33, _⟩ => ⟨S6144x2048, .f32⟩
  | .hbm, ⟨34, _⟩ => ⟨S6144x2048, .f32⟩
  | .hbm, ⟨35, _⟩ => ⟨S_, .f32⟩
  | .hbm, ⟨36, _⟩ => ⟨S6144x2048, .f32⟩
  | .hbm, ⟨37, _⟩ => ⟨S6144x2048, .f32⟩
  | .hbm, ⟨38, _⟩ => ⟨S_, .f32⟩
  | .hbm, ⟨39, _⟩ => ⟨S6144x2048, .f32⟩
  | .hbm, ⟨40, _⟩ => ⟨S6144x2048, .f32⟩
  | .hbm, ⟨41, _⟩ => ⟨S6144x2048, .f32⟩
  | .hbm, ⟨42, _⟩ => ⟨S6144x2048, .f32⟩
  | .hbm, ⟨43, _⟩ => ⟨S6144x2048, .f32⟩
  | .hbm, ⟨44, _⟩ => ⟨S6144x2048, .f32⟩
  | .hbm, ⟨45, _⟩ => ⟨S_, .f32⟩
  | .hbm, ⟨46, _⟩ => ⟨S6144x2048, .f32⟩
  | .hbm, ⟨47, _⟩ => ⟨S6144x2048, .f32⟩
  | .hbm, ⟨48, _⟩ => ⟨S_, .f32⟩
  | .hbm, ⟨49, _⟩ => ⟨S6144x2048, .f32⟩
  | .hbm, ⟨50, _⟩ => ⟨S6144x2048, .f32⟩
  | .hbm, ⟨51, _⟩ => ⟨S6144x2048, .f32⟩
  | .hbm, ⟨52, _⟩ => ⟨S6144x2048, .f32⟩
  | .hbm, ⟨53, _⟩ => ⟨S6144x2048, .bf16⟩
  | _, _ => ⟨S6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Out.lean ====
abbrev S6144x2048 : Shape := ⟨2, ![6144, 2048]⟩
abbrev S2x2048x2048 : Shape := ⟨3, ![2, 2048, 2048]⟩
abbrev S3x1x2048 : Shape := ⟨3, ![3, 1, 2048]⟩
abbrev S2048x2048 : Shape := ⟨2, ![2048, 2048]⟩
abbrev S1x2048x512 : Shape := ⟨3, ![1, 2048, 512]⟩
abbrev S2048x512 : Shape := ⟨2, ![2048, 512]⟩
abbrev S1x1x512 : Shape := ⟨3, ![1, 1, 512]⟩
abbrev S1024x512 : Shape := ⟨2, ![1024, 512]⟩
abbrev S1x512 : Shape := ⟨2, ![1, 512]⟩

abbrev nBuf : Space → Nat
  | .hbm => 5
  | .vmem => 12
  | .smem => 0
  | _ => 0

abbrev bufTy : (tb : Table) → Fin (tcTables nBuf tb) → BufTy
  | .hbm, ⟨0, _⟩ => ⟨S6144x2048, .bf16⟩
  | .hbm, ⟨1, _⟩ => ⟨S2x2048x2048, .f32⟩
  | .hbm, ⟨2, _⟩ => ⟨S6144x2048, .f32⟩
  | .hbm, ⟨3, _⟩ => ⟨S3x1x2048, .f32⟩
  | .hbm, ⟨4, _⟩ => ⟨S6144x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S2048x512, .f32⟩
  | .local _ .vmem, ⟨11, _⟩ => ⟨S2048x512, .f32⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.subi v17 c3_i32
  let c0_i32_4 : BitVec 32 := 0#32
  let v19 : BitVec 32 := Scalar.maxsi v18 c0_i32_4
  let c0_i32_5 : BitVec 32 := 0#32
  let c0_i32_6 : BitVec 32 := 0#32
  ![v19.toNat, c0_i32_5.toNat, arg1.toNat]

def cc0_transform_4 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c1024_i32 : BitVec 32 := 1024#32
  let v1 : BitVec 32 := Scalar.addi v0 c1024_i32
  let c1024_i32_0 : BitVec 32 := 1024#32
  let v2 : BitVec 32 := Scalar.divsi v1 c1024_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32_0 c0_i32_2
  let v9 : BitVec 32 := Scalar.extui v8
  let c0_i32_3 : BitVec 32 := 0#32
  let v10 : BitVec 1 := Scalar.cmpi .slt c1024_i32_0 c0_i32_3
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.subi v18 c3_i32
  let c0_i32_5 : BitVec 32 := 0#32
  let v20 : BitVec 32 := Scalar.maxsi v19 c0_i32_5
  let c0_i32_6 : BitVec 32 := 0#32
  let c0_i32_7 : BitVec 32 := 0#32
  ![v20.toNat, c0_i32_6.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefOutIdeal.lean ====
abbrev S6144x2048 : Shape := ⟨2, ![6144, 2048]⟩
abbrev S2x2048x2048 : Shape := ⟨3, ![2, 2048, 2048]⟩
abbrev S3x1x2048 : Shape := ⟨3, ![3, 1, 2048]⟩
abbrev S1x1x2048 : Shape := ⟨3, ![1, 1, 2048]⟩
abbrev S1x2048 : Shape := ⟨2, ![1, 2048]⟩
abbrev S16x256x2048 : Shape := ⟨3, ![16, 256, 2048]⟩
abbrev S2x1x2048 : Shape := ⟨3, ![2, 1, 2048]⟩
abbrev S2x1024x2048 : Shape := ⟨3, ![2, 1024, 2048]⟩
abbrev S4096x2048 : Shape := ⟨2, ![4096, 2048]⟩
abbrev S2048x2048 : Shape := ⟨2, ![2048, 2048]⟩
abbrev S1x2048x2048 : Shape := ⟨3, ![1, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x2048, .f32⟩
  | .hbm, ⟨2, _⟩ => ⟨S6144x2048, .f32⟩
  | .hbm, ⟨3, _⟩ => ⟨S3x1x2048, .f32⟩
  | .hbm, ⟨4, _⟩ => ⟨S1x1x2048, .f32⟩
  | .hbm, ⟨5, _⟩ => ⟨S1x2048, .f32⟩
  | .hbm, ⟨6, _⟩ => ⟨S1x1x2048, .f32⟩
  | .hbm, ⟨7, _⟩ => ⟨S16x256x2048, .f32⟩
  | .hbm, ⟨8, _⟩ => ⟨S2x1x2048, .f32⟩
  | .hbm, ⟨9, _⟩ => ⟨S2x1024x2048, .f32⟩
  | .hbm, ⟨10, _⟩ => ⟨S4096x2048, .f32⟩
  | .hbm, ⟨11, _⟩ => ⟨S2048x2048, .f32⟩
  | .hbm, ⟨12, _⟩ => ⟨S6144x2048, .f32⟩
  | .hbm, ⟨13, _⟩ => ⟨S6144x2048, .f32⟩
  | .hbm, ⟨14, _⟩ => ⟨S1x2048x2048, .f32⟩
  | .hbm, ⟨15, _⟩ => ⟨S2048x2048, .f32⟩
  | .hbm, ⟨16, _⟩ => ⟨S6144x2048, .f32⟩
  | .hbm, ⟨17, _⟩ => ⟨S6144x2048, .f32⟩
  | .hbm, ⟨18, _⟩ => ⟨S6144x2048, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== MixA.lean ====
abbrev S6144x2048 : Shape := ⟨2, ![6144, 2048]⟩
abbrev S2x2048x12608 : Shape := ⟨3, ![2, 2048, 12608]⟩
abbrev S2x3x1024 : Shape := ⟨3, ![2, 3, 1024]⟩
abbrev S2x12608x2048 : Shape := ⟨3, ![2, 12608, 2048]⟩
abbrev S6144x1024 : Shape := ⟨2, ![6144, 1024]⟩
abbrev S2048x2048 : Shape := ⟨2, ![2048, 2048]⟩
abbrev S1x256x2048 : Shape := ⟨3, ![1, 256, 2048]⟩
abbrev S1x3x256 : Shape := ⟨3, ![1, 3, 256]⟩
abbrev S2048x256 : Shape := ⟨2, ![2048, 256]⟩
abbrev S256x2048 : Shape := ⟨2, ![256, 2048]⟩
abbrev S3x256 : Shape := ⟨2, ![3, 256]⟩
abbrev S8x256 : Shape := ⟨2, ![8, 256]⟩
abbrev S256x256 : Shape := ⟨2, ![256, 256]⟩
abbrev S248x256 : Shape := ⟨2, ![248, 256]⟩
abbrev S1x256 : Shape := ⟨2, ![1, 256]⟩

abbrev nBuf : Space → Nat
  | .hbm => 5
  | .vmem => 12
  | .smem => 0
  | _ => 0

abbrev bufTy : (tb : Table) → Fin (tcTables nBuf tb) → BufTy
  | .hbm, ⟨0, _⟩ => ⟨S6144x2048, .bf16⟩
  | .hbm, ⟨1, _⟩ => ⟨S2x2048x12608, .f32⟩
  | .hbm, ⟨2, _⟩ => ⟨S2x3x1024, .f32⟩
  | .hbm, ⟨3, _⟩ => ⟨S2x12608x2048, .f32⟩
  | .hbm, ⟨4, _⟩ => ⟨S6144x1024, .bf16⟩
  | .local _ .vmem, ⟨0, _⟩ => ⟨S2048x2048, .bf16⟩
  | .local _ .vmem, ⟨1, _⟩ => ⟨S2048x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x3x256, .f32⟩
  | .local _ .vmem, ⟨9, _⟩ => ⟨S1x3x256, .f32⟩
  | .local _ .vmem, ⟨10, _⟩ => ⟨S2048x256, .bf16⟩
  | .local _ .vmem, ⟨11, _⟩ => ⟨S2048x256, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefMixAIdeal.lean ====
abbrev S6144x2048 : Shape := ⟨2, ![6144, 2048]⟩
abbrev S2x2048x12608 : Shape := ⟨3, ![2, 2048, 12608]⟩
abbrev S2x3x1024 : Shape := ⟨3, ![2, 3, 1024]⟩
abbrev S1x2048x12608 : Shape := ⟨3, ![1, 2048, 12608]⟩
abbrev S2048x12608 : Shape := ⟨2, ![2048, 12608]⟩
abbrev S6144x12608 : Shape := ⟨2, ![6144, 12608]⟩
abbrev S6144x1024 : Shape := ⟨2, ![6144, 1024]⟩
abbrev S4096x1024 : Shape := ⟨2, ![4096, 1024]⟩
abbrev S16x256x1024 : Shape := ⟨3, ![16, 256, 1024]⟩
abbrev S2048x1024 : Shape := ⟨2, ![2048, 1024]⟩
abbrev S2x1024x1024 : Shape := ⟨3, ![2, 1024, 1024]⟩
abbrev S1x3x1024 : Shape := ⟨3, ![1, 3, 1024]⟩
abbrev S3x1024 : Shape := ⟨2, ![3, 1024]⟩
abbrev S_ : Shape := ⟨0, ![]⟩
abbrev S16x258x1024 : Shape := ⟨3, ![16, 258, 1024]⟩
abbrev S1x1024 : Shape := ⟨2, ![1, 1024]⟩
abbrev S1024 : Shape := ⟨1, ![1024]⟩
abbrev S1x1x1024 : Shape := ⟨3, ![1, 1, 1024]⟩
abbrev S2x1026x1024 : Shape := ⟨3, ![2, 1026, 1024]⟩

abbrev nBuf : Space → Nat
  | .hbm => 76
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x12608, .f32⟩
  | .hbm, ⟨2, _⟩ => ⟨S2x3x1024, .f32⟩
  | .hbm, ⟨3, _⟩ => ⟨S6144x2048, .f32⟩
  | .hbm, ⟨4, _⟩ => ⟨S1x2048x12608, .f32⟩
  | .hbm, ⟨5, _⟩ => ⟨S2048x12608, .f32⟩
  | .hbm, ⟨6, _⟩ => ⟨S6144x12608, .f32⟩
  | .hbm, ⟨7, _⟩ => ⟨S6144x1024, .f32⟩
  | .hbm, ⟨8, _⟩ => ⟨S6144x1024, .f32⟩
  | .hbm, ⟨9, _⟩ => ⟨S6144x1024, .f32⟩
  | .hbm, ⟨10, _⟩ => ⟨S6144x1024, .f32⟩
  | .hbm, ⟨11, _⟩ => ⟨S4096x1024, .f32⟩
  | .hbm, ⟨12, _⟩ => ⟨S16x256x1024, .f32⟩
  | .hbm, ⟨13, _⟩ => ⟨S2048x1024, .f32⟩
  | .hbm, ⟨14, _⟩ => ⟨S2x1024x1024, .f32⟩
  | .hbm, ⟨15, _⟩ => ⟨S1x3x1024, .f32⟩
  | .hbm, ⟨16, _⟩ => ⟨S3x1024, .f32⟩
  | .hbm, ⟨17, _⟩ => ⟨S_, .i32⟩
  | .hbm, ⟨18, _⟩ => ⟨S_, .f32⟩
  | .hbm, ⟨19, _⟩ => ⟨S16x258x1024, .f32⟩
  | .hbm, ⟨20, _⟩ => ⟨S1x1024, .f32⟩
  | .hbm, ⟨21, _⟩ => ⟨S1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S16x256x1024, .f32⟩
  | .hbm, ⟨28, _⟩ => ⟨S16x256x1024, .f32⟩
  | .hbm, ⟨29, _⟩ => ⟨S1x1024, .f32⟩
  | .hbm, ⟨30, _⟩ => ⟨S1024, .f32⟩
  | .hbm, ⟨31, _⟩ => ⟨S16x256x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S1x1024, .f32⟩
  | .hbm, ⟨37, _⟩ => ⟨S1024, .f32⟩
  | .hbm, ⟨38, _⟩ => ⟨S16x256x1024, .f32⟩
  | .hbm, ⟨39, _⟩ => ⟨S1x1x1024, .f32⟩
  | .hbm, ⟨40, _⟩ => ⟨S16x256x1024, .f32⟩
  | .hbm, ⟨41, _⟩ => ⟨S16x256x1024, .f32⟩
  | .hbm, ⟨42, _⟩ => ⟨S16x256x1024, .f32⟩
  | .hbm, ⟨43, _⟩ => ⟨S1x3x1024, .f32⟩
  | .hbm, ⟨44, _⟩ => ⟨S3x1024, .f32⟩
  | .hbm, ⟨45, _⟩ => ⟨S_, .i32⟩
  | .hbm, ⟨46, _⟩ => ⟨S_, .f32⟩
  | .hbm, ⟨47, _⟩ => ⟨S2x1026x1024, .f32⟩
  | .hbm, ⟨48, _⟩ => ⟨S1x1024, .f32⟩
  | .hbm, ⟨49, _⟩ => ⟨S1024, .f32⟩
  | .hbm, ⟨50, _⟩ => ⟨S2x1024x1024, .f32⟩
  | .hbm, ⟨51, _⟩ => ⟨S1x1x1024, .f32⟩
  | .hbm, ⟨52, _⟩ => ⟨S2x1024x1024, .f32⟩
  | .hbm, ⟨53, _⟩ => ⟨S2x1024x1024, .f32⟩
  | .hbm, ⟨54, _⟩ => ⟨S_, .f32⟩
  | .hbm, ⟨55, _⟩ => ⟨S2x1024x1024, .f32⟩
  | .hbm, ⟨56, _⟩ => ⟨S2x1024x1024, .f32⟩
  | .hbm, ⟨57, _⟩ => ⟨S1x1024, .f32⟩
  | .hbm, ⟨58, _⟩ => ⟨S1024, .f32⟩
  | .hbm, ⟨59, _⟩ => ⟨S2x1024x1024, .f32⟩
  | .hbm, ⟨60, _⟩ => ⟨S1x1x1024, .f32⟩
  | .hbm, ⟨61, _⟩ => ⟨S2x1024x1024, .f32⟩
  | .hbm, ⟨62, _⟩ => ⟨S2x1024x1024, .f32⟩
  | .hbm, ⟨63, _⟩ => ⟨S2x1024x1024, .f32⟩
  | .hbm, ⟨64, _⟩ => ⟨S1x1024, .f32⟩
  | .hbm, ⟨65, _⟩ => ⟨S1024, .f32⟩
  | .hbm, ⟨66, _⟩ => ⟨S2x1024x1024, .f32⟩
  | .hbm, ⟨67, _⟩ => ⟨S1x1x1024, .f32⟩
  | .hbm, ⟨68, _⟩ => ⟨S2x1024x1024, .f32⟩
  | .hbm, ⟨69, _⟩ => ⟨S2x1024x1024, .f32⟩
  | .hbm, ⟨70, _⟩ => ⟨S2x1024x1024, .f32⟩
  | .hbm, ⟨71, _⟩ => ⟨S4096x1024, .f32⟩
  | .hbm, ⟨72, _⟩ => ⟨S2048x1024, .f32⟩
  | .hbm, ⟨73, _⟩ => ⟨S6144x1024, .f32⟩
  | .hbm, ⟨74, _⟩ => ⟨S6144x1024, .f32⟩
  | .hbm, ⟨75, _⟩ => ⟨S6144x1024, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_0 : Ref sig .tc := ⟨.hbm, 45, rfl⟩
abbrev main_call1_v0 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_1 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩

abbrev nD : Nat := 1
abbrev τ : Topo := Topo.v7x

variable {F : FTy → Type} [FloatOps F]
-- ==== Q.lean ====
abbrev S6144x2048 : Shape := ⟨2, ![6144, 2048]⟩
abbrev S2x2048x12608 : Shape := ⟨3, ![2, 2048, 12608]⟩
abbrev S2x768 : Shape := ⟨2, ![2, 768]⟩
abbrev S2x768x3072 : Shape := ⟨3, ![2, 768, 3072]⟩
abbrev S2x768x16x192 : Shape := ⟨4, ![2, 768, 16, 192]⟩
abbrev S2x768x16x128 : Shape := ⟨4, ![2, 768, 16, 128]⟩
abbrev S2x768x2048 : Shape := ⟨3, ![2, 768, 2048]⟩
abbrev S2x768x16x64 : Shape := ⟨4, ![2, 768, 16, 64]⟩
abbrev S2x768x1024 : Shape := ⟨3, ![2, 768, 1024]⟩
abbrev S2x12608x2048 : Shape := ⟨3, ![2, 12608, 2048]⟩
abbrev S1x768 : Shape := ⟨2, ![1, 768]⟩
abbrev S768 : Shape := ⟨1, ![768]⟩
abbrev S6144x3072 : Shape := ⟨2, ![6144, 3072]⟩
abbrev S2048x2048 : Shape := ⟨2, ![2048, 2048]⟩
abbrev S1x768x2048 : Shape := ⟨3, ![1, 768, 2048]⟩
abbrev S1x768x1024 : Shape := ⟨3, ![1, 768, 1024]⟩
abbrev S2048x1024 : Shape := ⟨2, ![2048, 1024]⟩
abbrev S2048x768 : Shape := ⟨2, ![2048, 768]⟩
abbrev S768x2048 : Shape := ⟨2, ![768, 2048]⟩
abbrev S2048 : Shape := ⟨1, ![2048]⟩
abbrev S2048x1 : Shape := ⟨2, ![2048, 1]⟩
abbrev S768x1024 : Shape := ⟨2, ![768, 1024]⟩
abbrev S6144x1024 : Shape := ⟨2, ![6144, 1024]⟩
abbrev S6144x16x128 : Shape := ⟨3, ![6144, 16, 128]⟩
abbrev S6144x16x64 : Shape := ⟨3, ![6144, 16, 64]⟩

abbrev nBuf : Space → Nat
  | .hbm => 20
  | .vmem => 9
  | .smem => 0
  | _ => 0

abbrev bufTy : (tb : Table) → Fin (tcTables nBuf tb) → BufTy
  | .hbm, ⟨0, _⟩ => ⟨S6144x2048, .bf16⟩
  | .hbm, ⟨1, _⟩ => ⟨S2x2048x12608, .f32⟩
  | .hbm, ⟨2, _⟩ => ⟨S2x768, .f32⟩
  | .hbm, ⟨3, _⟩ => ⟨S2x768x3072, .f32⟩
  | .hbm, ⟨4, _⟩ => ⟨S2x768x16x192, .f32⟩
  | .hbm, ⟨5, _⟩ => ⟨S2x768x16x128, .f32⟩
  | .hbm, ⟨6, _⟩ => ⟨S2x768x2048, .f32⟩
  | .hbm, ⟨7, _⟩ => ⟨S2x768x16x64, .f32⟩
  | .hbm, ⟨8, _⟩ => ⟨S2x768x1024, .f32⟩
  | .hbm, ⟨9, _⟩ => ⟨S2x768x3072, .f32⟩
  | .hbm, ⟨10, _⟩ => ⟨S2x768x3072, .bf16⟩
  | .hbm, ⟨11, _⟩ => ⟨S2x12608x2048, .f32⟩
  | .hbm, ⟨12, _⟩ => ⟨S1x768, .f32⟩
  | .hbm, ⟨13, _⟩ => ⟨S768, .f32⟩
  | .hbm, ⟨14, _⟩ => ⟨S1x768, .f32⟩
  | .hbm, ⟨15, _⟩ => ⟨S6144x3072, .bf16⟩
  | .hbm, ⟨16, _⟩ => ⟨S6144x2048, .bf16⟩
  | .hbm, ⟨17, _⟩ => ⟨S6144x1024, .bf16⟩
  | .hbm, ⟨18, _⟩ => ⟨S6144x16x128, .bf16⟩
  | .hbm, ⟨19, _⟩ => ⟨S6144x16x64, .bf16⟩
  | .local _ .vmem, ⟨0, _⟩ => ⟨S2048x2048, .bf16⟩
  | .local _ .vmem, ⟨1, _⟩ => ⟨S2048x2048, .bf16⟩
  | .local _ .vmem, ⟨2, _⟩ => ⟨S1x768x2048, .f32⟩
  | .local _ .vmem, ⟨3, _⟩ => ⟨S1x768, .f32⟩
  | .local _ .vmem, ⟨4, _⟩ => ⟨S1x768x1024, .bf16⟩
  | .local _ .vmem, ⟨5, _⟩ => ⟨S1x768x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x768, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![3, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  ![c1_i32.toNat, c4_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefQIdeal.lean ====
abbrev S6144x2048 : Shape := ⟨2, ![6144, 2048]⟩
abbrev S2x2048x12608 : Shape := ⟨3, ![2, 2048, 12608]⟩
abbrev S2x768 : Shape := ⟨2, ![2, 768]⟩
abbrev S2x768x3072 : Shape := ⟨3, ![2, 768, 3072]⟩
abbrev S1x2048x12608 : Shape := ⟨3, ![1, 2048, 12608]⟩
abbrev S2048x12608 : Shape := ⟨2, ![2048, 12608]⟩
abbrev S6144x12608 : Shape := ⟨2, ![6144, 12608]⟩
abbrev S6144x768 : Shape := ⟨2, ![6144, 768]⟩
abbrev S1x768 : Shape := ⟨2, ![1, 768]⟩
abbrev S768 : Shape := ⟨1, ![768]⟩
abbrev S_ : Shape := ⟨0, ![]⟩
abbrev S6144 : Shape := ⟨1, ![6144]⟩
abbrev S6144x1 : Shape := ⟨2, ![6144, 1]⟩
abbrev S1x768x3072 : Shape := ⟨3, ![1, 768, 3072]⟩
abbrev S768x3072 : Shape := ⟨2, ![768, 3072]⟩
abbrev S6144x3072 : Shape := ⟨2, ![6144, 3072]⟩
abbrev S6144x16x192 : Shape := ⟨3, ![6144, 16, 192]⟩
abbrev S6144x16x128 : Shape := ⟨3, ![6144, 16, 128]⟩
abbrev S6144x16x64 : Shape := ⟨3, ![6144, 16, 64]⟩

abbrev nBuf : Space → Nat
  | .hbm => 35
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x12608, .f32⟩
  | .hbm, ⟨2, _⟩ => ⟨S2x768, .f32⟩
  | .hbm, ⟨3, _⟩ => ⟨S2x768x3072, .f32⟩
  | .hbm, ⟨4, _⟩ => ⟨S6144x2048, .f32⟩
  | .hbm, ⟨5, _⟩ => ⟨S1x2048x12608, .f32⟩
  | .hbm, ⟨6, _⟩ => ⟨S2048x12608, .f32⟩
  | .hbm, ⟨7, _⟩ => ⟨S6144x12608, .f32⟩
  | .hbm, ⟨8, _⟩ => ⟨S6144x768, .f32⟩
  | .hbm, ⟨9, _⟩ => ⟨S1x768, .f32⟩
  | .hbm, ⟨10, _⟩ => ⟨S768, .f32⟩
  | .hbm, ⟨11, _⟩ => ⟨S6144x768, .f32⟩
  | .hbm, ⟨12, _⟩ => ⟨S_, .f32⟩
  | .hbm, ⟨13, _⟩ => ⟨S6144, .f32⟩
  | .hbm, ⟨14, _⟩ => ⟨S6144x1, .f32⟩
  | .hbm, ⟨15, _⟩ => ⟨S_, .f32⟩
  | .hbm, ⟨16, _⟩ => ⟨S6144x1, .f32⟩
  | .hbm, ⟨17, _⟩ => ⟨S6144x1, .f32⟩
  | .hbm, ⟨18, _⟩ => ⟨S_, .f32⟩
  | .hbm, ⟨19, _⟩ => ⟨S6144x1, .f32⟩
  | .hbm, ⟨20, _⟩ => ⟨S6144x1, .f32⟩
  | .hbm, ⟨21, _⟩ => ⟨S6144x1, .f32⟩
  | .hbm, ⟨22, _⟩ => ⟨S6144x768, .f32⟩
  | .hbm, ⟨23, _⟩ => ⟨S6144x768, .f32⟩
  | .hbm, ⟨24, _⟩ => ⟨S1x768, .f32⟩
  | .hbm, ⟨25, _⟩ => ⟨S6144x768, .f32⟩
  | .hbm, ⟨26, _⟩ => ⟨S6144x768, .f32⟩
  | .hbm, ⟨27, _⟩ => ⟨S1x768x3072, .f32⟩
  | .hbm, ⟨28, _⟩ => ⟨S768x3072, .f32⟩
  | .hbm, ⟨29, _⟩ => ⟨S6144x3072, .f32⟩
  | .hbm, ⟨30, _⟩ => ⟨S6144x16x192, .f32⟩
  | .hbm, ⟨31, _⟩ => ⟨S6144x16x128, .f32⟩
  | .hbm, ⟨32, _⟩ => ⟨S6144x16x128, .bf16⟩
  | .hbm, ⟨33, _⟩ => ⟨S6144x16x64, .f32⟩
  | .hbm, ⟨34, _⟩ => ⟨S6144x16x64, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kv.lean ====
abbrev S6144x2048 : Shape := ⟨2, ![6144, 2048]⟩
abbrev S2x2048x12608 : Shape := ⟨3, ![2, 2048, 12608]⟩
abbrev S2x512 : Shape := ⟨2, ![2, 512]⟩
abbrev S2x512x4096 : Shape := ⟨3, ![2, 512, 4096]⟩
abbrev S2x12608x2048 : Shape := ⟨3, ![2, 12608, 2048]⟩
abbrev S1x512 : Shape := ⟨2, ![1, 512]⟩
abbrev S512 : Shape := ⟨1, ![512]⟩
abbrev S4096x512 : Shape := ⟨2, ![4096, 512]⟩
abbrev S6144x128 : Shape := ⟨2, ![6144, 128]⟩
abbrev S6144x4096 : Shape := ⟨2, ![6144, 4096]⟩
abbrev S2048x2048 : Shape := ⟨2, ![2048, 2048]⟩
abbrev S1x640x2048 : Shape := ⟨3, ![1, 640, 2048]⟩
abbrev S1x512x512 : Shape := ⟨3, ![1, 512, 512]⟩
abbrev S2048x512 : Shape := ⟨2, ![2048, 512]⟩
abbrev S2048x128 : Shape := ⟨2, ![2048, 128]⟩
abbrev S640x2048 : Shape := ⟨2, ![640, 2048]⟩
abbrev S2048x640 : Shape := ⟨2, ![2048, 640]⟩
abbrev S2048 : Shape := ⟨1, ![2048]⟩
abbrev S2048x1 : Shape := ⟨2, ![2048, 1]⟩
abbrev S512x512 : Shape := ⟨2, ![512, 512]⟩
abbrev S16x256x512 : Shape := ⟨3, ![16, 256, 512]⟩
abbrev S4096x64 : Shape := ⟨2, ![4096, 64]⟩
abbrev S16x256x64 : Shape := ⟨3, ![16, 256, 64]⟩

abbrev nBuf : Space → Nat
  | .hbm => 14
  | .vmem => 13
  | .smem => 0
  | _ => 0

abbrev bufTy : (tb : Table) → Fin (tcTables nBuf tb) → BufTy
  | .hbm, ⟨0, _⟩ => ⟨S6144x2048, .bf16⟩
  | .hbm, ⟨1, _⟩ => ⟨S2x2048x12608, .f32⟩
  | .hbm, ⟨2, _⟩ => ⟨S2x512, .f32⟩
  | .hbm, ⟨3, _⟩ => ⟨S2x512x4096, .f32⟩
  | .hbm, ⟨4, _⟩ => ⟨S2x12608x2048, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S4096x512, .f32⟩
  | .hbm, ⟨9, _⟩ => ⟨S6144x128, .f32⟩
  | .hbm, ⟨10, _⟩ => ⟨S6144x4096, .bf16⟩
  | .hbm, ⟨11, _⟩ => ⟨S16x256x512, .f32⟩
  | .hbm, ⟨12, _⟩ => ⟨S4096x64, .f32⟩
  | .hbm, ⟨13, _⟩ => ⟨S16x256x64, .f32⟩
  | .local _ .vmem, ⟨0, _⟩ => ⟨S2048x2048, .bf16⟩
  | .local _ .vmem, ⟨1, _⟩ => ⟨S2048x2048, .bf16⟩
  | .local _ .vmem, ⟨2, _⟩ => ⟨S1x640x2048, .f32⟩
  | .local _ .vmem, ⟨3, _⟩ => ⟨S1x512, .f32⟩
  | .local _ .vmem, ⟨4, _⟩ => ⟨S1x512x512, .f32⟩
  | .local _ .vmem, ⟨5, _⟩ => ⟨S1x512x512, .f32⟩
  | .local _ .vmem, ⟨6, _⟩ => ⟨S2048x512, .f32⟩
  | .local _ .vmem, ⟨7, _⟩ => ⟨S2048x512, .f32⟩
  | .local _ .vmem, ⟨8, _⟩ => ⟨S2048x128, .f32⟩
  | .local _ .vmem, ⟨9, _⟩ => ⟨S2048x128, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v36 : BitVec 1 := Scalar.cmpi .slt arg0 c2_i32
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c6_i32 : BitVec 32 := 6#32
  let c0_i32 : BitVec 32 := 0#32
  let c0_i32_0 : BitVec 32 := 0#32
  ![c1_i32.toNat, c6_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x640x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefKvIdeal.lean ====
abbrev S6144x2048 : Shape := ⟨2, ![6144, 2048]⟩
abbrev S2x2048x12608 : Shape := ⟨3, ![2, 2048, 12608]⟩
abbrev S2x512 : Shape := ⟨2, ![2, 512]⟩
abbrev S2x512x4096 : Shape := ⟨3, ![2, 512, 4096]⟩
abbrev S1x2048x12608 : Shape := ⟨3, ![1, 2048, 12608]⟩
abbrev S2048x12608 : Shape := ⟨2, ![2048, 12608]⟩
abbrev S6144x12608 : Shape := ⟨2, ![6144, 12608]⟩
abbrev S6144x512 : Shape := ⟨2, ![6144, 512]⟩
abbrev S1x512 : Shape := ⟨2, ![1, 512]⟩
abbrev S512 : Shape := ⟨1, ![512]⟩
abbrev S_ : Shape := ⟨0, ![]⟩
abbrev S6144 : Shape := ⟨1, ![6144]⟩
abbrev S6144x1 : Shape := ⟨2, ![6144, 1]⟩
abbrev S6144x64 : Shape := ⟨2, ![6144, 64]⟩
abbrev S4096x512 : Shape := ⟨2, ![4096, 512]⟩
abbrev S16x256x512 : Shape := ⟨3, ![16, 256, 512]⟩
abbrev S4096x64 : Shape := ⟨2, ![4096, 64]⟩
abbrev S16x256x64 : Shape := ⟨3, ![16, 256, 64]⟩
abbrev S6144x128 : Shape := ⟨2, ![6144, 128]⟩
abbrev S1x512x4096 : Shape := ⟨3, ![1, 512, 4096]⟩
abbrev S512x4096 : Shape := ⟨2, ![512, 4096]⟩
abbrev S6144x4096 : Shape := ⟨2, ![6144, 4096]⟩

abbrev nBuf : Space → Nat
  | .hbm => 37
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x12608, .f32⟩
  | .hbm, ⟨2, _⟩ => ⟨S2x512, .f32⟩
  | .hbm, ⟨3, _⟩ => ⟨S2x512x4096, .f32⟩
  | .hbm, ⟨4, _⟩ => ⟨S6144x2048, .f32⟩
  | .hbm, ⟨5, _⟩ => ⟨S1x2048x12608, .f32⟩
  | .hbm, ⟨6, _⟩ => ⟨S2048x12608, .f32⟩
  | .hbm, ⟨7, _⟩ => ⟨S6144x12608, .f32⟩
  | .hbm, ⟨8, _⟩ => ⟨S6144x512, .f32⟩
  | .hbm, ⟨9, _⟩ => ⟨S1x512, .f32⟩
  | .hbm, ⟨10, _⟩ => ⟨S512, .f32⟩
  | .hbm, ⟨11, _⟩ => ⟨S6144x512, .f32⟩
  | .hbm, ⟨12, _⟩ => ⟨S_, .f32⟩
  | .hbm, ⟨13, _⟩ => ⟨S6144, .f32⟩
  | .hbm, ⟨14, _⟩ => ⟨S6144x1, .f32⟩
  | .hbm, ⟨15, _⟩ => ⟨S_, .f32⟩
  | .hbm, ⟨16, _⟩ => ⟨S6144x1, .f32⟩
  | .hbm, ⟨17, _⟩ => ⟨S6144x1, .f32⟩
  | .hbm, ⟨18, _⟩ => ⟨S_, .f32⟩
  | .hbm, ⟨19, _⟩ => ⟨S6144x1, .f32⟩
  | .hbm, ⟨20, _⟩ => ⟨S6144x1, .f32⟩
  | .hbm, ⟨21, _⟩ => ⟨S6144x1, .f32⟩
  | .hbm, ⟨22, _⟩ => ⟨S6144x512, .f32⟩
  | .hbm, ⟨23, _⟩ => ⟨S6144x512, .f32⟩
  | .hbm, ⟨24, _⟩ => ⟨S1x512, .f32⟩
  | .hbm, ⟨25, _⟩ => ⟨S6144x512, .f32⟩
  | .hbm, ⟨26, _⟩ => ⟨S6144x512, .f32⟩
  | .hbm, ⟨27, _⟩ => ⟨S6144x64, .f32⟩
  | .hbm, ⟨28, _⟩ => ⟨S4096x512, .f32⟩
  | .hbm, ⟨29, _⟩ => ⟨S16x256x512, .f32⟩
  | .hbm, ⟨30, _⟩ => ⟨S4096x64, .f32⟩
  | .hbm, ⟨31, _⟩ => ⟨S16x256x64, .f32⟩
  | .hbm, ⟨32, _⟩ => ⟨S6144x128, .f32⟩
  | .hbm, ⟨33, _⟩ => ⟨S1x512x4096, .f32⟩
  | .hbm, ⟨34, _⟩ => ⟨S512x4096, .f32⟩
  | .hbm, ⟨35, _⟩ => ⟨S6144x4096, .f32⟩
  | .hbm, ⟨36, _⟩ => ⟨S6144x4096, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== CacheKv.lean ====
abbrev S2x2x256x512 : Shape := ⟨4, ![2, 2, 256, 512]⟩
abbrev S2x512x4096 : Shape := ⟨3, ![2, 512, 4096]⟩
abbrev S512x4096 : Shape := ⟨2, ![512, 4096]⟩
abbrev S1x1x256x512 : Shape := ⟨4, ![1, 1, 256, 512]⟩
abbrev S1x512x1024 : Shape := ⟨3, ![1, 512, 1024]⟩
abbrev S256x1024 : Shape := ⟨2, ![256, 1024]⟩
abbrev S256x512 : Shape := ⟨2, ![256, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x2x256x512, .f32⟩
  | .hbm, ⟨1, _⟩ => ⟨S2x512x4096, .f32⟩
  | .hbm, ⟨2, _⟩ => ⟨S512x4096, .bf16⟩
  | .local _ .vmem, ⟨0, _⟩ => ⟨S1x1x256x512, .f32⟩
  | .local _ .vmem, ⟨1, _⟩ => ⟨S1x1x256x512, .f32⟩
  | .local _ .vmem, ⟨2, _⟩ => ⟨S1x512x1024, .f32⟩
  | .local _ .vmem, ⟨3, _⟩ => ⟨S1x512x1024, .f32⟩
  | .local _ .vmem, ⟨4, _⟩ => ⟨S256x1024, .bf16⟩
  | .local _ .vmem, ⟨5, _⟩ => ⟨S256x1024, .bf16⟩
  | _, _ => ⟨S2x2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefCacheKvIdeal.lean ====
abbrev S2x2x256x512 : Shape := ⟨4, ![2, 2, 256, 512]⟩
abbrev S2x512x4096 : Shape := ⟨3, ![2, 512, 4096]⟩
abbrev S2x1x256x512 : Shape := ⟨4, ![2, 1, 256, 512]⟩
abbrev S2x256x512 : Shape := ⟨3, ![2, 256, 512]⟩
abbrev S512x512 : Shape := ⟨2, ![512, 512]⟩
abbrev S1x512x4096 : Shape := ⟨3, ![1, 512, 4096]⟩
abbrev S512x4096 : Shape := ⟨2, ![512, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x2x256x512, .f32⟩
  | .hbm, ⟨1, _⟩ => ⟨S2x512x4096, .f32⟩
  | .hbm, ⟨2, _⟩ => ⟨S2x1x256x512, .f32⟩
  | .hbm, ⟨3, _⟩ => ⟨S2x256x512, .f32⟩
  | .hbm, ⟨4, _⟩ => ⟨S512x512, .f32⟩
  | .hbm, ⟨5, _⟩ => ⟨S1x512x4096, .f32⟩
  | .hbm, ⟨6, _⟩ => ⟨S512x4096, .f32⟩
  | .hbm, ⟨7, _⟩ => ⟨S512x4096, .f32⟩
  | .hbm, ⟨8, _⟩ => ⟨S512x4096, .bf16⟩
  | _, _ => ⟨S2x2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Norm.lean ====
abbrev S6144x2048 : Shape := ⟨2, ![6144, 2048]⟩
abbrev S2x2048 : Shape := ⟨2, ![2, 2048]⟩
abbrev S3x1x2048 : Shape := ⟨3, ![3, 1, 2048]⟩
abbrev S1x2048 : Shape := ⟨2, ![1, 2048]⟩
abbrev S2048 : Shape := ⟨1, ![2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S6144x2048, .f32⟩
  | .hbm, ⟨1, _⟩ => ⟨S2x2048, .f32⟩
  | .hbm, ⟨2, _⟩ => ⟨S3x1x2048, .f32⟩
  | .hbm, ⟨3, _⟩ => ⟨S3x1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S6144x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.subi v17 c3_i32
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.subi v17 c3_i32
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefNormIdeal.lean ====
abbrev S6144x2048 : Shape := ⟨2, ![6144, 2048]⟩
abbrev S2x2048 : Shape := ⟨2, ![2, 2048]⟩
abbrev S3x1x2048 : Shape := ⟨3, ![3, 1, 2048]⟩
abbrev S1x2048 : Shape := ⟨2, ![1, 2048]⟩
abbrev S2048 : Shape := ⟨1, ![2048]⟩
abbrev S_ : Shape := ⟨0, ![]⟩
abbrev S6144 : Shape := ⟨1, ![6144]⟩
abbrev S6144x1 : Shape := ⟨2, ![6144, 1]⟩
abbrev S1x1x2048 : Shape := ⟨3, ![1, 1, 2048]⟩
abbrev S16x256x2048 : Shape := ⟨3, ![16, 256, 2048]⟩
abbrev S2x1x2048 : Shape := ⟨3, ![2, 1, 2048]⟩
abbrev S2x1024x2048 : Shape := ⟨3, ![2, 1024, 2048]⟩
abbrev S4096x2048 : Shape := ⟨2, ![4096, 2048]⟩
abbrev S2048x2048 : Shape := ⟨2, ![2048, 2048]⟩

abbrev nBuf : Space → Nat
  | .hbm => 46
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S2x2048, .f32⟩
  | .hbm, ⟨2, _⟩ => ⟨S3x1x2048, .f32⟩
  | .hbm, ⟨3, _⟩ => ⟨S3x1x2048, .f32⟩
  | .hbm, ⟨4, _⟩ => ⟨S1x2048, .f32⟩
  | .hbm, ⟨5, _⟩ => ⟨S2048, .f32⟩
  | .hbm, ⟨6, _⟩ => ⟨S6144x2048, .f32⟩
  | .hbm, ⟨7, _⟩ => ⟨S_, .f32⟩
  | .hbm, ⟨8, _⟩ => ⟨S6144, .f32⟩
  | .hbm, ⟨9, _⟩ => ⟨S6144x1, .f32⟩
  | .hbm, ⟨10, _⟩ => ⟨S_, .f32⟩
  | .hbm, ⟨11, _⟩ => ⟨S6144x1, .f32⟩
  | .hbm, ⟨12, _⟩ => ⟨S6144x1, .f32⟩
  | .hbm, ⟨13, _⟩ => ⟨S_, .f32⟩
  | .hbm, ⟨14, _⟩ => ⟨S6144x1, .f32⟩
  | .hbm, ⟨15, _⟩ => ⟨S6144x1, .f32⟩
  | .hbm, ⟨16, _⟩ => ⟨S6144x1, .f32⟩
  | .hbm, ⟨17, _⟩ => ⟨S6144x2048, .f32⟩
  | .hbm, ⟨18, _⟩ => ⟨S6144x2048, .f32⟩
  | .hbm, ⟨19, _⟩ => ⟨S1x2048, .f32⟩
  | .hbm, ⟨20, _⟩ => ⟨S6144x2048, .f32⟩
  | .hbm, ⟨21, _⟩ => ⟨S6144x2048, .f32⟩
  | .hbm, ⟨22, _⟩ => ⟨S1x1x2048, .f32⟩
  | .hbm, ⟨23, _⟩ => ⟨S1x2048, .f32⟩
  | .hbm, ⟨24, _⟩ => ⟨S1x1x2048, .f32⟩
  | .hbm, ⟨25, _⟩ => ⟨S16x256x2048, .f32⟩
  | .hbm, ⟨26, _⟩ => ⟨S2x1x2048, .f32⟩
  | .hbm, ⟨27, _⟩ => ⟨S2x1024x2048, .f32⟩
  | .hbm, ⟨28, _⟩ => ⟨S4096x2048, .f32⟩
  | .hbm, ⟨29, _⟩ => ⟨S2048x2048, .f32⟩
  | .hbm, ⟨30, _⟩ => ⟨S6144x2048, .f32⟩
  | .hbm, ⟨31, _⟩ => ⟨S_, .f32⟩
  | .hbm, ⟨32, _⟩ => ⟨S6144x2048, .f32⟩
  | .hbm, ⟨33, _⟩ => ⟨S6144x2048, .f32⟩
  | .hbm, ⟨34, _⟩ => ⟨S6144x2048, .f32⟩
  | .hbm, ⟨35, _⟩ => ⟨S1x1x2048, .f32⟩
  | .hbm, ⟨36, _⟩ => ⟨S1x2048, .f32⟩
  | .hbm, ⟨37, _⟩ => ⟨S1x1x2048, .f32⟩
  | .hbm, ⟨38, _⟩ => ⟨S16x256x2048, .f32⟩
  | .hbm, ⟨39, _⟩ => ⟨S2x1x2048, .f32⟩
  | .hbm, ⟨40, _⟩ => ⟨S2x1024x2048, .f32⟩
  | .hbm, ⟨41, _⟩ => ⟨S4096x2048, .f32⟩
  | .hbm, ⟨42, _⟩ => ⟨S2048x2048, .f32⟩
  | .hbm, ⟨43, _⟩ => ⟨S6144x2048, .f32⟩
  | .hbm, ⟨44, _⟩ => ⟨S6144x2048, .f32⟩
  | .hbm, ⟨45, _⟩ => ⟨S6144x2048, .bf16⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== FinalP.lean ====
abbrev S6144x2048 : Shape := ⟨2, ![6144, 2048]⟩
abbrev S2048 : Shape := ⟨1, ![2048]⟩
abbrev S1x2048 : Shape := ⟨2, ![1, 2048]⟩
abbrev S4096x2048 : Shape := ⟨2, ![4096, 2048]⟩
abbrev S1024x2048 : Shape := ⟨2, ![1024, 2048]⟩
abbrev S1024 : Shape := ⟨1, ![1024]⟩
abbrev S1024x1 : Shape := ⟨2, ![1024, 1]⟩
abbrev S16x256x2048 : Shape := ⟨3, ![16, 256, 2048]⟩

abbrev nBuf : Space → Nat
  | .hbm => 5
  | .vmem => 5
  | .smem => 0
  | _ => 0

abbrev bufTy : (tb : Table) → Fin (tcTables nBuf tb) → BufTy
  | .hbm, ⟨0, _⟩ => ⟨S6144x2048, .f32⟩
  | .hbm, ⟨1, _⟩ => ⟨S2048, .f32⟩
  | .hbm, ⟨2, _⟩ => ⟨S1x2048, .f32⟩
  | .hbm, ⟨3, _⟩ => ⟨S4096x2048, .f32⟩
  | .hbm, ⟨4, _⟩ => ⟨S16x256x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefFinalPIdeal.lean ====
abbrev S6144x2048 : Shape := ⟨2, ![6144, 2048]⟩
abbrev S2048 : Shape := ⟨1, ![2048]⟩
abbrev S4096x2048 : Shape := ⟨2, ![4096, 2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S2048, .f32⟩
  | .hbm, ⟨2, _⟩ => ⟨S4096x2048, .f32⟩
  | .hbm, ⟨3, _⟩ => ⟨S16x256x2048, .f32⟩
  | .hbm, ⟨4, _⟩ => ⟨S16x256x2048, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x2048, .f32⟩
  | .hbm, ⟨16, _⟩ => ⟨S16x256x2048, .f32⟩
  | .hbm, ⟨17, _⟩ => ⟨S1x1x2048, .f32⟩
  | .hbm, ⟨18, _⟩ => ⟨S16x256x2048, .f32⟩
  | .hbm, ⟨19, _⟩ => ⟨S16x256x2048, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FinalS.lean ====
abbrev S6144x2048 : Shape := ⟨2, ![6144, 2048]⟩
abbrev S2048 : Shape := ⟨1, ![2048]⟩
abbrev S1x2048 : Shape := ⟨2, ![1, 2048]⟩
abbrev S2048x2048 : Shape := ⟨2, ![2048, 2048]⟩
abbrev S1024x2048 : Shape := ⟨2, ![1024, 2048]⟩
abbrev S1024 : Shape := ⟨1, ![1024]⟩
abbrev S1024x1 : Shape := ⟨2, ![1024, 1]⟩
abbrev S2x1024x2048 : Shape := ⟨3, ![2, 1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S6144x2048, .f32⟩
  | .hbm, ⟨1, _⟩ => ⟨S2048, .f32⟩
  | .hbm, ⟨2, _⟩ => ⟨S1x2048, .f32⟩
  | .hbm, ⟨3, _⟩ => ⟨S2048x2048, .f32⟩
  | .hbm, ⟨4, _⟩ => ⟨S2x1024x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefFinalSIdeal.lean ====
abbrev S6144x2048 : Shape := ⟨2, ![6144, 2048]⟩
abbrev S2048 : Shape := ⟨1, ![2048]⟩
abbrev S2048x2048 : Shape := ⟨2, ![2048, 2048]⟩
abbrev S2x1024x2048 : Shape := ⟨3, ![2, 1024, 2048]⟩
abbrev S_ : Shape := ⟨0, ![]⟩
abbrev S2x1024 : Shape := ⟨2, ![2, 1024]⟩
abbrev S2x1024x1 : Shape := ⟨3, ![2, 1024, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S2048, .f32⟩
  | .hbm, ⟨2, _⟩ => ⟨S2048x2048, .f32⟩
  | .hbm, ⟨3, _⟩ => ⟨S2x1024x2048, .f32⟩
  | .hbm, ⟨4, _⟩ => ⟨S2x1024x2048, .f32⟩
  | .hbm, ⟨5, _⟩ => ⟨S_, .f32⟩
  | .hbm, ⟨6, _⟩ => ⟨S2x1024, .f32⟩
  | .hbm, ⟨7, _⟩ => ⟨S2x1024x1, .f32⟩
  | .hbm, ⟨8, _⟩ => ⟨S_, .f32⟩
  | .hbm, ⟨9, _⟩ => ⟨S2x1024x1, .f32⟩
  | .hbm, ⟨10, _⟩ => ⟨S2x1024x1, .f32⟩
  | .hbm, ⟨11, _⟩ => ⟨S_, .f32⟩
  | .hbm, ⟨12, _⟩ => ⟨S2x1024x1, .f32⟩
  | .hbm, ⟨13, _⟩ => ⟨S2x1024x1, .f32⟩
  | .hbm, ⟨14, _⟩ => ⟨S2x1024x1, .f32⟩
  | .hbm, ⟨15, _⟩ => ⟨S2x1024x2048, .f32⟩
  | .hbm, ⟨16, _⟩ => ⟨S2x1024x2048, .f32⟩
  | .hbm, ⟨17, _⟩ => ⟨S1x1x2048, .f32⟩
  | .hbm, ⟨18, _⟩ => ⟨S2x1024x2048, .f32⟩
  | .hbm, ⟨19, _⟩ => ⟨S2x1024x2048, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Modu.lean ====
abbrev S2x2048 : Shape := ⟨2, ![2, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S1x3x12288 : Shape := ⟨3, ![1, 3, 12288]⟩
abbrev S3x12288 : Shape := ⟨2, ![3, 12288]⟩

abbrev nBuf : Space → Nat
  | .hbm => 12
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .hbm, ⟨10, _⟩ => ⟨S1x3x12288, .f32⟩
  | .hbm, ⟨11, _⟩ => ⟨S3x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefModuIdeal.lean ====
abbrev S2x2048 : Shape := ⟨2, ![2, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S3x2048 : Shape := ⟨2, ![3, 2048]⟩
abbrev S_ : Shape := ⟨0, ![]⟩
abbrev S1x2048x12288 : Shape := ⟨3, ![1, 2048, 12288]⟩
abbrev S2048x12288 : Shape := ⟨2, ![2048, 12288]⟩
abbrev S3x12288 : Shape := ⟨2, ![3, 12288]⟩
abbrev S1x12288 : Shape := ⟨2, ![1, 12288]⟩
abbrev S12288 : Shape := ⟨1, ![12288]⟩

abbrev nBuf : Space → Nat
  | .hbm => 23
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S_, .f32⟩
  | .hbm, ⟨9, _⟩ => ⟨S3x2048, .f32⟩
  | .hbm, ⟨10, _⟩ => ⟨S3x2048, .f32⟩
  | .hbm, ⟨11, _⟩ => ⟨S_, .f32⟩
  | .hbm, ⟨12, _⟩ => ⟨S3x2048, .f32⟩
  | .hbm, ⟨13, _⟩ => ⟨S3x2048, .f32⟩
  | .hbm, ⟨14, _⟩ => ⟨S3x2048, .f32⟩
  | .hbm, ⟨15, _⟩ => ⟨S1x2048x12288, .f32⟩
  | .hbm, ⟨16, _⟩ => ⟨S2048x12288, .f32⟩
  | .hbm, ⟨17, _⟩ => ⟨S3x12288, .f32⟩
  | .hbm, ⟨18, _⟩ => ⟨S1x12288, .f32⟩
  | .hbm, ⟨19, _⟩ => ⟨S12288, .f32⟩
  | .hbm, ⟨20, _⟩ => ⟨S1x12288, .f32⟩
  | .hbm, ⟨21, _⟩ => ⟨S3x12288, .f32⟩
  | .hbm, ⟨22, _⟩ => ⟨S3x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Attn.lean ====
abbrev S6144x3072 : Shape := ⟨2, ![6144, 3072]⟩
abbrev S6144x4096 : Shape := ⟨2, ![6144, 4096]⟩
abbrev S6144x128 : Shape := ⟨2, ![6144, 128]⟩
abbrev S512x4096 : Shape := ⟨2, ![512, 4096]⟩
abbrev S2x2x256x64 : Shape := ⟨4, ![2, 2, 256, 64]⟩
abbrev S1024x16 : Shape := ⟨2, ![1024, 16]⟩
abbrev S6144x16x192 : Shape := ⟨3, ![6144, 16, 192]⟩
abbrev S6144x16x128 : Shape := ⟨3, ![6144, 16, 128]⟩
abbrev S6144x2048 : Shape := ⟨2, ![6144, 2048]⟩
abbrev S6144x16x64 : Shape := ⟨3, ![6144, 16, 64]⟩
abbrev S6144x1024 : Shape := ⟨2, ![6144, 1024]⟩
abbrev S_ : Shape := ⟨0, ![]⟩
abbrev S2x2x256x128 : Shape := ⟨4, ![2, 2, 256, 128]⟩
abbrev S1024x64 : Shape := ⟨2, ![1024, 64]⟩
abbrev S2x1x256x128 : Shape := ⟨4, ![2, 1, 256, 128]⟩
abbrev S2x256x128 : Shape := ⟨3, ![2, 256, 128]⟩
abbrev S1x1024x1x64 : Shape := ⟨4, ![1, 1024, 1, 64]⟩
abbrev S1x1024x2x64 : Shape := ⟨4, ![1, 1024, 2, 64]⟩
abbrev S1024x128 : Shape := ⟨2, ![1024, 128]⟩
abbrev S256x3072 : Shape := ⟨2, ![256, 3072]⟩
abbrev S256x4096 : Shape := ⟨2, ![256, 4096]⟩
abbrev S256x128 : Shape := ⟨2, ![256, 128]⟩
abbrev S1024x4096 : Shape := ⟨2, ![1024, 4096]⟩
abbrev S1x256x128 : Shape := ⟨3, ![1, 256, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1024x256 : Shape := ⟨2, ![1024, 256]⟩
abbrev S256x1024 : Shape := ⟨2, ![256, 1024]⟩

abbrev nBuf : Space → Nat
  | .hbm => 31
  | .vmem => 22
  | .smem => 0
  | _ => 0

abbrev bufTy : (tb : Table) → Fin (tcTables nBuf tb) → BufTy
  | .hbm, ⟨0, _⟩ => ⟨S6144x3072, .bf16⟩
  | .hbm, ⟨1, _⟩ => ⟨S6144x4096, .bf16⟩
  | .hbm, ⟨2, _⟩ => ⟨S6144x128, .f32⟩
  | .hbm, ⟨3, _⟩ => ⟨S512x4096, .bf16⟩
  | .hbm, ⟨4, _⟩ => ⟨S2x2x256x64, .f32⟩
  | .hbm, ⟨5, _⟩ => ⟨S1024x16, .f32⟩
  | .hbm, ⟨6, _⟩ => ⟨S1024x16, .f32⟩
  | .hbm, ⟨7, _⟩ => ⟨S1024x16, .f32⟩
  | .hbm, ⟨8, _⟩ => ⟨S1024x16, .f32⟩
  | .hbm, ⟨9, _⟩ => ⟨S6144x16x192, .bf16⟩
  | .hbm, ⟨10, _⟩ => ⟨S6144x16x128, .bf16⟩
  | .hbm, ⟨11, _⟩ => ⟨S6144x2048, .bf16⟩
  | .hbm, ⟨12, _⟩ => ⟨S6144x16x64, .bf16⟩
  | .hbm, ⟨13, _⟩ => ⟨S6144x1024, .bf16⟩
  | .hbm, ⟨14, _⟩ => ⟨S6144x3072, .bf16⟩
  | .hbm, ⟨15, _⟩ => ⟨S_, .i32⟩
  | .hbm, ⟨16, _⟩ => ⟨S_, .f32⟩
  | .hbm, ⟨17, _⟩ => ⟨S2x2x256x128, .f32⟩
  | .hbm, ⟨18, _⟩ => ⟨S1024x64, .f32⟩
  | .hbm, ⟨19, _⟩ => ⟨S1024x16, .f32⟩
  | .hbm, ⟨20, _⟩ => ⟨S1024x16, .f32⟩
  | .hbm, ⟨21, _⟩ => ⟨S1024x64, .f32⟩
  | .hbm, ⟨22, _⟩ => ⟨S2x1x256x128, .f32⟩
  | .hbm, ⟨23, _⟩ => ⟨S2x256x128, .f32⟩
  | .hbm, ⟨24, _⟩ => ⟨S1x1024x1x64, .f32⟩
  | .hbm, ⟨25, _⟩ => ⟨S1x1024x2x64, .f32⟩
  | .hbm, ⟨26, _⟩ => ⟨S1024x128, .f32⟩
  | .hbm, ⟨27, _⟩ => ⟨S1x1024x1x64, .f32⟩
  | .hbm, ⟨28, _⟩ => ⟨S1x1024x2x64, .f32⟩
  | .hbm, ⟨29, _⟩ => ⟨S1024x128, .f32⟩
  | .hbm, ⟨30, _⟩ => ⟨S6144x2048, .bf16⟩
  | .local _ .vmem, ⟨0, _⟩ => ⟨S256x3072, .bf16⟩
  | .local _ .vmem, ⟨1, _⟩ => ⟨S256x3072, .bf16⟩
  | .local _ .vmem, ⟨2, _⟩ => ⟨S256x4096, .bf16⟩
  | .local _ .vmem, ⟨3, _⟩ => ⟨S256x4096, .bf16⟩
  | .local _ .vmem, ⟨4, _⟩ => ⟨S256x128, .f32⟩
  | .local _ .vmem, ⟨5, _⟩ => ⟨S256x128, .f32⟩
  | .local _ .vmem, ⟨6, _⟩ => ⟨S1024x4096, .bf16⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S256x4096, .bf16⟩
  | .local _ .vmem, ⟨11, _⟩ => ⟨S256x4096, .bf16⟩
  | .local _ .vmem, ⟨12, _⟩ => ⟨S1x256x128, .f32⟩
  | .local _ .vmem, ⟨13, _⟩ => ⟨S1x256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1024x128, .f32⟩
  | .local _ .vmem, ⟨19, _⟩ => ⟨S1024x128, .f32⟩
  | .local _ .vmem, ⟨20, _⟩ => ⟨S256x2048, .bf16⟩
  | .local _ .vmem, ⟨21, _⟩ => ⟨S256x2048, .bf16⟩
  | _, _ => ⟨S6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.addi c4_i32_5 v18
  let c0_i32_6 : BitVec 32 := 0#32
  let c0_i32_7 : BitVec 32 := 0#32
  ![v19.toNat, c0_i32_6.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.addi c4_i32_5 v18
  let c0_i32_6 : BitVec 32 := 0#32
  let c0_i32_7 : BitVec 32 := 0#32
  ![v19.toNat, c0_i32_6.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  ![v18.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnIdeal.lean ====
variable {F : FTy → Type} [FloatOps F] [Named F]
def κ : String → Option EReal := fun
  | "scale_log2" => some (((Real.sqrt 192)⁻¹ * (Real.log 2)⁻¹ : ℝ) : EReal)
  | _ => none
-- ==== RefAttnIdeal.lean ====
abbrev S6144x3072 : Shape := ⟨2, ![6144, 3072]⟩
abbrev S6144x4096 : Shape := ⟨2, ![6144, 4096]⟩
abbrev S6144x128 : Shape := ⟨2, ![6144, 128]⟩
abbrev S512x4096 : Shape := ⟨2, ![512, 4096]⟩
abbrev S2x2x256x64 : Shape := ⟨4, ![2, 2, 256, 64]⟩
abbrev S1024x16 : Shape := ⟨2, ![1024, 16]⟩
abbrev S4096x3072 : Shape := ⟨2, ![4096, 3072]⟩
abbrev S16x256x3072 : Shape := ⟨3, ![16, 256, 3072]⟩
abbrev S2048x3072 : Shape := ⟨2, ![2048, 3072]⟩
abbrev S2x1024x3072 : Shape := ⟨3, ![2, 1024, 3072]⟩
abbrev S4096x4096 : Shape := ⟨2, ![4096, 4096]⟩
abbrev S16x256x4096 : Shape := ⟨3, ![16, 256, 4096]⟩
abbrev S2048x4096 : Shape := ⟨2, ![2048, 4096]⟩
abbrev S2x1024x4096 : Shape := ⟨3, ![2, 1024, 4096]⟩
abbrev S6144x64 : Shape := ⟨2, ![6144, 64]⟩
abbrev S4096x64 : Shape := ⟨2, ![4096, 64]⟩
abbrev S16x256x64 : Shape := ⟨3, ![16, 256, 64]⟩
abbrev S2048x64 : Shape := ⟨2, ![2048, 64]⟩
abbrev S2x1024x64 : Shape := ⟨3, ![2, 1024, 64]⟩
abbrev S16x256x16x192 : Shape := ⟨4, ![16, 256, 16, 192]⟩
abbrev S2x1024x16x192 : Shape := ⟨4, ![2, 1024, 16, 192]⟩
abbrev S16x256x16x256 : Shape := ⟨4, ![16, 256, 16, 256]⟩
abbrev S2x1024x16x256 : Shape := ⟨4, ![2, 1024, 16, 256]⟩
abbrev S2x256x16x256 : Shape := ⟨4, ![2, 256, 16, 256]⟩
abbrev S16x256x1x64 : Shape := ⟨4, ![16, 256, 1, 64]⟩
abbrev S16x256x16x64 : Shape := ⟨4, ![16, 256, 16, 64]⟩
abbrev S16x256x16x128 : Shape := ⟨4, ![16, 256, 16, 128]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩
abbrev S16x16x128x256 : Shape := ⟨4, ![16, 16, 128, 256]⟩
abbrev S2x1024x16x128 : Shape := ⟨4, ![2, 1024, 16, 128]⟩
abbrev S2x1024x16x64 : Shape := ⟨4, ![2, 1024, 16, 64]⟩
abbrev S1024x1x16 : Shape := ⟨3, ![1024, 1, 16]⟩
abbrev S2x1024x16x32 : Shape := ⟨4, ![2, 1024, 16, 32]⟩
abbrev S2x1024x16x16 : Shape := ⟨4, ![2, 1024, 16, 16]⟩
abbrev S1x1024x1x16 : Shape := ⟨4, ![1, 1024, 1, 16]⟩
abbrev S2x1024x1x64 : Shape := ⟨4, ![2, 1024, 1, 64]⟩
abbrev S2x1024x1x32 : Shape := ⟨4, ![2, 1024, 1, 32]⟩
abbrev S2x1024x1x16 : Shape := ⟨4, ![2, 1024, 1, 16]⟩
abbrev S2x1x256x64 : Shape := ⟨4, ![2, 1, 256, 64]⟩
abbrev S2x256x64 : Shape := ⟨3, ![2, 256, 64]⟩
abbrev S2x256x1x64 : Shape := ⟨4, ![2, 256, 1, 64]⟩
abbrev S2x256x16x64 : Shape := ⟨4, ![2, 256, 16, 64]⟩
abbrev S2x256x16x128 : Shape := ⟨4, ![2, 256, 16, 128]⟩
abbrev S2x256x16x192 : Shape := ⟨4, ![2, 256, 16, 192]⟩
abbrev S2x1280x16x192 : Shape := ⟨4, ![2, 1280, 16, 192]⟩
abbrev S2x1280x16x128 : Shape := ⟨4, ![2, 1280, 16, 128]⟩
abbrev S2x16x1024x1280 : Shape := ⟨4, ![2, 16, 1024, 1280]⟩
abbrev S2x16x1024 : Shape := ⟨3, ![2, 16, 1024]⟩
abbrev S2x16x1024x1 : Shape := ⟨4, ![2, 16, 1024, 1]⟩
abbrev S2x16x128x1024 : Shape := ⟨4, ![2, 16, 128, 1024]⟩
abbrev S16x256x2048 : Shape := ⟨3, ![16, 256, 2048]⟩
abbrev S2x1024x2048 : Shape := ⟨3, ![2, 1024, 2048]⟩
abbrev S4096x2048 : Shape := ⟨2, ![4096, 2048]⟩
abbrev S2048x2048 : Shape := ⟨2, ![2048, 2048]⟩
abbrev S6144x2048 : Shape := ⟨2, ![6144, 2048]⟩

abbrev nBuf : Space → Nat
  | .hbm => 176
  | .vmem => 0
  | .smem => 0
  | _ => 0

abbrev hbmTy0_0 (i : Nat) : BufTy := match i % 128 with
  | 0 => ⟨S6144x3072, .bf16⟩
  | 1 => ⟨S6144x4096, .bf16⟩
  | 2 => ⟨S6144x128, .f32⟩
  | 3 => ⟨S512x4096, .bf16⟩
  | 4 => ⟨S2x2x256x64, .f32⟩
  | 5 => ⟨S1024x16, .f32⟩
  | 6 => ⟨S1024x16, .f32⟩
  | 7 => ⟨S1024x16, .f32⟩
  | 8 => ⟨S1024x16, .f32⟩
  | 9 => ⟨S6144x3072, .f32⟩
  | 10 => ⟨S4096x3072, .f32⟩
  | 11 => ⟨S16x256x3072, .f32⟩
  | 12 => ⟨S2048x3072, .f32⟩
  | 13 => ⟨S2x1024x3072, .f32⟩
  | 14 => ⟨S6144x4096, .f32⟩
  | 15 => ⟨S4096x4096, .f32⟩
  | 16 => ⟨S16x256x4096, .f32⟩
  | 17 => ⟨S2048x4096, .f32⟩
  | 18 => ⟨S2x1024x4096, .f32⟩
  | 19 => ⟨S6144x64, .f32⟩
  | 20 => ⟨S4096x64, .f32⟩
  | 21 => ⟨S16x256x64, .f32⟩
  | 22 => ⟨S2048x64, .f32⟩
  | 23 => ⟨S2x1024x64, .f32⟩
  | 24 => ⟨S16x256x16x192, .f32⟩
  | 25 => ⟨S2x1024x16x192, .f32⟩
  | 26 => ⟨S16x256x16x256, .f32⟩
  | 27 => ⟨S2x1024x16x256, .f32⟩
  | 28 => ⟨S512x4096, .f32⟩
  | 29 => ⟨S2x256x16x256, .f32⟩
  | 30 => ⟨S16x256x1x64, .f32⟩
  | 31 => ⟨S16x256x16x64, .f32⟩
  | 32 => ⟨S16x256x16x128, .f32⟩
  | 33 => ⟨S16x256x16x192, .f32⟩
  | 34 => ⟨S16x256x16x128, .f32⟩
  | 35 => ⟨S16x16x256x256, .f32⟩
  | 36 => ⟨S_, .f32⟩
  | 37 => ⟨S_, .f32⟩
  | 38 => ⟨S16x16x256x256, .f32⟩
  | 39 => ⟨S16x16x256x256, .f32⟩
  | 40 => ⟨S_, .f32⟩
  | 41 => ⟨S16x16x256, .f32⟩
  | 42 => ⟨S16x16x256x1, .f32⟩
  | 43 => ⟨S16x16x256x256, .f32⟩
  | 44 => ⟨S16x16x256x256, .f32⟩
  | 45 => ⟨S16x16x256x256, .f32⟩
  | 46 => ⟨S_, .f32⟩
  | 47 => ⟨S16x16x256, .f32⟩
  | 48 => ⟨S16x16x256x1, .f32⟩
  | 49 => ⟨S16x16x256x256, .f32⟩
  | 50 => ⟨S16x16x256x256, .f32⟩
  | 51 => ⟨S16x16x128x256, .f32⟩
  | 52 => ⟨S16x256x16x128, .f32⟩
  | 53 => ⟨S2x1024x16x128, .f32⟩
  | 54 => ⟨S2x1024x16x64, .f32⟩
  | 55 => ⟨S1024x1x16, .f32⟩
  | 56 => ⟨S1024x1x16, .f32⟩
  | 57 => ⟨S1024x1x16, .f32⟩
  | 58 => ⟨S1024x1x16, .f32⟩
  | 59 => ⟨S2x1024x16x32, .f32⟩
  | 60 => ⟨S2x1024x16x16, .f32⟩
  | 61 => ⟨S2x1024x16x16, .f32⟩
  | 62 => ⟨S1x1024x1x16, .f32⟩
  | 63 => ⟨S2x1024x16x16, .f32⟩
  | 64 => ⟨S2x1024x16x16, .f32⟩
  | 65 => ⟨S1x1024x1x16, .f32⟩
  | 66 => ⟨S2x1024x16x16, .f32⟩
  | 67 => ⟨S2x1024x16x16, .f32⟩
  | 68 => ⟨S2x1024x16x16, .f32⟩
  | 69 => ⟨S1x1024x1x16, .f32⟩
  | 70 => ⟨S2x1024x16x16, .f32⟩
  | 71 => ⟨S2x1024x16x16, .f32⟩
  | 72 => ⟨S1x1024x1x16, .f32⟩
  | 73 => ⟨S2x1024x16x16, .f32⟩
  | 74 => ⟨S2x1024x16x16, .f32⟩
  | 75 => ⟨S2x1024x16x16, .f32⟩
  | 76 => ⟨S2x1024x16x32, .f32⟩
  | 77 => ⟨S2x1024x16x32, .f32⟩
  | 78 => ⟨S2x1024x16x16, .f32⟩
  | 79 => ⟨S2x1024x16x16, .f32⟩
  | 80 => ⟨S1x1024x1x16, .f32⟩
  | 81 => ⟨S2x1024x16x16, .f32⟩
  | 82 => ⟨S2x1024x16x16, .f32⟩
  | 83 => ⟨S1x1024x1x16, .f32⟩
  | 84 => ⟨S2x1024x16x16, .f32⟩
  | 85 => ⟨S2x1024x16x16, .f32⟩
  | 86 => ⟨S2x1024x16x16, .f32⟩
  | 87 => ⟨S1x1024x1x16, .f32⟩
  | 88 => ⟨S2x1024x16x16, .f32⟩
  | 89 => ⟨S2x1024x16x16, .f32⟩
  | 90 => ⟨S1x1024x1x16, .f32⟩
  | 91 => ⟨S2x1024x16x16, .f32⟩
  | 92 => ⟨S2x1024x16x16, .f32⟩
  | 93 => ⟨S2x1024x16x16, .f32⟩
  | 94 => ⟨S2x1024x16x32, .f32⟩
  | 95 => ⟨S2x1024x16x64, .f32⟩
  | 96 => ⟨S2x1024x16x192, .f32⟩
  | 97 => ⟨S2x1024x1x64, .f32⟩
  | 98 => ⟨S1024x1x16, .f32⟩
  | 99 => ⟨S1024x1x16, .f32⟩
  | 100 => ⟨S1024x1x16, .f32⟩
  | 101 => ⟨S1024x1x16, .f32⟩
  | 102 => ⟨S2x1024x1x32, .f32⟩
  | 103 => ⟨S2x1024x1x16, .f32⟩
  | 104 => ⟨S2x1024x1x16, .f32⟩
  | 105 => ⟨S1x1024x1x16, .f32⟩
  | 106 => ⟨S2x1024x1x16, .f32⟩
  | 107 => ⟨S2x1024x1x16, .f32⟩
  | 108 => ⟨S1x1024x1x16, .f32⟩
  | 109 => ⟨S2x1024x1x16, .f32⟩
  | 110 => ⟨S2x1024x1x16, .f32⟩
  | 111 => ⟨S2x1024x1x16, .f32⟩
  | 112 => ⟨S1x1024x1x16, .f32⟩
  | 113 => ⟨S2x1024x1x16, .f32⟩
  | 114 => ⟨S2x1024x1x16, .f32⟩
  | 115 => ⟨S1x1024x1x16, .f32⟩
  | 116 => ⟨S2x1024x1x16, .f32⟩
  | 117 => ⟨S2x1024x1x16, .f32⟩
  | 118 => ⟨S2x1024x1x16, .f32⟩
  | 119 => ⟨S2x1024x1x32, .f32⟩
  | 120 => ⟨S2x1024x1x32, .f32⟩
  | 121 => ⟨S2x1024x1x16, .f32⟩
  | 122 => ⟨S2x1024x1x16, .f32⟩
  | 123 => ⟨S1x1024x1x16, .f32⟩
  | 124 => ⟨S2x1024x1x16, .f32⟩
  | 125 => ⟨S2x1024x1x16, .f32⟩
  | 126 => ⟨S1x1024x1x16, .f32⟩
  | 127 => ⟨S2x1024x1x16, .f32⟩
  | _ => ⟨S6144x3072, .bf16⟩

abbrev hbmTy0_1 (i : Nat) : BufTy := match i % 128 with
  | 0 => ⟨S2x1024x1x16, .f32⟩
  | 1 => ⟨S2x1024x1x16, .f32⟩
  | 2 => ⟨S1x1024x1x16, .f32⟩
  | 3 => ⟨S2x1024x1x16, .f32⟩
  | 4 => ⟨S2x1024x1x16, .f32⟩
  | 5 => ⟨S1x1024x1x16, .f32⟩
  | 6 => ⟨S2x1024x1x16, .f32⟩
  | 7 => ⟨S2x1024x1x16, .f32⟩
  | 8 => ⟨S2x1024x1x16, .f32⟩
  | 9 => ⟨S2x1024x1x32, .f32⟩
  | 10 => ⟨S2x1024x1x64, .f32⟩
  | 11 => ⟨S2x1024x16x64, .f32⟩
  | 12 => ⟨S2x1024x16x128, .f32⟩
  | 13 => ⟨S2x1024x16x192, .f32⟩
  | 14 => ⟨S2x1024x16x128, .f32⟩
  | 15 => ⟨S2x1x256x64, .f32⟩
  | 16 => ⟨S2x256x64, .f32⟩
  | 17 => ⟨S2x256x1x64, .f32⟩
  | 18 => ⟨S2x256x16x64, .f32⟩
  | 19 => ⟨S2x256x16x128, .f32⟩
  | 20 => ⟨S2x256x16x192, .f32⟩
  | 21 => ⟨S2x256x16x128, .f32⟩
  | 22 => ⟨S2x1280x16x192, .f32⟩
  | 23 => ⟨S2x1280x16x128, .f32⟩
  | 24 => ⟨S2x16x1024x1280, .f32⟩
  | 25 => ⟨S_, .f32⟩
  | 26 => ⟨S_, .f32⟩
  | 27 => ⟨S2x16x1024x1280, .f32⟩
  | 28 => ⟨S2x16x1024x1280, .f32⟩
  | 29 => ⟨S_, .f32⟩
  | 30 => ⟨S2x16x1024, .f32⟩
  | 31 => ⟨S2x16x1024x1, .f32⟩
  | 32 => ⟨S2x16x1024x1280, .f32⟩
  | 33 => ⟨S2x16x1024x1280, .f32⟩
  | 34 => ⟨S2x16x1024x1280, .f32⟩
  | 35 => ⟨S_, .f32⟩
  | 36 => ⟨S2x16x1024, .f32⟩
  | 37 => ⟨S2x16x1024x1, .f32⟩
  | 38 => ⟨S2x16x1024x1280, .f32⟩
  | 39 => ⟨S2x16x1024x1280, .f32⟩
  | 40 => ⟨S2x16x128x1024, .f32⟩
  | 41 => ⟨S2x1024x16x128, .f32⟩
  | 42 => ⟨S16x256x2048, .f32⟩
  | 43 => ⟨S2x1024x2048, .f32⟩
  | 44 => ⟨S4096x2048, .f32⟩
  | 45 => ⟨S2048x2048, .f32⟩
  | 46 => ⟨S6144x2048, .f32⟩
  | 47 => ⟨S6144x2048, .bf16⟩
  | _ => ⟨S6144x3072, .bf16⟩

abbrev hbmTy (i : Nat) : BufTy := match i / 128 with
  | 0 => hbmTy0_0 i
  | 1 => hbmTy0_1 i
  | _ => ⟨S6144x3072, .bf16⟩

abbrev bufTy : (tb : Table) → Fin (tcTables nBuf tb) → BufTy
  | .hbm, ⟨i, _⟩ => hbmTy i
  | _, _ => ⟨S6144x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_cst_2 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_cst_3 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_cst_4 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩

abbrev nD : Nat := 1
abbrev τ : Topo := Topo.v7x

variable {F : FTy → Type} [FloatOps F]
-- ==== Proof.Tail.Value.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Tail

open Idealize.ShloMosaic Idealize.ShloMosaic.TcCoe Idealize.SL.Sem
open Cert.KernelIdeal Cert.KernelIdeal.Gen

/-- The tail projection: row `i 0` of the activations times column `4416 + i 1` of layer 1's weights. -/
def G (h : S6144x2048.Idx → EReal) (w : S2x2048x12608.Idx → EReal) : S6144x8192.Idx → EReal :=
  fun i => ∑ k : Fin 2048, h (ix2 (i 0) k) * w (ix3 1 k ⟨4416 + (i 1).val, by have := (i 1).isLt; have e : S6144x8192.size 1 = 8192 := rfl; omega⟩)

variable (m : (ℓ : Loc nD τ sig) → Buf (Elt Ideal) ℓ)

/-- The three windows' offsets at a point of the grid. -/
theorem idx : ∀ t : Fin cfg0.N, win0_0.index t = ![(grid0.coords t 0).val, 0] ∧
    win0_1.index t = ![17024 + 512 * (grid0.coords t 1).val, 0] ∧
    win0_2.index t = ![(grid0.coords t 0).val, (grid0.coords t 1).val] :=
  (by decide +kernel : ∀ t : Fin grid0.N, _)

/-- Element `y` of the weights' window at point `t` is `y` past the window's offset. -/
theorem elem_emb (t : Fin cfg0.N) (y) (a) :
    ((((View.whole main_v1).slice (win0_1.rect t)).emb y a : Fin _) : ℕ) = win0_1.index t a + (y a).val := by
  exact Pipeline.Window.rect_emb_val_off win0_1 t y a

/-- The array the kernel writes back. -/
theorem kernel_value (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have hb : (grid0.coords t 1).val < 16 := (grid0.coords t 1).isLt
  pointwise [k0_pay1, G]
  blk_point [iblk, V, idx t]
  · exact (by omega : ∀ n : ℕ, n = 17024 + 512 * (grid0.coords t 1).val + y1.val → n / 12608 = 1) _
      ((elem_emb t (ix2 y1 x) 0).trans (by rw [e1]; rfl))
  · exact (elem_emb t (ix2 y1 x) 1).trans (by rw [e1]; exact Nat.zero_add _)
  · exact (by omega : ∀ n : ℕ, n = 17024 + 512 * (grid0.coords t 1).val + y1.val →
        n % 12608 = 4416 + ((grid0.coords t 1).val * 512 + y1.val)) _
      ((elem_emb t (ix2 y1 x) 0).trans (by rw [e1]; rfl))

/-- The reference's term is the same array. -/
theorem ref_value (h : FVec Ideal S6144x2048 .bf16) (w : FVec Ideal S2x2048x12608 .f32) :
    truncf (F := Ideal) .bf16 (extractStridedSlice ReferenceIdeal.S6144x8192 ![0, 4416] (Host.dotGeneral (F := Ideal) ReferenceIdeal.dot_S6144x2048_S2048x12608_S6144x12608_1_0_0_1_n_n none (extf .f32 h ReferenceIdeal.Facts₀.bitsLt_bf16_f32) (shapeCast _ (extractStridedSlice ReferenceIdeal.S1x2048x12608 ![1, 0, 0] w ReferenceIdeal.Facts₀.slices_S2x2048x12608_S1x2048x12608_1_0_0) ReferenceIdeal.Facts₀.shapeCasts_S1x2048x12608_S2048x12608)) ReferenceIdeal.Facts₀.slices_S6144x12608_S6144x8192_0_4416) ReferenceIdeal.Facts₀.bitsLt_bf16_f32 = G h w := by
  funext i
  idx_vars i
  pointwise [G]

end Cert.Tail
-- ==== Proof.Common.Sigmoid.lean ====
module

public import Idealize.ShloMosaic.Lib.Pointwise
public import Idealize.ShloMosaic.Lib.IdealHost

@[expose] public section

noncomputable section

namespace Cert.Common

open Idealize.ShloMosaic

/-- The 32-bit pattern of one half. -/
theorem ofBits_half : Ideal.ofBits .f32 0x3F000000#32 = ((1 / 2 : ℝ) : EReal) := by
  simp [Ideal.ofBits, Ideal.ieee, -EReal.coe_mul]
  norm_num

/-- `(1 + tanh (x/2)) / 2` is the logistic function, on the reals. -/
theorem half_tanh_real (r : ℝ) : (1 / 2 : ℝ) * Real.tanh (1 / 2 * r) + 1 / 2 = (1 + Real.exp (-r))⁻¹ := by
  have hp : 0 < Real.exp (1 / 2 * r) := Real.exp_pos _
  have e1 : Real.exp (-r) = (Real.exp (1 / 2 * r) * Real.exp (1 / 2 * r))⁻¹ := by
    rw [← Real.exp_add, ← Real.exp_neg]; congr 1; ring
  rw [Real.tanh_eq_sinh_div_cosh, Real.sinh_eq, Real.cosh_eq, e1, Real.exp_neg]
  field_simp
  ring

/-- The logistic function lies between 0 and 1. -/
theorem logistic_cases (x : EReal) : ∃ s : ℝ, 0 ≤ s ∧ s ≤ 1 ∧ Ideal.logistic x = (s : EReal) ∧
    Ideal.tanh (((1 / 2 : ℝ) : EReal) * x) = ((2 * s - 1 : ℝ) : EReal) := by
  induction x with
  | bot =>
    refine ⟨0, le_rfl, zero_le_one, by simp, ?_⟩
    rw [EReal.coe_mul_bot_of_pos (by norm_num), Ideal.tanh_bot]
    norm_num
  | top =>
    refine ⟨1, zero_le_one, le_rfl, by simp, ?_⟩
    rw [EReal.coe_mul_top_of_pos (by norm_num), Ideal.tanh_top]
    norm_num
  | coe r =>
    refine ⟨(1 + Real.exp (-r))⁻¹, by positivity, ?_, by simp, ?_⟩
    · exact inv_le_one_of_one_le₀ (by linarith [Real.exp_pos (-r)])
    · rw [← EReal.coe_mul, Ideal.tanh_coe, ← half_tanh_real r]
      congr 1
      ring

/-- A gate by `tanh` is a gate by the logistic function. -/
theorem half_tanh (x : EReal) :
    ((1 / 2 : ℝ) : EReal) * Ideal.tanh (((1 / 2 : ℝ) : EReal) * x) + ((1 / 2 : ℝ) : EReal) = Ideal.logistic x := by
  obtain ⟨s, -, -, h1, h2⟩ := logistic_cases x
  rw [h1, h2, ← EReal.coe_mul, ← EReal.coe_add]
  congr 1
  ring

/-- Half of three `tanh` gates' sum is the sum of three logistic gates. -/
theorem half_gates (x y z a b c : EReal) :
    ((1 / 2 : ℝ) : EReal) * ((1 + Ideal.tanh (((1 / 2 : ℝ) : EReal) * x)) * a + (1 + Ideal.tanh (((1 / 2 : ℝ) : EReal) * y)) * b +
      (1 + Ideal.tanh (((1 / 2 : ℝ) : EReal) * z)) * c) =
    Ideal.logistic x * a + Ideal.logistic y * b + Ideal.logistic z * c := by
  have key : ∀ x a : EReal, ((1 / 2 : ℝ) : EReal) * ((1 + Ideal.tanh (((1 / 2 : ℝ) : EReal) * x)) * a) = Ideal.logistic x * a := by
    intro x a
    obtain ⟨s, -, -, h1, h2⟩ := logistic_cases x
    rw [h1, h2, ← mul_assoc, ← EReal.coe_one, ← EReal.coe_add, ← EReal.coe_mul]
    congr 2
    ring
  have hd : ∀ u v : EReal, ((1 / 2 : ℝ) : EReal) * (u + v) = ((1 / 2 : ℝ) : EReal) * u + ((1 / 2 : ℝ) : EReal) * v :=
    fun u v => EReal.left_distrib_of_nonneg_of_ne_top (by norm_num) (EReal.coe_ne_top _) u v
  rw [hd, hd, key, key, key]

end Cert.Common
-- ==== Proof.Common.Conv.lean ====
module

public import Idealize.ShloMosaic.Lib.Pipeline.ValueKit
public import Idealize.ShloMosaic.Lib.Pointwise

/-! # Small facts for the three-tap convolutions -/

@[expose] public section

namespace Cert.Common

open Idealize.ShloMosaic

/-- Choosing by a row's number is choosing by the number itself. -/
theorem select_row {α : Type} (r k : ℕ) (hr : r < 4096) (hk : k < 4096) (a b : α) :
    Scalar.select (IntOp.cmpi CmpIPredicate.eq (BitVec.ofNat 32 r) (BitVec.ofNat 32 k)) a b = if r = k then a else b := by
  have e : (BitVec.ofNat 32 r = BitVec.ofNat 32 k) ↔ r = k := by
    constructor
    · intro h
      have := congrArg BitVec.toNat h
      simp only [BitVec.toNat_ofNat] at this
      omega
    · rintro rfl; rfl
  by_cases h : r = k
  · subst h; simp [Scalar.select, IntOp.cmpi]
  · have h' := mt e.1 h
    have hb : (BitVec.ofNat 32 r == BitVec.ofNat 32 k) = false := beq_eq_false_iff_ne.2 h'
    simp [Scalar.select, IntOp.cmpi, h, hb]

/-- The row before row `R` in its own sequence (the context's of 256 rows, the requests' of 1024), 0 before the first. -/
noncomputable def prevRow (Q : ℕ → EReal) (R : ℕ) : EReal :=
  if (if R < 4096 then R % 256 else R % 1024) = 0 then 0 else Q (R - 1)

/-- The row after row `R` in its own sequence, 0 after the last. -/
noncomputable def nextRow (Q : ℕ → EReal) (R : ℕ) : EReal :=
  if (if R < 4096 then (R + 1) % 256 else (R + 1) % 1024) = 0 then 0 else Q (R + 1)

end Cert.Common
-- ==== Proof.Up.Pieces.lean ====
module

public import proofs.«01_k».proof.Proof.Gen.UpIdeal.Value
public import proofs.«01_k».proof.Proof.Gen.RefUpIdeal.Run
public import Idealize.ShloMosaic.Lib.Pipeline.ValueKit
public import Idealize.ShloMosaic.Lib.Pointwise
public import proofs.«01_k».proof.Proof.Common.Sigmoid
public import proofs.«01_k».proof.Proof.Common.Conv
@[expose] public section

set_option maxRecDepth 16384

noncomputable section

namespace Cert.UpV

open Idealize.ShloMosaic Idealize.ShloMosaic.TcCoe Idealize.SL.Sem
open Cert.UpIdeal Cert.UpIdeal.Gen

/-- The row before row `r` of its own sequence: none at a request's first row, and none (`f` is 0) at a context sequence's. -/
def before (p : S1024x512.Idx → EReal) (f : EReal) (r : Fin 1024) (j : Fin 512) : EReal :=
  if r.val % 256 = 0 then (if r.val % 1024 = 0 then 0 else p (ix2 ⟨r.val - 1, by omega⟩ j) * f) else p (ix2 ⟨r.val - 1, by omega⟩ j)

/-- The row after row `r` of its own sequence, likewise. -/
def after (p : S1024x512.Idx → EReal) (f : EReal) (r : Fin 1024) (j : Fin 512) : EReal :=
  if (r.val + 1) % 256 = 0 then (if (r.val + 1) % 1024 = 0 then 0 else p (ix2 ⟨(r.val + 1) % 1024, by omega⟩ j) * f)
    else p (ix2 ⟨(r.val + 1) % 1024, by omega⟩ j)

/-- Three neighbouring rows under the three weights of their column. -/
def conv (p : S1024x512.Idx → EReal) (w : S3x512.Idx → EReal) (f : EReal) (r : Fin 1024) (j : Fin 512) : EReal :=
  w (ix2 0 j) * before p f r j + w (ix2 1 j) * p (ix2 r j) + w (ix2 2 j) * after p f r j

/-- Rows 0 to 255 of the first convolution. -/
theorem a0 (i : grid0.Coords) (v1 : Vec Ideal S1024x2048 .bf16) (v2 : Vec Ideal S1x2048x512 .f32) (v10 : Vec Ideal S1x3x512 .f32) (r : Fin 256) (j : Fin 512) :
    k0_pay10 (F := Ideal) (k0_pay3 v10) (k0_pay6 v1 v2) (k0_pay7 v1 v2) (k0_pay8 i v1 v2) (k0_pay9 v10) (ix2 r j) = conv (k0_pay1 (F := Ideal) v1 v2) (k0_pay3 (F := Ideal) v10) (k0_pay4 (F := Ideal) i) ⟨0 + r.val, by omega⟩ j := by
  pointwise [k0_pay10, k0_pay6, k0_pay7, k0_pay8, k0_pay9, k0_pay5, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 256 to 511 of the first convolution. -/
theorem a1 (p : FVec Ideal S1024x512 .f32) (w : FVec Ideal S3x512 .f32) (f : EReal) (r : Fin 256) (j : Fin 512) :
    k0_pay11 (F := Ideal) p w f (iota .tc S8x512 32 [0] iota_S8x512_d0_w32) (ix2 r j) = conv p w f ⟨256 + r.val, by omega⟩ j := by
  pointwise [k0_pay11, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 512 to 767 of the first convolution. -/
theorem a2 (p : FVec Ideal S1024x512 .f32) (w : FVec Ideal S3x512 .f32) (f : EReal) (r : Fin 256) (j : Fin 512) :
    k0_pay17 (F := Ideal) w f (iota .tc S8x512 32 [0] iota_S8x512_d0_w32) (k0_pay12 p) (k0_pay13 p) (k0_pay14 p) (k0_pay15 p f) (k0_pay16 p) (ix2 r j) = conv p w f ⟨512 + r.val, by omega⟩ j := by
  pointwise [k0_pay17, k0_pay12, k0_pay13, k0_pay14, k0_pay15, k0_pay16, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 0 to 255 of the second convolution. -/
theorem g0 (b : BitVec 1) (p : FVec Ideal S1024x512 .f32) (v10 : Vec Ideal S1x3x512 .f32) (r : Fin 256) (j : Fin 512) :
    k0_pay25 (F := Ideal) b p v10 (ix2 r j) = conv p (k0_pay22 (F := Ideal) v10) (k0_pay23 (F := Ideal) b) ⟨0 + r.val, by omega⟩ j := by
  pointwise [k0_pay25, k0_pay24, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 256 to 511 of the second convolution. -/
theorem g1 (b : BitVec 1) (p : FVec Ideal S1024x512 .f32) (w : FVec Ideal S3x512 .f32) (r : Fin 256) (j : Fin 512) :
    k0_pay31 (F := Ideal) p w (k0_pay23 b) (iota .tc S8x512 32 [0] iota_S8x512_d0_w32) (k0_pay26 p) (k0_pay27 p) (k0_pay28 p) (k0_pay29 p) (k0_pay30 b) (ix2 r j) = conv p w (k0_pay23 (F := Ideal) b) ⟨256 + r.val, by omega⟩ j := by
  pointwise [k0_pay31, k0_pay26, k0_pay27, k0_pay28, k0_pay29, k0_pay30, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Four pieces of a column's rows, one under the other. -/
theorem four (G : Fin 1024 → Fin 512 → EReal) (v0 v1 v2 v3 : FVec Ideal S256x512 .f32)
    (h0 : ∀ (r : Fin 256) (j : Fin 512), v0 (ix2 r j) = G ⟨0 + r.val, by omega⟩ j) (h1 : ∀ (r : Fin 256) (j : Fin 512), v1 (ix2 r j) = G ⟨256 + r.val, by omega⟩ j) (h2 : ∀ (r : Fin 256) (j : Fin 512), v2 (ix2 r j) = G ⟨512 + r.val, by omega⟩ j) (h3 : ∀ (r : Fin 256) (j : Fin 512), v3 (ix2 r j) = G ⟨768 + r.val, by omega⟩ j) (r : Fin 1024) (j : Fin 512) :
    concatenate S1024x512 0 [⟨S256x512, v0⟩, ⟨S256x512, v1⟩, ⟨S256x512, v2⟩, ⟨S256x512, v3⟩] concatenates_S256x512_S256x512_S256x512_S256x512_S1024x512_d0 (ix2 r j) = G r j := by
  pointwise []
  repeat' split
  all_goals simp only [h0, h1, h2, h3]
  all_goals (refine congrArg (G · j) (Fin.ext ?_); simp only; omega)

/-- The first convolution is its four pieces, the last of them written here. -/
theorem first_pieces (p : FVec Ideal S1024x512 .f32) (w : FVec Ideal S3x512 .f32) (f : EReal) (v0 v1 v2 : FVec Ideal S256x512 .f32) :
    ∃ v3 : FVec Ideal S256x512 .f32, k0_pay21 (F := Ideal) w v0 v1 v2 (k0_pay19 p (iota .tc S8x512 32 [0] iota_S8x512_d0_w32) (k0_pay5 (F := Ideal))) (k0_pay20 p w f (iota .tc S8x512 32 [0] iota_S8x512_d0_w32)) = concatenate S1024x512 0 [⟨S256x512, v0⟩, ⟨S256x512, v1⟩, ⟨S256x512, v2⟩, ⟨S256x512, v3⟩] concatenates_S256x512_S256x512_S256x512_S256x512_S1024x512_d0
      ∧ (∀ (r : Fin 256) (j : Fin 512), v3 (ix2 r j) = conv p w f ⟨768 + r.val, by omega⟩ j) := by
  unfold k0_pay21
  refine ⟨_, rfl, fun r j => ?_⟩
  pointwise [k0_pay18, k0_pay19, k0_pay20, k0_pay5, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- The first convolution of the block. -/
theorem first (p : FVec Ideal S1024x512 .f32) (w : FVec Ideal S3x512 .f32) (f : EReal) (v0 v1 v2 : FVec Ideal S256x512 .f32)
    (h0 : ∀ (r : Fin 256) (j : Fin 512), v0 (ix2 r j) = conv p w f ⟨0 + r.val, by omega⟩ j) (h1 : ∀ (r : Fin 256) (j : Fin 512), v1 (ix2 r j) = conv p w f ⟨256 + r.val, by omega⟩ j) (h2 : ∀ (r : Fin 256) (j : Fin 512), v2 (ix2 r j) = conv p w f ⟨512 + r.val, by omega⟩ j) (r : Fin 1024) (j : Fin 512) :
    k0_pay21 (F := Ideal) w v0 v1 v2 (k0_pay19 p (iota .tc S8x512 32 [0] iota_S8x512_d0_w32) (k0_pay5 (F := Ideal))) (k0_pay20 p w f (iota .tc S8x512 32 [0] iota_S8x512_d0_w32)) (ix2 r j) = conv p w f r j := by
  obtain ⟨v3, e, h3⟩ := first_pieces p w f v0 v1 v2
  rw [e]
  exact four (conv p w f) v0 v1 v2 v3 h0 h1 h2 h3 r j

/-- The second convolution is its four pieces too, and the stored block is the gate of the first times it. -/
theorem stored (p A : FVec Ideal S1024x512 .f32) (w : FVec Ideal S3x512 .f32) (f : EReal) (v0 v1 : FVec Ideal S256x512 .f32) :
    ∃ v2 v3 : FVec Ideal S256x512 .f32, k0_pay35 (F := Ideal) p A w f (iota .tc S8x512 32 [0] iota_S8x512_d0_w32) (k0_pay24 (F := Ideal)) v0 v1 (k0_pay32 p) (k0_pay33 p f (iota .tc S8x512 32 [0] iota_S8x512_d0_w32)) (k0_pay34 p f (iota .tc S8x512 32 [0] iota_S8x512_d0_w32))
        = truncf .bf16 (mulf (mulf A (addf (mulf (broadcast S1024x512 (Scalar.ofBits (F := Ideal) .f32 0x3F000000#32)) (tanh (mulf (broadcast S1024x512 (Scalar.ofBits (F := Ideal) .f32 0x3F000000#32)) A))) (broadcast S1024x512 (Scalar.ofBits (F := Ideal) .f32 0x3F000000#32)))) (concatenate S1024x512 0 [⟨S256x512, v0⟩, ⟨S256x512, v1⟩, ⟨S256x512, v2⟩, ⟨S256x512, v3⟩] concatenates_S256x512_S256x512_S256x512_S256x512_S1024x512_d0)) bitsLt_bf16_f32
      ∧ (∀ (r : Fin 256) (j : Fin 512), v2 (ix2 r j) = conv p w f ⟨512 + r.val, by omega⟩ j)
      ∧ (∀ (r : Fin 256) (j : Fin 512), v3 (ix2 r j) = conv p w f ⟨768 + r.val, by omega⟩ j) := by
  unfold k0_pay35
  refine ⟨_, _, rfl, fun r j => ?_, fun r j => ?_⟩
  · pointwise [k0_pay32, k0_pay33, k0_pay34, k0_pay24, conv, before, after]
    refine congrArg₂ (· + ·) (congrArg₂ (· + ·) (congrArg₂ (· * ·) rfl ?_) rfl) (congrArg₂ (· * ·) rfl ?_)
    · split
      · refine (Common.select_row r.val 0 (by omega) (by omega) _ _).trans ?_
        (repeat' split) <;> first | (exfalso; omega) | rfl | (refine congrArg (· * _) ?_; blk_ext) | blk_ext
      · (repeat' split) <;> first | (exfalso; omega) | rfl | (refine congrArg (· * _) ?_; blk_ext) | blk_ext
    · split
      · (repeat' split) <;> first | (exfalso; omega) | rfl | (refine congrArg (· * _) ?_; blk_ext) | blk_ext
      · refine (Common.select_row (r.val - 248) 7 (by omega) (by omega) _ _).trans ?_
        (repeat' split) <;> first | (exfalso; omega) | rfl | (refine congrArg (· * _) ?_; blk_ext) | blk_ext

  · pointwise [k0_pay24, conv, before, after]
    refine congrArg₂ (· + ·) (congrArg₂ (· + ·) (congrArg₂ (· * ·) rfl ?_) rfl) (congrArg₂ (· * ·) rfl ?_)
    · split
      · refine (Common.select_row r.val 0 (by omega) (by omega) _ _).trans ?_
        (repeat' split) <;> first | (exfalso; omega) | rfl | (refine congrArg (· * _) ?_; blk_ext) | blk_ext
      · (repeat' split) <;> first | (exfalso; omega) | rfl | (refine congrArg (· * _) ?_; blk_ext) | blk_ext
    · split
      · (repeat' split) <;> first | (exfalso; omega) | rfl | (refine congrArg (· * _) ?_; blk_ext) | blk_ext
      · refine (Common.select_row (r.val - 248) 7 (by omega) (by omega) _ _).trans ?_
        (repeat' split) <;> first | (exfalso; omega) | rfl | (refine congrArg (· * _) ?_; blk_ext) | blk_ext

/-- The stored block: the first convolution under its own sigmoid, times the second. -/
theorem block (p A : FVec Ideal S1024x512 .f32) (w : FVec Ideal S3x512 .f32) (f : EReal) (v0 v1 : FVec Ideal S256x512 .f32)
    (h0 : ∀ (r : Fin 256) (j : Fin 512), v0 (ix2 r j) = conv p w f ⟨0 + r.val, by omega⟩ j) (h1 : ∀ (r : Fin 256) (j : Fin 512), v1 (ix2 r j) = conv p w f ⟨256 + r.val, by omega⟩ j) (r : Fin 1024) (j : Fin 512) :
    k0_pay35 (F := Ideal) p A w f (iota .tc S8x512 32 [0] iota_S8x512_d0_w32) (k0_pay24 (F := Ideal)) v0 v1 (k0_pay32 p) (k0_pay33 p f (iota .tc S8x512 32 [0] iota_S8x512_d0_w32)) (k0_pay34 p f (iota .tc S8x512 32 [0] iota_S8x512_d0_w32)) (ix2 r j) = A (ix2 r j) * Ideal.logistic (A (ix2 r j)) * conv p w f r j := by
  obtain ⟨v2, v3, e, h2, h3⟩ := stored p A w f v0 v1
  rw [e]
  refine (congrArg₂ (· * ·) (congrArg (A (ix2 r j) * ·) ?_) (four (conv p w f) v0 v1 v2 v3 h0 h1 h2 h3 r j) : (_ : EReal) * _ = _ * _)
  show Ideal.ofBits .f32 0x3F000000#32 * Ideal.tanh (Ideal.ofBits .f32 0x3F000000#32 * A (ix2 r j)) + Ideal.ofBits .f32 0x3F000000#32 = _
  rw [Common.ofBits_half]
  exact Common.half_tanh (A (ix2 r j))

end Cert.UpV
-- ==== Proof.Up.Value.lean ====
module

public import proofs.«01_k».proof.Proof.Gen.UpIdeal.Value
public import proofs.«01_k».proof.Proof.Gen.RefUpIdeal.Run
public import Idealize.ShloMosaic.Lib.Pipeline.ValueKit
public import Idealize.ShloMosaic.Lib.Pointwise
public import proofs.«01_k».proof.Proof.Common.Sigmoid
public import proofs.«01_k».proof.Proof.Up.Pieces
public import Idealize.ShloMosaic.Lib.Claim
@[expose] public section

set_option maxRecDepth 16384

noncomputable section

namespace Cert.UpV

open Idealize.ShloMosaic Idealize.ShloMosaic.TcCoe Idealize.SL.Sem
open Cert.UpIdeal Cert.UpIdeal.Gen

variable (m : (ℓ : Loc nD τ sig) → Buf (Elt Ideal) ℓ)

/-- The windows' blocks at a point of the grid. -/
theorem idx : ∀ t : Fin cfg0.N, win0_0.index t = ![(grid0.coords t 0).val, 0] ∧
    win0_1.index t = ![1, 0, (grid0.coords t 1).val] ∧
    win0_2.index t = ![1, 0, 11 + (grid0.coords t 1).val] ∧
    win0_3.index t = ![1, 0, (grid0.coords t 1).val] ∧
    win0_4.index t = ![1, 0, 11 + (grid0.coords t 1).val] ∧
    win0_5.index t = ![(grid0.coords t 0).val, (grid0.coords t 1).val] :=
  (by decide +kernel : ∀ t : Fin grid0.N, _)

/-- Column `q` of the activations' product with layer 1's weights, by row. -/
def proj (h : S6144x2048.Idx → EReal) (w : S2x2048x11264.Idx → EReal) (q : Fin 11264) (R : ℕ) : EReal :=
  if hR : R < 6144 then ∑ k : Fin 2048, h (ix2 ⟨R, hR⟩ k) * w (ix3 1 k q) else 0

/-- Column `q` of the short convolution of every sequence, by row. -/
def mixed (h : S6144x2048.Idx → EReal) (w : S2x2048x11264.Idx → EReal) (cw : S2x3x11264.Idx → EReal) (q : Fin 11264) (R : ℕ) : EReal :=
  cw (ix3 1 0 q) * Common.prevRow (proj h w q) R + cw (ix3 1 1 q) * proj h w q R + cw (ix3 1 2 q) * Common.nextRow (proj h w q) R

/-- The first half's convolution under its own sigmoid, times the second half's. -/
def G (h : S6144x2048.Idx → EReal) (w : S2x2048x11264.Idx → EReal) (cw : S2x3x11264.Idx → EReal) : S6144x5632.Idx → EReal :=
  fun i => mixed h w cw ⟨(i 1).val, by have := (i 1).isLt; have e : S6144x5632.size 1 = 5632 := rfl; omega⟩ (i 0).val
    * Ideal.logistic (mixed h w cw ⟨(i 1).val, by have := (i 1).isLt; have e : S6144x5632.size 1 = 5632 := rfl; omega⟩ (i 0).val)
    * mixed h w cw ⟨5632 + (i 1).val, by have := (i 1).isLt; have e : S6144x5632.size 1 = 5632 := rfl; omega⟩ (i 0).val

/-- A block's convolution is the convolution of the sequences its rows belong to. -/
theorem conv_eq (p : S1024x512.Idx → EReal) (w : S3x512.Idx → EReal) (f : EReal) (Q : ℕ → EReal) (a : ℕ) (j : Fin 512)
    (ha : a < 6) (hf : f = if a < 4 then 0 else 1) (hp : ∀ r : Fin 1024, p (ix2 r j) = Q (1024 * a + r.val)) (r : Fin 1024) :
    conv p w f r j = w (ix2 0 j) * Common.prevRow Q (1024 * a + r.val) + w (ix2 1 j) * Q (1024 * a + r.val)
      + w (ix2 2 j) * Common.nextRow Q (1024 * a + r.val) := by
  unfold conv
  refine congrArg₂ (· + ·) (congrArg₂ (· + ·) (congrArg₂ (· * ·) rfl ?_) (congrArg₂ (· * ·) rfl (hp r))) (congrArg₂ (· * ·) rfl ?_)
  · unfold before Common.prevRow
    simp only [hp, hf]
    by_cases h2 : a < 4
    · have h4 : 1024 * a + r.val < 4096 := by omega
      simp only [h2, h4, if_true, mul_zero, ite_self]
      by_cases h0 : r.val % 256 = 0
      · rw [if_pos h0, if_pos (by omega)]
      · rw [if_neg h0, if_neg (by omega)]
        exact congrArg Q (by omega)
    · have h4 : ¬ 1024 * a + r.val < 4096 := by omega
      simp only [h2, h4, if_false, mul_one]
      by_cases h0 : r.val % 1024 = 0
      · rw [if_pos (by omega), if_pos h0, if_pos (by omega)]
      · rw [if_neg (by omega : ¬ (1024 * a + r.val) % 1024 = 0), if_neg h0, ite_self]
        exact congrArg Q (by omega)
  · unfold after Common.nextRow
    simp only [hp, hf]
    by_cases h2 : a < 4
    · have h4 : 1024 * a + r.val < 4096 := by omega
      simp only [h2, h4, if_true, mul_zero, ite_self]
      by_cases h0 : (r.val + 1) % 256 = 0
      · rw [if_pos h0, if_pos (by omega)]
      · rw [if_neg h0, if_neg (by omega)]
        exact congrArg Q (by omega)
    · have h4 : ¬ 1024 * a + r.val < 4096 := by omega
      simp only [h2, h4, if_false, mul_one]
      by_cases h0 : (r.val + 1) % 1024 = 0
      · rw [if_pos (by omega), if_pos h0, if_pos (by omega)]
      · rw [if_neg (by omega : ¬ (1024 * a + r.val + 1) % 1024 = 0), if_neg h0, ite_self]
        exact congrArg Q (by omega)

/-- The factor under which a block's neighbours in other blocks of 256 rows count: none of the context's. -/
theorem factor (i : grid0.Coords) : k0_pay4 (F := Ideal) i = if (i 0).val < 4 then (0 : EReal) else 1 := by
  unfold k0_pay4
  have h : (i 0).val < 6 := (i 0).isLt
  generalize (i 0).val = n at h ⊢
  interval_cases n <;> simp [Scalar.select, Scalar.cmpi, IntOp.cmpi, Scalar.ofBits, Ideal.ofBits_one_f32]

/-- The second convolution's factor is the first's. -/
theorem factor' (i : grid0.Coords) : k0_pay23 (F := Ideal) (Scalar.cmpi .slt (BitVec.ofNat 32 (i 0).val) 4#32) = if (i 0).val < 4 then (0 : EReal) else 1 :=
  factor i

/-- The array the kernel writes back. -/
theorem kernel_value (c : Dev nD) : (dats m 0 c).arrAt 5 cfg0.N =
    G (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold_out out0_5
  frame_out
  idx_vars y
  obtain ⟨e0, e1, e2, e3, e4, e5⟩ := idx t
  have hb : (grid0.coords t 1).val < 11 := (grid0.coords t 1).isLt
  have ha : (grid0.coords t 0).val < 6 := (grid0.coords t 0).isLt
  have h0 : ((((View.whole main_v0).slice (win0_5.rect t)).emb (ix2 y0 y1) 0 : Fin _) : ℕ) = 1024 * (grid0.coords t 0).val + y0.val :=
    (Pipeline.Window.rect_emb_val win0_5 t (ix2 y0 y1) 0).trans (by rw [e5, Nat.mul_comm]; rfl)
  have h1 : ((((View.whole main_v0).slice (win0_5.rect t)).emb (ix2 y0 y1) 1 : Fin _) : ℕ) = 512 * (grid0.coords t 1).val + y1.val :=
    (Pipeline.Window.rect_emb_val win0_5 t (ix2 y0 y1) 1).trans (by rw [e5, Nat.mul_comm]; rfl)
  refine (block _ _ _ _ _ _ (g0 _ _ _) (g1 _ _ _) y0 y1).trans ?_
  rw [first _ _ _ _ _ _ (a0 _ _ _ _) (a1 _ _ _) (a2 _ _ _) y0 y1]
  rw [conv_eq _ _ _ (proj (m ((c : Thread nD τ).loc main_arg0)) (m ((c : Thread nD τ).loc main_arg1)) ⟨512 * (grid0.coords t 1).val + y1.val, by omega⟩) (grid0.coords t 0).val y1 ha (factor _) ?_ y0]
  rw [conv_eq _ _ _ (proj (m ((c : Thread nD τ).loc main_arg0)) (m ((c : Thread nD τ).loc main_arg1)) ⟨5632 + (512 * (grid0.coords t 1).val + y1.val), by omega⟩) (grid0.coords t 0).val y1 ha (factor' _) ?_ y0]
  · unfold G mixed
    simp only [h1, h0]
    have wa : ∀ q : Fin 3, k0_pay3 (F := Ideal) (iblk m c 3 t) (ix2 q y1) = (m ((c : Thread nD τ).loc main_arg2)) (ix3 1 q ⟨512 * (grid0.coords t 1).val + y1.val, by omega⟩) := by
      intro q
      pointwise [k0_pay3]
      blk_point [iblk, V, idx t]
    have wg : ∀ q : Fin 3, k0_pay22 (F := Ideal) (iblk m c 4 t) (ix2 q y1) = (m ((c : Thread nD τ).loc main_arg2)) (ix3 1 q ⟨5632 + (512 * (grid0.coords t 1).val + y1.val), by omega⟩) := by
      intro q
      pointwise [k0_pay22]
      blk_point [iblk, V, idx t]
    simp only [wa, wg]
  · intro r
    pointwise [k0_pay2]
    unfold proj
    rw [dif_pos (by omega)]
    refine Finset.sum_congr rfl fun k _ => ?_
    blk_point [iblk, V, idx t]
  · intro r
    pointwise [k0_pay1]
    unfold proj
    rw [dif_pos (by omega)]
    refine Finset.sum_congr rfl fun k _ => ?_
    blk_point [iblk, V, idx t]

end Cert.UpV
-- ==== Proof.Common.HostConv.lean ====
module

public import proofs.«01_k».proof.Proof.Common.Conv

/-! # The three taps read from a padded array, in the terms of the rows of the unpadded one -/

@[expose] public section

namespace Cert.Common

open Idealize.ShloMosaic

/-- The row before, read from a context padded by a zero row on either side. -/
theorem prev_context (Q : ℕ → EReal) (R : ℕ) (h : R < 4096) :
    (if _h : R / 256 < 16 ∧ 1 ≤ R % 256 ∧ R % 256 - 1 < 256 then
      Q (R / 256 * 256 + (R % 256 - 1)) else 0) = Common.prevRow Q R := by
  unfold Common.prevRow
  rw [if_pos h]
  split <;> split <;> first | (exfalso; omega) | exact congrArg Q (by omega) | rfl

/-- The row itself, read from a padded context. -/
theorem this_context (Q : ℕ → EReal) (R : ℕ) (h : R < 4096) :
    (if _h : R / 256 < 16 ∧ R % 256 < 256 then
      Q (R / 256 * 256 + R % 256) else 0) = Q R := by
  split <;> first | (exfalso; omega) | exact congrArg Q (by omega)

/-- The row after, read from a padded context. -/
theorem next_context (Q : ℕ → EReal) (R : ℕ) (h : R < 4096) :
    (if _h : R / 256 < 16 ∧ 1 ≤ 2 + R % 256 ∧ 2 + R % 256 - 1 < 256 then
      Q (R / 256 * 256 + (2 + R % 256 - 1)) else 0) = Common.nextRow Q R := by
  unfold Common.nextRow
  rw [if_pos h]
  split <;> split <;> first | (exfalso; omega) | exact congrArg Q (by omega) | rfl

/-- The row before, read from a padded decoded sequence. -/
theorem prev_decoded (Q : ℕ → EReal) (R : ℕ) (h : ¬ R < 4096) (h' : R < 6144) :
    (if _h : (R - 4096) / 1024 < 2 ∧ 1 ≤ (R - 4096) % 1024 ∧ (R - 4096) % 1024 - 1 < 1024 then
      Q (4096 + ((R - 4096) / 1024 * 1024 + ((R - 4096) % 1024 - 1))) else 0) = Common.prevRow Q R := by
  unfold Common.prevRow
  rw [if_neg h]
  split <;> split <;> first | (exfalso; omega) | exact congrArg Q (by omega) | rfl

/-- The row itself, read from a padded decoded sequence. -/
theorem this_decoded (Q : ℕ → EReal) (R : ℕ) (h : ¬ R < 4096) (h' : R < 6144) :
    (if _h : (R - 4096) / 1024 < 2 ∧ (R - 4096) % 1024 < 1024 then
      Q (4096 + ((R - 4096) / 1024 * 1024 + (R - 4096) % 1024)) else 0) = Q R := by
  split <;> first | (exfalso; omega) | exact congrArg Q (by omega)

/-- The row after, read from a padded decoded sequence. -/
theorem next_decoded (Q : ℕ → EReal) (R : ℕ) (h : ¬ R < 4096) (h' : R < 6144) :
    (if _h : (R - 4096) / 1024 < 2 ∧ 1 ≤ 2 + (R - 4096) % 1024 ∧
        2 + (R - 4096) % 1024 - 1 < 1024 then
      Q (4096 + ((R - 4096) / 1024 * 1024 + (2 + (R - 4096) % 1024 - 1))) else 0) = Common.nextRow Q R := by
  unfold Common.nextRow
  rw [if_neg h]
  split <;> split <;> first | (exfalso; omega) | exact congrArg Q (by omega) | rfl

end Cert.Common
-- ==== Proof.Up.Claims.lean ====
module

public import proofs.«01_k».proof.Defs
public import proofs.«01_k».proof.Proof.Up.Value
public import Idealize.ShloMosaic.Lib.Claim
public import proofs.«01_k».proof.Proof.Common.HostConv

@[expose] public section

set_option maxRecDepth 1000000

noncomputable section

namespace Cert.UpV

open Idealize.ShloMosaic Idealize.ShloMosaic.TcCoe Idealize.SL.Sem Cert

/-- The reference's result is the gate of one array's two halves, which is the short convolution of the product. -/
theorem ref_gate (m' : (ℓ : Loc RefUpIdeal.nD RefUpIdeal.τ RefUpIdeal.sig) → Buf (Elt Ideal) ℓ) (c : Dev RefUpIdeal.nD) :
    ∃ u : FVec Ideal RefUpIdeal.S6144x11264 .f32,
      RefUpIdeal.Value.res_main_v71 m' c = truncf .bf16 (mulf (mulf (extractStridedSlice RefUpIdeal.S6144x5632 ![0, 0] u RefUpIdeal.Facts₀.slices_S6144x11264_S6144x5632_0_0) (Host.divf (broadcastInDim RefUpIdeal.S6144x5632 ![] RefUpIdeal.Facts₀.bcast_S_S6144x5632 (constant (F := Ideal) RefUpIdeal.S_ .f32 0x3F800000#32)) (addf (broadcastInDim RefUpIdeal.S6144x5632 ![] RefUpIdeal.Facts₀.bcast_S_S6144x5632 (constant (F := Ideal) RefUpIdeal.S_ .f32 0x3F800000#32)) (Host.exp (Host.negf (extractStridedSlice RefUpIdeal.S6144x5632 ![0, 0] u RefUpIdeal.Facts₀.slices_S6144x11264_S6144x5632_0_0)))))) (extractStridedSlice RefUpIdeal.S6144x5632 ![0, 5632] u RefUpIdeal.Facts₀.slices_S6144x11264_S6144x5632_0_5632)) RefUpIdeal.Facts₀.bitsLt_bf16_f32
      ∧ ∀ (R : Fin 6144) (q : Fin 11264), u (ix2 R q) = mixed (m' ((c.tc : Thread RefUpIdeal.nD RefUpIdeal.τ).loc RefUpIdeal.main_arg0)) (m' ((c.tc : Thread RefUpIdeal.nD RefUpIdeal.τ).loc RefUpIdeal.main_arg1)) (m' ((c.tc : Thread RefUpIdeal.nD RefUpIdeal.τ).loc RefUpIdeal.main_arg2)) q R.val := by
  unfold RefUpIdeal.Value.res_main_v71
  refine ⟨_, rfl, fun R q => ?_⟩
  generalize hp : (Host.dotGeneral (F := Ideal) RefUpIdeal.dot_S6144x2048_S2048x11264_S6144x11264_1_0_0_1_n_n none (extf .f32 (m' ((c.tc : Thread RefUpIdeal.nD RefUpIdeal.τ).loc RefUpIdeal.main_arg0)) RefUpIdeal.Facts₀.bitsLt_bf16_f32) (shapeCast RefUpIdeal.S2048x11264 (extractStridedSlice RefUpIdeal.S1x2048x11264 ![1, 0, 0] (m' ((c.tc : Thread RefUpIdeal.nD RefUpIdeal.τ).loc RefUpIdeal.main_arg1)) RefUpIdeal.Facts₀.slices_S2x2048x11264_S1x2048x11264_1_0_0) RefUpIdeal.Facts₀.shapeCasts_S1x2048x11264_S2048x11264)) = p
  have hz : FloatOps.sitofp (F := Ideal) FTy.f32 0#32 = (0 : EReal) := by
    show (((0#32 : BitVec 32).toInt : ℝ) : EReal) = 0
    simp
  have hq : ∀ (S : ℕ) (h : S < 6144), p (ix2 ⟨S, h⟩ q) = proj (m' ((c.tc : Thread RefUpIdeal.nD RefUpIdeal.τ).loc RefUpIdeal.main_arg0)) (m' ((c.tc : Thread RefUpIdeal.nD RefUpIdeal.τ).loc RefUpIdeal.main_arg1)) q S := by
    intro S h
    rw [← hp]
    pointwise [proj]
    rw [dif_pos h]
  have hi : R.val < 6144 := R.isLt
  unfold mixed
  pointwise []
  simp only [hq, hz]
  generalize proj (m' ((c.tc : Thread RefUpIdeal.nD RefUpIdeal.τ).loc RefUpIdeal.main_arg0)) (m' ((c.tc : Thread RefUpIdeal.nD RefUpIdeal.τ).loc RefUpIdeal.main_arg1)) q = Q
  by_cases h : R.val < 4096
  · rw [dif_pos h, Common.prev_context Q R.val h, Common.this_context Q R.val h, Common.next_context Q R.val h]
  · rw [dif_neg h, Common.prev_decoded Q R.val h hi, Common.this_decoded Q R.val h hi, Common.next_decoded Q R.val h hi]

/-- The reference terminates, keeps its arguments and leaves no counter raised. -/
theorem ref_frame : Cert.quiescent_RefUpIdeal := fun m g _ =>
  (θ_run _ _ _).mono (fun r h => ⟨fun c => (h c).2, sem_eq_zero_of_no_sems (by decide) r.2⟩)
    (Cert.RefUpIdeal.Value.run m g)

/-- The kernel's result is the reference's, from any arguments. -/
theorem algebraic : Cert.algebraic_UpIdeal_RefUpIdeal := by
  pair_intro
  · run_from Cert.UpIdeal.Value.run_blocks m g
  · run_from Cert.RefUpIdeal.Value.run (F := Ideal) m' g'
    refine Eq.trans ?_ (Cert.UpV.kernel_value m c).symm
    funext i
    idx_vars i
    obtain ⟨u, e, hu⟩ := ref_gate m' c
    refine (congrFun e (ix2 i0 i1)).trans ?_
    pointwise [G]
    rw [← (hagree c).1, ← (hagree c).2.1, ← (hagree c).2.2]
    simp only [Ideal.ofBits_one_f32, hu]
    rfl

end Cert.UpV
-- ==== Proof.Down.Value.lean ====
module

public import proofs.«01_k».proof.Proof.Gen.DownIdeal.Value
public import proofs.«01_k».proof.Proof.Gen.RefDownIdeal.Run
public import Idealize.ShloMosaic.Lib.Pipeline.ValueKit
public import Idealize.ShloMosaic.Lib.Pointwise

@[expose] public section

set_option maxRecDepth 16384

noncomputable section

namespace Cert.DownV

open Idealize.ShloMosaic Idealize.ShloMosaic.TcCoe Idealize.SL.Sem
open Cert.DownIdeal Cert.DownIdeal.Gen

/-- The stream after the gated product: row `i 0` of the activations times column `i 1` of layer 1's weights, times the
    gate of the row's request (the context's gate for its first 4096 rows), added to the stream. -/
def G (a : S6144x5632.Idx → EReal) (w : S2x5632x2048.Idx → EReal) (x : S6144x2048.Idx → EReal) (gt : S3x1x2048.Idx → EReal) : S6144x2048.Idx → EReal :=
  fun i => x i + gt (ix3 ⟨(i 0).val / 1024 - 3, by have := (i 0).isLt; have e : S6144x2048.size 0 = 6144 := rfl; omega⟩ 0 (i 1)) * ∑ k : Fin 5632, a (ix2 (i 0) k) * w (ix3 1 k (i 1))

variable (m : (ℓ : Loc nD τ sig) → Buf (Elt Ideal) ℓ)

/-- The windows' blocks at a point of the grid. -/
theorem idx : ∀ t : Fin cfg0.N, win0_0.index t = ![(grid0.coords t 0).val, 0] ∧
    win0_1.index t = ![1, 0, (grid0.coords t 1).val] ∧
    win0_2.index t = ![(grid0.coords t 0).val, (grid0.coords t 1).val] ∧
    win0_3.index t = ![(grid0.coords t 0).val - 3, 0, (grid0.coords t 1).val] ∧
    win0_4.index t = ![(grid0.coords t 0).val - 3, 0, (grid0.coords t 1).val] ∧
    win0_5.index t = ![(grid0.coords t 0).val, (grid0.coords t 1).val] :=
  (by decide +kernel : ∀ t : Fin grid0.N, _)

/-- The array the kernel writes back. -/
theorem kernel_value (c : Dev nD) : (dats m 0 c).arrAt 5 cfg0.N =
    G (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  obtain ⟨e0, e1, e2, e3, e4, e5⟩ := idx t
  have hb : (grid0.coords t 1).val < 8 := (grid0.coords t 1).isLt
  have ha : (grid0.coords t 0).val < 6 := (grid0.coords t 0).isLt
  canon_tiles x h
  all_goals
    open_payloads
    idx_vars x
    pointwise [G]
    blk_point [iblk, V, idx t]

end Cert.DownV
-- ==== Proof.Down.Claims.lean ====
module

public import proofs.«01_k».proof.Defs
public import proofs.«01_k».proof.Proof.Down.Value
public import Idealize.ShloMosaic.Lib.Claim

@[expose] public section

set_option maxRecDepth 16384

noncomputable section

namespace Cert.DownV

open Idealize.ShloMosaic Idealize.ShloMosaic.TcCoe Idealize.SL.Sem Cert

/-- The reference terminates, keeps its arguments and leaves no counter raised. -/
theorem ref_frame : Cert.quiescent_RefDownIdeal := fun m g _ =>
  (θ_run _ _ _).mono (fun r h => ⟨fun c => (h c).2, sem_eq_zero_of_no_sems (by decide) r.2⟩)
    (Cert.RefDownIdeal.Value.run m g)

/-- The kernel's result is the reference's, from any arguments. -/
theorem algebraic : Cert.algebraic_DownIdeal_RefDownIdeal := by
  pair_intro
  · run_from Cert.DownIdeal.Value.run_blocks m g
  · run_from Cert.RefDownIdeal.Value.run (F := Ideal) m' g'
    refine Eq.trans ?_ (Cert.DownV.kernel_value m c).symm
    funext i
    idx_vars i
    pointwise [G]
    rw [(hagree c).2.2.2]
    refine congrArg₂ (· + ·) rfl (congrArg₂ (· * ·) ?_ rfl)
    split <;> blk_ext

end Cert.DownV
-- ==== Proof.Merge.Value.lean ====
module

public import proofs.«01_k».proof.Proof.Gen.MergeIdeal.Value
public import proofs.«01_k».proof.Proof.Gen.RefMergeIdeal.Run
public import Idealize.ShloMosaic.Lib.Pipeline.ValueKit
public import Idealize.ShloMosaic.Lib.Pointwise
public import proofs.«01_k».proof.Proof.Common.Sigmoid

@[expose] public section

set_option maxRecDepth 16384

noncomputable section

namespace Cert.MergeV

open Idealize.ShloMosaic Idealize.ShloMosaic.TcCoe Idealize.SL.Sem
open Cert.MergeIdeal Cert.MergeIdeal.Gen

/-- Column `i 1` of gate `k` in row `i 0`: the gates stand after the 2048 columns of the gated linear unit. -/
def gateCol (k : Fin 3) (i : S6144x2048.Idx) : S6144x8192.Idx :=
  ix2 (i 0) ⟨2048 + 2048 * k.val + (i 1).val, by have := (i 1).isLt; have e : S6144x2048.size 1 = 2048 := rfl; omega⟩

/-- The three branches' outputs through layer 1's weights, each under its gate. -/
def G (ya : S6144x1024.Idx → EReal) (wa : S2x1024x2048.Idx → EReal) (yb : S6144x2048.Idx → EReal) (wb : S2x2048x2048.Idx → EReal)
    (yc : S6144x1024.Idx → EReal) (wc : S2x1024x2048.Idx → EReal) (g : S6144x8192.Idx → EReal) : S6144x2048.Idx → EReal :=
  fun i => Ideal.logistic (g (gateCol 0 i)) * (∑ k : Fin 1024, ya (ix2 (i 0) k) * wa (ix3 1 k (i 1)))
    + Ideal.logistic (g (gateCol 1 i)) * (∑ k : Fin 2048, yb (ix2 (i 0) k) * wb (ix3 1 k (i 1)))
    + Ideal.logistic (g (gateCol 2 i)) * (∑ k : Fin 1024, yc (ix2 (i 0) k) * wc (ix3 1 k (i 1)))

variable (m : (ℓ : Loc nD τ sig) → Buf (Elt Ideal) ℓ)

/-- The windows' blocks at a point of the grid. -/
theorem idx : ∀ t : Fin cfg0.N, (win0_0.index t = ![(grid0.coords t 0).val, 0] ∧
    win0_1.index t = ![1, 0, (grid0.coords t 1).val] ∧
    win0_2.index t = ![(grid0.coords t 0).val, 0] ∧
    win0_3.index t = ![1, 0, (grid0.coords t 1).val] ∧
    win0_4.index t = ![(grid0.coords t 0).val, 0] ∧
    win0_5.index t = ![1, 0, (grid0.coords t 1).val]) ∧
    win0_6.index t = ![(grid0.coords t 0).val, 8 + (grid0.coords t 1).val] ∧
    win0_7.index t = ![(grid0.coords t 0).val, 16 + (grid0.coords t 1).val] ∧
    win0_8.index t = ![(grid0.coords t 0).val, 24 + (grid0.coords t 1).val] ∧
    win0_9.index t = ![(grid0.coords t 0).val, (grid0.coords t 1).val] :=
  (by decide +kernel : ∀ t : Fin grid0.N, _)

/-- The array the kernel writes back. -/
theorem kernel_value (c : Dev nD) : (dats m 0 c).arrAt 9 cfg0.N =
    G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  frame_out
  idx_vars y
  obtain ⟨⟨e0, e1, e2, e3, e4, e5⟩, e6, e7, e8, e9⟩ := idx t
  have hb : (grid0.coords t 1).val < 8 := (grid0.coords t 1).isLt
  have ha : (grid0.coords t 0).val < 6 := (grid0.coords t 0).isLt
  pointwise [k0_pay1, k0_pay2, k0_pay3, G, gateCol]
  rw [Common.ofBits_half]
  refine (Common.half_gates _ _ _ _ _ _).trans ?_
  blk_point [iblk, V, idx t]

end Cert.MergeV
-- ==== Proof.Merge.Claims.lean ====
module

public import proofs.«01_k».proof.Defs
public import proofs.«01_k».proof.Proof.Merge.Value
public import Idealize.ShloMosaic.Lib.Claim

@[expose] public section

set_option maxRecDepth 16384

noncomputable section

namespace Cert.MergeV

open Idealize.ShloMosaic Idealize.ShloMosaic.TcCoe Idealize.SL.Sem Cert

/-- The reference terminates, keeps its arguments and leaves no counter raised. -/
theorem ref_frame : Cert.quiescent_RefMergeIdeal := fun m g _ =>
  (θ_run _ _ _).mono (fun r h => ⟨fun c => (h c).2, sem_eq_zero_of_no_sems (by decide) r.2⟩)
    (Cert.RefMergeIdeal.Value.run m g)

/-- The kernel's result is the reference's, from any arguments. -/
theorem algebraic : Cert.algebraic_MergeIdeal_RefMergeIdeal := by
  pair_intro
  · run_from Cert.MergeIdeal.Value.run_blocks m g
  · run_from Cert.RefMergeIdeal.Value.run (F := Ideal) m' g'
    refine Eq.trans ?_ (Cert.MergeV.kernel_value m c).symm
    funext i
    idx_vars i
    pointwise [G, gateCol, Ideal.logistic]
    refine congrArg₂ (· + ·) (congrArg₂ (· + ·) rfl (congrArg₂ (· * ·) ?_ rfl)) (congrArg₂ (· * ·) ?_ rfl)
    all_goals (refine congrArg (fun z => Ideal.div 1 (1 + Ideal.exp (-z))) ?_; blk_ext)

end Cert.MergeV
-- ==== Proof.Out.Value.lean ====
module

public import proofs.«01_k».proof.Proof.Gen.OutIdeal.Value
public import proofs.«01_k».proof.Proof.Gen.RefOutIdeal.Run
public import Idealize.ShloMosaic.Lib.Pipeline.ValueKit
public import Idealize.ShloMosaic.Lib.Pointwise

@[expose] public section

set_option maxRecDepth 16384

noncomputable section

namespace Cert.OutV

open Idealize.ShloMosaic Idealize.ShloMosaic.TcCoe Idealize.SL.Sem
open Cert.OutIdeal Cert.OutIdeal.Gen

/-- The stream after the gated product: row `i 0` of the activations times column `i 1` of layer 1's weights, times the
    gate of the row's request (the context's gate for its first 4096 rows), added to the stream. -/
def G (a : S6144x2048.Idx → EReal) (w : S2x2048x2048.Idx → EReal) (x : S6144x2048.Idx → EReal) (gt : S3x1x2048.Idx → EReal) : S6144x2048.Idx → EReal :=
  fun i => x i + gt (ix3 ⟨(i 0).val / 1024 - 3, by have := (i 0).isLt; have e : S6144x2048.size 0 = 6144 := rfl; omega⟩ 0 (i 1)) * ∑ k : Fin 2048, a (ix2 (i 0) k) * w (ix3 1 k (i 1))

variable (m : (ℓ : Loc nD τ sig) → Buf (Elt Ideal) ℓ)

/-- The windows' blocks at a point of the grid. -/
theorem idx : ∀ t : Fin cfg0.N, win0_0.index t = ![(grid0.coords t 0).val, 0] ∧
    win0_1.index t = ![1, 0, (grid0.coords t 1).val] ∧
    win0_2.index t = ![(grid0.coords t 0).val, (grid0.coords t 1).val] ∧
    win0_3.index t = ![2 * (grid0.coords t 0).val - 3, 0, (grid0.coords t 1).val] ∧
    win0_4.index t = ![2 * (grid0.coords t 0).val + 1 - 3, 0, (grid0.coords t 1).val] ∧
    win0_5.index t = ![(grid0.coords t 0).val, (grid0.coords t 1).val] :=
  (by decide +kernel : ∀ t : Fin grid0.N, _)

/-- The array the kernel writes back. -/
theorem kernel_value (c : Dev nD) : (dats m 0 c).arrAt 5 cfg0.N =
    G (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  obtain ⟨e0, e1, e2, e3, e4, e5⟩ := idx t
  have hb : (grid0.coords t 1).val < 4 := (grid0.coords t 1).isLt
  have ha : (grid0.coords t 0).val < 3 := (grid0.coords t 0).isLt
  canon_tiles x h
  all_goals
    open_payloads
    idx_vars x
    pointwise [G]
    blk_point [iblk, V, idx t]

end Cert.OutV
-- ==== Proof.Out.Claims.lean ====
module

public import proofs.«01_k».proof.Defs
public import proofs.«01_k».proof.Proof.Out.Value
public import Idealize.ShloMosaic.Lib.Claim

@[expose] public section

set_option maxRecDepth 16384

noncomputable section

namespace Cert.OutV

open Idealize.ShloMosaic Idealize.ShloMosaic.TcCoe Idealize.SL.Sem Cert

/-- The reference terminates, keeps its arguments and leaves no counter raised. -/
theorem ref_frame : Cert.quiescent_RefOutIdeal := fun m g _ =>
  (θ_run _ _ _).mono (fun r h => ⟨fun c => (h c).2, sem_eq_zero_of_no_sems (by decide) r.2⟩)
    (Cert.RefOutIdeal.Value.run m g)

/-- The kernel's result is the reference's, from any arguments. -/
theorem algebraic : Cert.algebraic_OutIdeal_RefOutIdeal := by
  pair_intro
  · run_from Cert.OutIdeal.Value.run_blocks m g
  · run_from Cert.RefOutIdeal.Value.run (F := Ideal) m' g'
    refine Eq.trans ?_ (Cert.OutV.kernel_value m c).symm
    funext i
    idx_vars i
    pointwise [G]
    rw [(hagree c).2.2.2]
    refine congrArg₂ (· + ·) rfl (congrArg₂ (· * ·) ?_ rfl)
    split <;> blk_ext

end Cert.OutV
-- ==== Proof.MixA.Pieces.lean ====
module

public import proofs.«01_k».proof.Proof.Gen.MixAIdeal.Value
public import proofs.«01_k».proof.Proof.Gen.RefMixAIdeal.Run
public import Idealize.ShloMosaic.Lib.Pipeline.ValueKit
public import Idealize.ShloMosaic.Lib.Pointwise
public import proofs.«01_k».proof.Proof.Common.Sigmoid
public import proofs.«01_k».proof.Proof.Common.Conv
@[expose] public section

set_option maxRecDepth 16384

noncomputable section

namespace Cert.MixAV

open Idealize.ShloMosaic Idealize.ShloMosaic.TcCoe Idealize.SL.Sem
open Cert.MixAIdeal Cert.MixAIdeal.Gen

/-- The row before row `r` of its own sequence: none at a request's first row, and none (`f` is 0) at a context sequence's. -/
def before (p : S2048x256.Idx → EReal) (f : EReal) (r : Fin 2048) (j : Fin 256) : EReal :=
  if r.val % 256 = 0 then (if r.val % 1024 = 0 then 0 else p (ix2 ⟨r.val - 1, by omega⟩ j) * f) else p (ix2 ⟨r.val - 1, by omega⟩ j)

/-- The row after row `r` of its own sequence, likewise. -/
def after (p : S2048x256.Idx → EReal) (f : EReal) (r : Fin 2048) (j : Fin 256) : EReal :=
  if (r.val + 1) % 256 = 0 then (if (r.val + 1) % 1024 = 0 then 0 else p (ix2 ⟨(r.val + 1) % 2048, by omega⟩ j) * f)
    else p (ix2 ⟨(r.val + 1) % 2048, by omega⟩ j)

/-- Three neighbouring rows under the three weights of their column. -/
def conv (p : S2048x256.Idx → EReal) (w : S3x256.Idx → EReal) (f : EReal) (r : Fin 2048) (j : Fin 256) : EReal :=
  w (ix2 0 j) * before p f r j + w (ix2 1 j) * p (ix2 r j) + w (ix2 2 j) * after p f r j

/-- Rows 0 to 255 of the convolution. -/
theorem piece0 (i : grid0.Coords) (v1 : Vec Ideal S2048x2048 .bf16) (v2 v6 : Vec Ideal S1x256x2048 .f32) (w : FVec Ideal S3x256 .f32) (r j : Fin 256) :
    k0_pay11 (F := Ideal) w (iota .tc S8x256 32 [0] iota_S8x256_d0_w32) (k0_pay7 v1 v2 v6) (k0_pay8 v1 v2 v6) (k0_pay9 i v1 v2 v6) (k0_pay10 v1 v2 v6) (ix2 r j) = conv (k0_pay2 (F := Ideal) v1 v2 v6) w (k0_pay5 (F := Ideal) i) ⟨0 + r.val, by omega⟩ j := by
  pointwise [k0_pay11, k0_pay7, k0_pay8, k0_pay9, k0_pay10, k0_pay6, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 256 to 511 of the convolution. -/
theorem piece1 (p : FVec Ideal S2048x256 .f32) (f : EReal) (w : FVec Ideal S3x256 .f32) (r j : Fin 256) :
    k0_pay12 (F := Ideal) p w f (iota .tc S8x256 32 [0] iota_S8x256_d0_w32) (ix2 r j) = conv p w f ⟨256 + r.val, by omega⟩ j := by
  pointwise [k0_pay12, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 512 to 767 of the convolution. -/
theorem piece2 (p : FVec Ideal S2048x256 .f32) (f : EReal) (w : FVec Ideal S3x256 .f32) (r j : Fin 256) :
    k0_pay14 (F := Ideal) p w f (iota .tc S8x256 32 [0] iota_S8x256_d0_w32) (k0_pay13 p) 1#32 (ix2 r j) = conv p w f ⟨512 + r.val, by omega⟩ j := by
  pointwise [k0_pay14, k0_pay13, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 768 to 1023 of the convolution. -/
theorem piece3 (p : FVec Ideal S2048x256 .f32) (f : EReal) (w : FVec Ideal S3x256 .f32) (r j : Fin 256) :
    k0_pay21 (F := Ideal) w (k0_pay6 (F := Ideal)) (k0_pay15 p) (k0_pay17 p f (iota .tc S8x256 32 [0] iota_S8x256_d0_w32)) (k0_pay18 p) (k0_pay19 (iota .tc S8x256 32 [0] iota_S8x256_d0_w32)) (k0_pay20 p) (ix2 r j) = conv p w f ⟨768 + r.val, by omega⟩ j := by
  pointwise [k0_pay21, k0_pay6, k0_pay15, k0_pay16, k0_pay17, k0_pay18, k0_pay19, k0_pay20, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 1024 to 1279 of the convolution. -/
theorem piece4 (p : FVec Ideal S2048x256 .f32) (f : EReal) (w : FVec Ideal S3x256 .f32) (r j : Fin 256) :
    k0_pay22 (F := Ideal) p w f (iota .tc S8x256 32 [0] iota_S8x256_d0_w32) (k0_pay6 (F := Ideal)) (ix2 r j) = conv p w f ⟨1024 + r.val, by omega⟩ j := by
  pointwise [k0_pay22, k0_pay6, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- Rows 1280 to 1535 of the convolution. -/
theorem piece5 (p : FVec Ideal S2048x256 .f32) (f : EReal) (w : FVec Ideal S3x256 .f32) (r j : Fin 256) :
    k0_pay28 (F := Ideal) w f (iota .tc S8x256 32 [0] iota_S8x256_d0_w32) (k0_pay23 p) (k0_pay24 p) (k0_pay25 p) (k0_pay26 p f) (k0_pay27 p) 7#32 (ix2 r j) = conv p w f ⟨1280 + r.val, by omega⟩ j := by
  pointwise [k0_pay28, k0_pay23, k0_pay24, k0_pay25, k0_pay26, k0_pay27, conv, before, after]
  refine congrArg₂ (· + ·) (congrArg₂ (· + ·) (congrArg₂ (· * ·) rfl ?_) rfl) (congrArg₂ (· * ·) rfl ?_)
  · split
    · refine (Common.select_row r.val 0 (by omega) (by omega) _ _).trans ?_
      (repeat' split) <;> first | (exfalso; omega) | rfl | (refine congrArg (· * _) ?_; blk_ext) | blk_ext
    · (repeat' split) <;> first | (exfalso; omega) | rfl | (refine congrArg (· * _) ?_; blk_ext) | blk_ext
  · split
    · (repeat' split) <;> first | (exfalso; omega) | rfl | (refine congrArg (· * _) ?_; blk_ext) | blk_ext
    · refine (Common.select_row (r.val - 248) 7 (by omega) (by omega) _ _).trans ?_
      (repeat' split) <;> first | (exfalso; omega) | rfl | (refine congrArg (· * _) ?_; blk_ext) | blk_ext

/-- The stored block is its eight pieces, one under the other, under the second factor. -/
theorem stored (p b : FVec Ideal S2048x256 .f32) (w : FVec Ideal S3x256 .f32) (f : EReal) (v0 v1 v2 v3 v4 v5 : FVec Ideal S256x256 .f32) :
    ∃ v6 v7 : FVec Ideal S256x256 .f32,
      k0_pay1 (F := Ideal) p b w f (iota .tc S8x256 32 [0] iota_S8x256_d0_w32) (k0_pay6 (F := Ideal)) v0 v1 v2 v3 v4 v5 (k0_pay29 p) (k0_pay30 p f (iota .tc S8x256 32 [0] iota_S8x256_d0_w32)) (k0_pay31 p w f (iota .tc S8x256 32 [0] iota_S8x256_d0_w32))
        = truncf .bf16 (mulf b (concatenate S2048x256 0 [⟨S256x256, v0⟩, ⟨S256x256, v1⟩, ⟨S256x256, v2⟩, ⟨S256x256, v3⟩, ⟨S256x256, v4⟩, ⟨S256x256, v5⟩, ⟨S256x256, v6⟩, ⟨S256x256, v7⟩] concatenates_S256x256_S256x256_S256x256_S256x256_S256x256_S256x256_S256x256_S256x256_S2048x256_d0)) bitsLt_bf16_f32
      ∧ (∀ r j : Fin 256, v6 (ix2 r j) = conv p w f ⟨1536 + r.val, by omega⟩ j)
      ∧ (∀ r j : Fin 256, v7 (ix2 r j) = conv p w f ⟨1792 + r.val, by omega⟩ j) := by
  unfold k0_pay1
  refine ⟨_, _, rfl, fun r j => ?_, fun r j => ?_⟩
  · pointwise [k0_pay29, k0_pay30, k0_pay31, conv, before, after]
    refine congrArg₂ (· + ·) (congrArg₂ (· + ·) (congrArg₂ (· * ·) rfl ?_) rfl) (congrArg₂ (· * ·) rfl ?_)
    · split
      · refine (Common.select_row r.val 0 (by omega) (by omega) _ _).trans ?_
        (repeat' split) <;> first | (exfalso; omega) | rfl | (refine congrArg (· * _) ?_; blk_ext) | blk_ext
      · (repeat' split) <;> first | (exfalso; omega) | rfl | (refine congrArg (· * _) ?_; blk_ext) | blk_ext
    · split
      · (repeat' split) <;> first | (exfalso; omega) | rfl | (refine congrArg (· * _) ?_; blk_ext) | blk_ext
      · refine (Common.select_row (r.val - 248) 7 (by omega) (by omega) _ _).trans ?_
        (repeat' split) <;> first | (exfalso; omega) | rfl | (refine congrArg (· * _) ?_; blk_ext) | blk_ext

  · pointwise [k0_pay6, conv, before, after]
    refine congrArg₂ (· + ·) (congrArg₂ (· + ·) (congrArg₂ (· * ·) rfl ?_) rfl) (congrArg₂ (· * ·) rfl ?_)
    · split
      · refine (Common.select_row r.val 0 (by omega) (by omega) _ _).trans ?_
        (repeat' split) <;> first | (exfalso; omega) | rfl | (refine congrArg (· * _) ?_; blk_ext) | blk_ext
      · (repeat' split) <;> first | (exfalso; omega) | rfl | (refine congrArg (· * _) ?_; blk_ext) | blk_ext
    · split
      · (repeat' split) <;> first | (exfalso; omega) | rfl | (refine congrArg (· * _) ?_; blk_ext) | blk_ext
      · refine (Common.select_row (r.val - 248) 7 (by omega) (by omega) _ _).trans ?_
        (repeat' split) <;> first | (exfalso; omega) | rfl | (refine congrArg (· * _) ?_; blk_ext) | blk_ext

/-- Eight pieces of a column's rows, one under the other. -/
theorem eight (G : Fin 2048 → Fin 256 → EReal) (v0 v1 v2 v3 v4 v5 v6 v7 : FVec Ideal S256x256 .f32)
    (h0 : ∀ r j : Fin 256, v0 (ix2 r j) = G ⟨0 + r.val, by omega⟩ j) (h1 : ∀ r j : Fin 256, v1 (ix2 r j) = G ⟨256 + r.val, by omega⟩ j) (h2 : ∀ r j : Fin 256, v2 (ix2 r j) = G ⟨512 + r.val, by omega⟩ j) (h3 : ∀ r j : Fin 256, v3 (ix2 r j) = G ⟨768 + r.val, by omega⟩ j) (h4 : ∀ r j : Fin 256, v4 (ix2 r j) = G ⟨1024 + r.val, by omega⟩ j) (h5 : ∀ r j : Fin 256, v5 (ix2 r j) = G ⟨1280 + r.val, by omega⟩ j) (h6 : ∀ r j : Fin 256, v6 (ix2 r j) = G ⟨1536 + r.val, by omega⟩ j) (h7 : ∀ r j : Fin 256, v7 (ix2 r j) = G ⟨1792 + r.val, by omega⟩ j) (r : Fin 2048) (j : Fin 256) :
    concatenate S2048x256 0 [⟨S256x256, v0⟩, ⟨S256x256, v1⟩, ⟨S256x256, v2⟩, ⟨S256x256, v3⟩, ⟨S256x256, v4⟩, ⟨S256x256, v5⟩, ⟨S256x256, v6⟩, ⟨S256x256, v7⟩] concatenates_S256x256_S256x256_S256x256_S256x256_S256x256_S256x256_S256x256_S256x256_S2048x256_d0 (ix2 r j) = G r j := by
  pointwise []
  repeat' split
  all_goals simp only [h0, h1, h2, h3, h4, h5, h6, h7]
  all_goals (refine congrArg (G · j) (Fin.ext ?_); simp only; omega)

/-- The stored block: the second factor times the convolution of the block. -/
theorem block (p b : FVec Ideal S2048x256 .f32) (w : FVec Ideal S3x256 .f32) (f : EReal) (v0 v1 v2 v3 v4 v5 : FVec Ideal S256x256 .f32)
    (h0 : ∀ r j : Fin 256, v0 (ix2 r j) = conv p w f ⟨0 + r.val, by omega⟩ j) (h1 : ∀ r j : Fin 256, v1 (ix2 r j) = conv p w f ⟨256 + r.val, by omega⟩ j) (h2 : ∀ r j : Fin 256, v2 (ix2 r j) = conv p w f ⟨512 + r.val, by omega⟩ j) (h3 : ∀ r j : Fin 256, v3 (ix2 r j) = conv p w f ⟨768 + r.val, by omega⟩ j) (h4 : ∀ r j : Fin 256, v4 (ix2 r j) = conv p w f ⟨1024 + r.val, by omega⟩ j) (h5 : ∀ r j : Fin 256, v5 (ix2 r j) = conv p w f ⟨1280 + r.val, by omega⟩ j) (r : Fin 2048) (j : Fin 256) :
    k0_pay1 (F := Ideal) p b w f (iota .tc S8x256 32 [0] iota_S8x256_d0_w32) (k0_pay6 (F := Ideal)) v0 v1 v2 v3 v4 v5 (k0_pay29 p) (k0_pay30 p f (iota .tc S8x256 32 [0] iota_S8x256_d0_w32)) (k0_pay31 p w f (iota .tc S8x256 32 [0] iota_S8x256_d0_w32)) (ix2 r j)
      = b (ix2 r j) * conv p w f r j := by
  obtain ⟨v6, v7, e, h6, h7⟩ := stored p b w f v0 v1 v2 v3 v4 v5
  rw [e]
  exact congrArg (b (ix2 r j) * ·) (eight (conv p w f) v0 v1 v2 v3 v4 v5 v6 v7 h0 h1 h2 h3 h4 h5 h6 h7 r j)

end Cert.MixAV
-- ==== Proof.MixA.Value.lean ====
module

public import proofs.«01_k».proof.Proof.Gen.MixAIdeal.Value
public import proofs.«01_k».proof.Proof.Gen.RefMixAIdeal.Run
public import Idealize.ShloMosaic.Lib.Pipeline.ValueKit
public import Idealize.ShloMosaic.Lib.Pointwise
public import proofs.«01_k».proof.Proof.Common.Sigmoid
public import proofs.«01_k».proof.Proof.MixA.Pieces
public import Idealize.ShloMosaic.Lib.Claim
@[expose] public section

set_option maxRecDepth 16384

noncomputable section

namespace Cert.MixAV

open Idealize.ShloMosaic Idealize.ShloMosaic.TcCoe Idealize.SL.Sem
open Cert.MixAIdeal Cert.MixAIdeal.Gen

variable (m : (ℓ : Loc nD τ sig) → Buf (Elt Ideal) ℓ)

/-- The windows' blocks at a point of the grid. -/
theorem idx : ∀ t : Fin cfg0.N, win0_0.index t = ![(grid0.coords t 0).val, 0] ∧
    win0_1.index t = ![1, (grid0.coords t 1).val, 0] ∧
    win0_2.index t = ![1, 4 + (grid0.coords t 1).val, 0] ∧
    win0_3.index t = ![1, 8 + (grid0.coords t 1).val, 0] ∧
    win0_4.index t = ![1, 0, (grid0.coords t 1).val] ∧
    win0_5.index t = ![(grid0.coords t 0).val, (grid0.coords t 1).val] :=
  (by decide +kernel : ∀ t : Fin grid0.N, _)

/-- Weight window 1's block at a point: rows of the transposed weights, the columns of the weights. -/
theorem X1 (c : Dev nD) (t : Fin cfg0.N) (a : Fin 256) (k : Fin 2048) : X0_1 m c t (ix3 0 a k) =
    m ((c : Thread nD τ).loc main_arg1) (ix3 1 k ⟨0 + (256 * (grid0.coords t 1).val + a.val), by
      have : (grid0.coords t 1).val < 4 := (grid0.coords t 1).isLt; omega⟩) := by
  unfold X0_1 Pipeline.Window.fill
  rw [dif_pos (moved0_1 t _)]
  obtain ⟨e0, e1, e2, e3, e4, e5⟩ := idx t
  have hb : (grid0.coords t 1).val < 4 := (grid0.coords t 1).isLt
  blk_point [iblk, V, idx t]

/-- Weight window 2's block at a point: rows of the transposed weights, the columns of the weights. -/
theorem X2 (c : Dev nD) (t : Fin cfg0.N) (a : Fin 256) (k : Fin 2048) : X0_2 m c t (ix3 0 a k) =
    m ((c : Thread nD τ).loc main_arg1) (ix3 1 k ⟨1024 + (256 * (grid0.coords t 1).val + a.val), by
      have : (grid0.coords t 1).val < 4 := (grid0.coords t 1).isLt; omega⟩) := by
  unfold X0_2 Pipeline.Window.fill
  rw [dif_pos (moved0_2 t _)]
  obtain ⟨e0, e1, e2, e3, e4, e5⟩ := idx t
  have hb : (grid0.coords t 1).val < 4 := (grid0.coords t 1).isLt
  blk_point [iblk, V, idx t]

/-- Weight window 3's block at a point: rows of the transposed weights, the columns of the weights. -/
theorem X3 (c : Dev nD) (t : Fin cfg0.N) (a : Fin 256) (k : Fin 2048) : X0_3 m c t (ix3 0 a k) =
    m ((c : Thread nD τ).loc main_arg1) (ix3 1 k ⟨2048 + (256 * (grid0.coords t 1).val + a.val), by
      have : (grid0.coords t 1).val < 4 := (grid0.coords t 1).isLt; omega⟩) := by
  unfold X0_3 Pipeline.Window.fill
  rw [dif_pos (moved0_3 t _)]
  obtain ⟨e0, e1, e2, e3, e4, e5⟩ := idx t
  have hb : (grid0.coords t 1).val < 4 := (grid0.coords t 1).isLt
  blk_point [iblk, V, idx t]

/-- Row `R`, column `q` of the activations' product with layer 1's weights. -/
def proj (h : S6144x2048.Idx → EReal) (w : S2x2048x12608.Idx → EReal) (R : Fin 6144) (q : Fin 12608) : EReal :=
  ∑ k : Fin 2048, h (ix2 R k) * w (ix3 1 k q)

/-- The gated input of the convolution, at column `j`, by row. -/
def gated (h : S6144x2048.Idx → EReal) (w : S2x2048x12608.Idx → EReal) (j : Fin 1024) (R : ℕ) : EReal :=
  if hR : R < 6144 then proj h w ⟨R, hR⟩ ⟨2048 + j.val, by omega⟩ * proj h w ⟨R, hR⟩ ⟨j.val, by omega⟩ else 0

/-- The gated short convolution of every sequence. -/
def G (h : S6144x2048.Idx → EReal) (w : S2x2048x12608.Idx → EReal) (cw : S2x3x1024.Idx → EReal) : S6144x1024.Idx → EReal :=
  fun i => proj h w (i 0) ⟨1024 + (i 1).val, by have := (i 1).isLt; have e : S6144x1024.size 1 = 1024 := rfl; omega⟩ *
    (cw (ix3 1 0 (i 1)) * Common.prevRow (gated h w (i 1)) (i 0).val
      + cw (ix3 1 1 (i 1)) * gated h w (i 1) (i 0).val
      + cw (ix3 1 2 (i 1)) * Common.nextRow (gated h w (i 1)) (i 0).val)

/-- A block's convolution is the convolution of the sequences its rows belong to. -/
theorem conv_eq (p : S2048x256.Idx → EReal) (w : S3x256.Idx → EReal) (f : EReal) (Q : ℕ → EReal) (a : ℕ) (j : Fin 256)
    (ha : a < 3) (hf : f = if a < 2 then 0 else 1) (hp : ∀ r : Fin 2048, p (ix2 r j) = Q (2048 * a + r.val)) (r : Fin 2048) :
    conv p w f r j = w (ix2 0 j) * Common.prevRow Q (2048 * a + r.val) + w (ix2 1 j) * Q (2048 * a + r.val)
      + w (ix2 2 j) * Common.nextRow Q (2048 * a + r.val) := by
  unfold conv
  refine congrArg₂ (· + ·) (congrArg₂ (· + ·) (congrArg₂ (· * ·) rfl ?_) (congrArg₂ (· * ·) rfl (hp r))) (congrArg₂ (· * ·) rfl ?_)
  · unfold before Common.prevRow
    simp only [hp, hf]
    by_cases h2 : a < 2
    · have h4 : 2048 * a + r.val < 4096 := by omega
      simp only [h2, h4, if_true, mul_zero, ite_self]
      by_cases h0 : r.val % 256 = 0
      · rw [if_pos h0, if_pos (by omega)]
      · rw [if_neg h0, if_neg (by omega)]
        exact congrArg Q (by omega)
    · have h4 : ¬ 2048 * a + r.val < 4096 := by omega
      simp only [h2, h4, if_false, mul_one]
      by_cases h0 : r.val % 1024 = 0
      · rw [if_pos (by omega), if_pos h0, if_pos (by omega)]
      · rw [if_neg (by omega : ¬ (2048 * a + r.val) % 1024 = 0), if_neg h0, ite_self]
        exact congrArg Q (by omega)
  · unfold after Common.nextRow
    simp only [hp, hf]
    by_cases h2 : a < 2
    · have h4 : 2048 * a + r.val < 4096 := by omega
      simp only [h2, h4, if_true, mul_zero, ite_self]
      by_cases h0 : (r.val + 1) % 256 = 0
      · rw [if_pos h0, if_pos (by omega)]
      · rw [if_neg h0, if_neg (by omega)]
        exact congrArg Q (by omega)
    · have h4 : ¬ 2048 * a + r.val < 4096 := by omega
      simp only [h2, h4, if_false, mul_one]
      by_cases h0 : (r.val + 1) % 1024 = 0
      · rw [if_pos (by omega), if_pos h0, if_pos (by omega)]
      · rw [if_neg (by omega : ¬ (2048 * a + r.val + 1) % 1024 = 0), if_neg h0, ite_self]
        exact congrArg Q (by omega)

/-- The factor under which a block's neighbours in other blocks of 256 rows count: none of the context's. -/
theorem factor (i : grid0.Coords) : k0_pay5 (F := Ideal) i = if (i 0).val < 2 then (0 : EReal) else 1 := by
  unfold k0_pay5
  have h : (i 0).val < 3 := (i 0).isLt
  generalize (i 0).val = n at h ⊢
  interval_cases n <;> simp [Scalar.select, Scalar.cmpi, IntOp.cmpi, Scalar.ofBits, Ideal.ofBits_one_f32]

/-- The array the kernel writes back. -/
theorem kernel_value (c : Dev nD) : (dats m 0 c).arrAt 5 cfg0.N =
    G (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  idx_vars y
  obtain ⟨e0, e1, e2, e3, e4, e5⟩ := idx t
  have hb : (grid0.coords t 1).val < 4 := (grid0.coords t 1).isLt
  have ha : (grid0.coords t 0).val < 3 := (grid0.coords t 0).isLt
  refine (block _ _ _ _ _ _ _ _ _ _ (piece0 _ _ _ _ _) (piece1 _ _ _) (piece2 _ _ _) (piece3 _ _ _) (piece4 _ _ _) (piece5 _ _ _) y0 y1).trans ?_
  refine (congrArg₂ (· * ·) rfl (conv_eq _ _ _ (gated (m ((c : Thread nD τ).loc main_arg0)) (m ((c : Thread nD τ).loc main_arg1)) ⟨256 * (grid0.coords t 1).val + y1.val, by omega⟩)
    (grid0.coords t 0).val y1 ha (factor _) (fun r => ?_) y0)).trans ?_
  · pointwise [k0_pay2]
    unfold gated proj
    rw [dif_pos (by omega)]
    refine congrArg₂ (· * ·) (Finset.sum_congr rfl fun k _ => ?_) (Finset.sum_congr rfl fun k _ => ?_)
    · rw [X3]
      blk_point [iblk, V, idx t]
    · rw [X1]
      blk_point [iblk, V, idx t]
  · pointwise [k0_pay3, k0_pay4, G, proj]
    have h0 : ((((View.whole main_v1).slice (win0_5.rect t)).emb (ix2 y0 y1) 0 : Fin _) : ℕ) = 2048 * (grid0.coords t 0).val + y0.val :=
      (Pipeline.Window.rect_emb_val win0_5 t (ix2 y0 y1) 0).trans (by rw [e5, Nat.mul_comm]; rfl)
    have h1 : (((View.whole main_v1).slice (win0_5.rect t)).emb (ix2 y0 y1) 1) = (⟨256 * (grid0.coords t 1).val + y1.val, by omega⟩ : Fin 1024) :=
      Fin.ext ((Pipeline.Window.rect_emb_val win0_5 t (ix2 y0 y1) 1).trans (by rw [e5, Nat.mul_comm]; rfl))
    simp only [h1, h0]
    refine congrArg₂ (· * ·) (Finset.sum_congr rfl fun k _ => ?_) (congrArg₂ (· + ·) (congrArg₂ (· + ·) (congrArg₂ (· * ·) ?_ rfl) (congrArg₂ (· * ·) ?_ rfl)) (congrArg₂ (· * ·) ?_ rfl))
    · rw [X2]
      blk_point [iblk, V, idx t]
    all_goals blk_point [iblk, V, idx t]

end Cert.MixAV
-- ==== Proof.MixA.Claims.lean ====
module

public import proofs.«01_k».proof.Defs
public import proofs.«01_k».proof.Proof.MixA.Value
public import Idealize.ShloMosaic.Lib.Claim
public import proofs.«01_k».proof.Proof.Common.HostConv

@[expose] public section

set_option maxRecDepth 1000000

noncomputable section

namespace Cert.MixAV

open Idealize.ShloMosaic Idealize.ShloMosaic.TcCoe Idealize.SL.Sem Cert

/-- The reference terminates, keeps its arguments and leaves no counter raised. -/
theorem ref_frame : Cert.quiescent_RefMixAIdeal := fun m g _ =>
  (θ_run _ _ _).mono (fun r h => ⟨fun c => (h c).2, sem_eq_zero_of_no_sems (by decide) r.2⟩)
    (Cert.RefMixAIdeal.Value.run m g)

/-- The kernel's result is the reference's, from any arguments. -/
theorem algebraic : Cert.algebraic_MixAIdeal_RefMixAIdeal := by
  pair_intro
  · run_from Cert.MixAIdeal.Value.run_blocks m g
  · run_from Cert.RefMixAIdeal.Value.run (F := Ideal) m' g'
    refine Eq.trans ?_ (Cert.MixAV.kernel_value m c).symm
    funext i
    idx_vars i
    unfold RefMixAIdeal.Value.res_main_v66
    unfold G
    refine (congrArg₂ (· * ·) ?_ ?_ : (_ : EReal) * _ = _ * _)
    · pointwise [proj]
      rw [(hagree c).1, (hagree c).2.1]
    generalize hp : mulf (F := Ideal) (extractStridedSlice RefMixAIdeal.S6144x1024 ![0, 2048] (Host.dotGeneral (F := Ideal) RefMixAIdeal.dot_S6144x2048_S2048x12608_S6144x12608_1_0_0_1_n_n none (extf .f32 (m' ((c.tc : Thread RefMixAIdeal.nD RefMixAIdeal.τ).loc RefMixAIdeal.main_arg0)) RefMixAIdeal.Facts₀.bitsLt_bf16_f32) (shapeCast RefMixAIdeal.S2048x12608 (extractStridedSlice RefMixAIdeal.S1x2048x12608 ![1, 0, 0] (m' ((c.tc : Thread RefMixAIdeal.nD RefMixAIdeal.τ).loc RefMixAIdeal.main_arg1)) RefMixAIdeal.Facts₀.slices_S2x2048x12608_S1x2048x12608_1_0_0) RefMixAIdeal.Facts₀.shapeCasts_S1x2048x12608_S2048x12608)) RefMixAIdeal.Facts₀.slices_S6144x12608_S6144x1024_0_2048) (extractStridedSlice RefMixAIdeal.S6144x1024 ![0, 0] (Host.dotGeneral (F := Ideal) RefMixAIdeal.dot_S6144x2048_S2048x12608_S6144x12608_1_0_0_1_n_n none (extf .f32 (m' ((c.tc : Thread RefMixAIdeal.nD RefMixAIdeal.τ).loc RefMixAIdeal.main_arg0)) RefMixAIdeal.Facts₀.bitsLt_bf16_f32) (shapeCast RefMixAIdeal.S2048x12608 (extractStridedSlice RefMixAIdeal.S1x2048x12608 ![1, 0, 0] (m' ((c.tc : Thread RefMixAIdeal.nD RefMixAIdeal.τ).loc RefMixAIdeal.main_arg1)) RefMixAIdeal.Facts₀.slices_S2x2048x12608_S1x2048x12608_1_0_0) RefMixAIdeal.Facts₀.shapeCasts_S1x2048x12608_S2048x12608)) RefMixAIdeal.Facts₀.slices_S6144x12608_S6144x1024_0_0) = p
    rw [(hagree c).2.2]
    pointwise []
    have hz : FloatOps.sitofp (F := Ideal) FTy.f32 0#32 = (0 : EReal) := by
      show (((0#32 : BitVec 32).toInt : ℝ) : EReal) = 0
      simp
    have hq : ∀ (R : ℕ) (h : R < 6144), p (ix2 ⟨R, h⟩ i1) = gated (m ((c.tc : Thread MixAIdeal.nD MixAIdeal.τ).loc MixAIdeal.main_arg0)) (m ((c.tc : Thread MixAIdeal.nD MixAIdeal.τ).loc MixAIdeal.main_arg1)) i1 R := by
      intro R h
      rw [← hp]
      pointwise [gated, proj]
      rw [(hagree c).1, (hagree c).2.1, dif_pos h]
    have hi : i0.val < 6144 := i0.isLt
    simp only [hq, hz]
    generalize gated (m ((c.tc : Thread MixAIdeal.nD MixAIdeal.τ).loc MixAIdeal.main_arg0)) (m ((c.tc : Thread MixAIdeal.nD MixAIdeal.τ).loc MixAIdeal.main_arg1)) i1 = Q
    by_cases h : i0.val < 4096
    · rw [dif_pos h, Common.prev_context Q i0.val h, Common.this_context Q i0.val h, Common.next_context Q i0.val h]
    · rw [dif_neg h, Common.prev_decoded Q i0.val h hi, Common.this_decoded Q i0.val h hi, Common.next_decoded Q i0.val h hi]

end Cert.MixAV
-- ==== Proof.Q.Value.lean ====
module

public import proofs.«01_k».proof.Proof.Gen.QIdeal.Frame
public import proofs.«01_k».proof.Proof.Gen.RefQIdeal.Run
public import Idealize.ShloMosaic.Lib.Pipeline.ValueKit
public import Idealize.ShloMosaic.Lib.Pointwise
public import proofs.«01_k».proof.Proof.Common.Sigmoid
public import Idealize.ShloMosaic.Lib.Claim
@[expose] public section

set_option maxRecDepth 16384

noncomputable section

namespace Cert.QV

open Idealize.ShloMosaic Idealize.ShloMosaic.TcCoe Idealize.SL.Sem
open Cert.QIdeal Cert.QIdeal.Gen

/-- Row `R`, column `q` of the activations' product with layer 1's weights for the queries' latent. -/
def lat (h : S6144x2048.Idx → EReal) (w : S2x2048x12608.Idx → EReal) (R : Fin 6144) (q : Fin 768) : EReal :=
  ∑ k : Fin 2048, h (ix2 R k) * w (ix3 1 k ⟨3072 + q.val, by omega⟩)

/-- The latent, normalised and scaled. -/
def nrm (h : S6144x2048.Idx → EReal) (w : S2x2048x12608.Idx → EReal) (g : S2x768.Idx → EReal) (R : Fin 6144) (q : Fin 768) : EReal :=
  lat h w R q * Ideal.rsqrt (Ideal.div (∑ k : Fin 768, lat h w R k * lat h w R k) (Ideal.ofBits .f32 0x44400000#32) + Ideal.ofBits .f32 0x358637BD#32) * g (ix2 1 q)

/-- Column `n` of the queries. -/
def query (h : S6144x2048.Idx → EReal) (w : S2x2048x12608.Idx → EReal) (g : S2x768.Idx → EReal) (u : S2x768x3072.Idx → EReal) (R : Fin 6144) (n : Fin 3072) : EReal :=
  ∑ q : Fin 768, nrm h w g R q * u (ix3 1 q n)

/-- Which of a query's columns the kernel's column `j` is: the heads' unrotated parts come first, then their rotated parts. -/
def col (j : Fin 3072) : Fin 3072 :=
  if h : j.val < 2048 then ⟨j.val / 128 * 192 + j.val % 128, by omega⟩ else ⟨(j.val - 2048) / 64 * 192 + (128 + (j.val - 2048) % 64), by omega⟩

variable (m : (ℓ : Loc nD τ sig) → Buf (Elt Ideal) ℓ)

/-- The windows' blocks at a point of the grid. -/
theorem idx : ∀ t : Fin cfg0.N, (win0_0.index t = ![(grid0.coords t 0).val, 0] ∧
    win0_1.index t = ![1, 4, 0] ∧
    win0_2.index t = ![0, 0] ∧
    win0_3.index t = ![1, 0, (grid0.coords t 1).val] ∧
    win0_4.index t = ![(grid0.coords t 0).val, (grid0.coords t 1).val]) ∧ (grid0.coords t 0).val = t.val / 3 :=
  (by decide +kernel : ∀ t : Fin grid0.N, _)

/-- The scale as the region finds it. -/
theorem V_v10 (c : Dev nD) (z : S1x768.Idx) : V m c main_v10 z = m ((c : Thread nD τ).loc main_arg2) (ix2 1 (z 1)) := by
  unfold V V0
  simp only [List.flatten_cons, List.flatten_nil, List.append_nil]
  entry_read
  idx_vars z
  pointwise []

/-- The latent's weights as the region finds them: transposed. -/
theorem V_v7 (c : Dev nD) (z : S2x12608x2048.Idx) : V m c main_v7 z = m ((c : Thread nD τ).loc main_arg1) (ix3 (z 0) (z 2) (z 1)) := by
  unfold V V0
  simp only [List.flatten_cons, List.flatten_nil, List.append_nil]
  entry_read
  idx_vars z
  pointwise []

/-- The queries' weights as the region finds them: their columns in the kernel's order. -/
theorem V_v6 (c : Dev nD) (z : S2x768x3072.Idx) : V m c main_v6 z = m ((c : Thread nD τ).loc main_arg3) (ix3 (z 0) (z 1) (col (z 2))) := by
  unfold V V0
  simp only [List.flatten_cons, List.flatten_nil, List.append_nil]
  entry_read
  idx_vars z
  pointwise [col]
  split <;> rfl

/-- The latent's weights' block at a point. -/
theorem X1 (c : Dev nD) (t : Fin cfg0.N) (a : Fin 768) (k : Fin 2048) : X0_1 m c t (ix3 0 a k) =
    m ((c : Thread nD τ).loc main_arg1) (ix3 1 k ⟨3072 + a.val, by omega⟩) := by
  unfold X0_1 Pipeline.Window.fill
  rw [dif_pos (moved0_1 t _)]
  obtain ⟨⟨e0, e1, e2, e3, e4⟩, e5⟩ := idx t
  refine Eq.trans ?_ (V_v7 m c (ix3 1 ⟨3072 + a.val, by omega⟩ k))
  blk_point [iblk, idx t]

/-- What a row block's first point computes: the normalised latent. -/
theorem fresh (c : Dev nD) (t : Fin cfg0.N) (r : Fin 2048) (q : Fin 768) (hr : 2048 * (t.val / 3) + r.val < 6144) :
    k0_pay1 (iblk m c 0 t) (X0_1 m c t) (iblk m c 2 t) (ix2 r q) = nrm ((m ((c : Thread nD τ).loc main_arg0))) ((m ((c : Thread nD τ).loc main_arg1))) ((m ((c : Thread nD τ).loc main_arg2))) ⟨2048 * (t.val / 3) + r.val, hr⟩ q := by
  obtain ⟨⟨e0, e1, e2, e3, e4⟩, e5⟩ := idx t
  have hx : ∀ k : Fin 2048, iblk m c 0 t (ix2 r k) = ((m ((c : Thread nD τ).loc main_arg0))) (ix2 ⟨2048 * (t.val / 3) + r.val, hr⟩ k) := fun k => by
    blk_point [iblk, V, idx t]
  have hg : iblk m c 2 t (ix2 0 q) = ((m ((c : Thread nD τ).loc main_arg2))) (ix2 1 q) := by
    refine Eq.trans ?_ (V_v10 m c (ix2 0 q))
    blk_point [iblk, idx t]
  have hl : ∀ q' : Fin 768, (∑ k : Fin 2048, (show EReal from iblk m c 0 t (ix2 r k)) * (show EReal from X0_1 m c t (ix3 0 q' k))) = lat ((m ((c : Thread nD τ).loc main_arg0))) ((m ((c : Thread nD τ).loc main_arg1))) ⟨2048 * (t.val / 3) + r.val, hr⟩ q' :=
    fun q' => Finset.sum_congr rfl fun k _ => by rw [hx, X1]
  unfold nrm
  simp only [← hl]
  rw [← hg]
  pointwise [k0_pay1]

/-- After any point the scratch holds the normalised latent of the point's row block. -/
theorem scratch (c : Dev nD) : ∀ (n : ℕ) (hn : n < cfg0.N) (r : Fin 2048) (q : Fin 768) (hr : 2048 * (n / 3) + r.val < 6144),
    (outsAt0 m c n hn).2 (ix2 r q) = nrm ((m ((c : Thread nD τ).loc main_arg0))) ((m ((c : Thread nD τ).loc main_arg1))) ((m ((c : Thread nD τ).loc main_arg2))) ⟨2048 * (n / 3) + r.val, hr⟩ q := by
  intro n
  induction n with
  | zero =>
    intro hn r q hr
    rw [outsAt0_A m c ⟨0, hn⟩ rfl]
    frame_out
    exact fresh m c ⟨0, hn⟩ r q hr
  | succ n ih =>
    intro hn r q hr
    by_cases h0 : (n + 1) % 3 = 0
    · rw [outsAt0_A m c ⟨n + 1, hn⟩ h0]
      frame_out
      exact fresh m c ⟨n + 1, hn⟩ r q hr
    · rw [outsAt0_B m c ⟨n + 1, hn⟩ h0]
      refine (ih (Nat.lt_of_succ_lt hn) r q (by omega)).trans ?_
      exact congrArg (fun R => nrm ((m ((c : Thread nD τ).loc main_arg0))) ((m ((c : Thread nD τ).loc main_arg1))) ((m ((c : Thread nD τ).loc main_arg2))) R q) (Fin.ext (show 2048 * (n / 3) + r.val = 2048 * ((n + 1) / 3) + r.val by omega))

/-- A point's block: the scratch it finds or fills, times the point's weights. -/
theorem block (c : Dev nD) (t : Fin cfg0.N) : (outsAt0 m c t.val t.isLt).1 = k0_pay2 (F := Ideal) (outsAt0 m c t.val t.isLt).2 (iblk m c 3 t) := by
  by_cases h0 : t.val % 3 = 0
  · rw [outsAt0_A m c t h0]
    frame_out
  · rw [outsAt0_B m c t h0]
    frame_out
    exact congrArg (fun z => k0_pay2 (F := Ideal) z (iblk m c 3 t)) (Memref.IsWhole.read_unread (Memref.isWhole_whole cc0_scratch0) _)

/-- The array the kernel writes back. -/
theorem kernel_value (c : Dev nD) : (dats m 0 c).arrAt 4 cfg0.N =
    fun i => query ((m ((c : Thread nD τ).loc main_arg0))) ((m ((c : Thread nD τ).loc main_arg1))) ((m ((c : Thread nD τ).loc main_arg2))) ((m ((c : Thread nD τ).loc main_arg3))) (i 0) (col (i 1)) := by
  refine (dats m 0 c).arrAt_eq_of_covers 4 _ (by decide +kernel) fun t hf y => ?_
  blk_simp
  rw [after0_4, block]
  idx_vars y
  obtain ⟨⟨e0, e1, e2, e3, e4⟩, e5⟩ := idx t
  have ha : (grid0.coords t 0).val < 3 := (grid0.coords t 0).isLt
  have hb : (grid0.coords t 1).val < 3 := (grid0.coords t 1).isLt
  have hr : 2048 * (t.val / 3) + y0.val < 6144 := by omega
  have hj : 1024 * (grid0.coords t 1).val + y1.val < 3072 := by omega
  have h0 : (((View.whole main_v11).slice (win0_4.rect t)).emb (ix2 y0 y1) 0) = (⟨2048 * (t.val / 3) + y0.val, hr⟩ : Fin 6144) :=
    Fin.ext ((Pipeline.Window.rect_emb_val win0_4 t (ix2 y0 y1) 0).trans (by rw [e4]; show (grid0.coords t 0).val * 2048 + y0.val = 2048 * (t.val / 3) + y0.val; omega))
  have h1 : (((View.whole main_v11).slice (win0_4.rect t)).emb (ix2 y0 y1) 1) = (⟨1024 * (grid0.coords t 1).val + y1.val, hj⟩ : Fin 3072) :=
    Fin.ext ((Pipeline.Window.rect_emb_val win0_4 t (ix2 y0 y1) 1).trans (by rw [e4]; show (grid0.coords t 1).val * 1024 + y1.val = 1024 * (grid0.coords t 1).val + y1.val; omega))
  have hw : ∀ q : Fin 768, iblk m c 3 t (ix3 0 q y1) = ((m ((c : Thread nD τ).loc main_arg3))) (ix3 1 q (col ⟨1024 * (grid0.coords t 1).val + y1.val, hj⟩)) := fun q => by
    refine Eq.trans ?_ (V_v6 m c (ix3 1 q ⟨1024 * (grid0.coords t 1).val + y1.val, hj⟩))
    blk_point [iblk, idx t]
  rw [h0, h1]
  pointwise [k0_pay2, query]
  refine Fin.sum_fin_congr fun q => ?_
  rw [scratch m c t.val t.isLt y0 q hr, hw]

/-- The first result: every head's unrotated columns. -/
theorem W_v14 (c : Dev nD) (i : S6144x16x128.Idx) : Pipeline.afterTail₀ cfgs (dats m) 0 (V0 m) [hostOps1] c main_v14 i =
    query ((m ((c : Thread nD τ).loc main_arg0))) ((m ((c : Thread nD τ).loc main_arg1))) ((m ((c : Thread nD τ).loc main_arg2))) ((m ((c : Thread nD τ).loc main_arg3))) (i 0) ⟨(i 1).val * 192 + (i 2).val, by have := (i 1).isLt; have := (i 2).isLt; have e : S6144x16x128.size 1 = 16 := rfl; have e' : S6144x16x128.size 2 = 128 := rfl; omega⟩ := by
  unfold Pipeline.afterTail₀
  simp only [List.flatten_cons, List.flatten_nil, List.append_nil, hostOps1]
  after_results
  have h := Pipeline.withArrays_arr spec0 (by decide) c (V0 m c) (fun w => (dats m 0 c).arrAt w cfg0.N) 4
  erw [h, kernel_value]
  idx_vars i
  pointwise [col]
  refine congrArg (query _ _ _ _ i0) ?_
  rw [dif_pos (by omega)]
  exact Fin.ext (show (i1.val * 128 + i2.val) / 128 * 192 + (i1.val * 128 + i2.val) % 128 = i1.val * 192 + i2.val by omega)

/-- The second result: every head's rotated columns. -/
theorem W_v15 (c : Dev nD) (i : S6144x16x64.Idx) : Pipeline.afterTail₀ cfgs (dats m) 0 (V0 m) [hostOps1] c main_v15 i =
    query ((m ((c : Thread nD τ).loc main_arg0))) ((m ((c : Thread nD τ).loc main_arg1))) ((m ((c : Thread nD τ).loc main_arg2))) ((m ((c : Thread nD τ).loc main_arg3))) (i 0) ⟨(i 1).val * 192 + (128 + (i 2).val), by have := (i 1).isLt; have := (i 2).isLt; have e : S6144x16x64.size 1 = 16 := rfl; have e' : S6144x16x64.size 2 = 64 := rfl; omega⟩ := by
  unfold Pipeline.afterTail₀
  simp only [List.flatten_cons, List.flatten_nil, List.append_nil, hostOps1]
  after_results
  have h := Pipeline.withArrays_arr spec0 (by decide) c (V0 m c) (fun w => (dats m 0 c).arrAt w cfg0.N) 4
  erw [h, kernel_value]
  idx_vars i
  pointwise [col]
  refine congrArg (query _ _ _ _ i0) ?_
  exact Fin.ext (show (i1.val * 64 + i2.val) / 64 * 192 + (128 + (i1.val * 64 + i2.val) % 64) = i1.val * 192 + (128 + i2.val) by omega)

end Cert.QV
-- ==== Proof.Q.Claims.lean ====
module

public import proofs.«01_k».proof.Defs
public import proofs.«01_k».proof.Proof.Q.Value
public import Idealize.ShloMosaic.Lib.Claim

@[expose] public section

set_option maxRecDepth 1000000

noncomputable section

namespace Cert.QV

open Idealize.ShloMosaic Idealize.ShloMosaic.TcCoe Idealize.SL.Sem Cert

/-- The reference terminates, keeps its arguments and leaves no counter raised. -/
theorem ref_frame : Cert.quiescent_RefQIdeal := fun m g _ =>
  (θ_run _ _ _).mono (fun r h => ⟨fun c => (h c).2.2, sem_eq_zero_of_no_sems (by decide) r.2⟩)
    (Cert.RefQIdeal.Value.run m g)

/-- The kernel's result is the reference's, from any arguments. -/
theorem algebraic : Cert.algebraic_QIdeal_RefQIdeal := by
  pair_intro
  · run_from Cert.QIdeal.Gen.run_main m g
    · exact Cert.QIdeal.Gen.W_main_arg1 m _ c
    · exact Cert.QIdeal.Gen.W_main_arg2 m _ c
    · exact Cert.QIdeal.Gen.W_main_arg3 m _ c
  · run_from Cert.RefQIdeal.Value.run (F := Ideal) m' g'
    · funext i
      refine Eq.trans ?_ (Cert.QV.W_v14 m c i).symm
      generalize hp : (extractStridedSlice RefQIdeal.S6144x768 ![0, 3072] (Host.dotGeneral (F := Ideal) RefQIdeal.dot_S6144x2048_S2048x12608_S6144x12608_1_0_0_1_n_n none (extf .f32 (m ((c.tc : Thread QIdeal.nD QIdeal.τ).loc QIdeal.main_arg0)) RefQIdeal.Facts₀.bitsLt_bf16_f32) (shapeCast RefQIdeal.S2048x12608 (extractStridedSlice RefQIdeal.S1x2048x12608 ![1, 0, 0] (m ((c.tc : Thread QIdeal.nD QIdeal.τ).loc QIdeal.main_arg1)) RefQIdeal.Facts₀.slices_S2x2048x12608_S1x2048x12608_1_0_0) RefQIdeal.Facts₀.shapeCasts_S1x2048x12608_S2048x12608)) RefQIdeal.Facts₀.slices_S6144x12608_S6144x768_0_3072) = p
      have hq : ∀ (R : Fin 6144) (k : Fin 768), p (ix2 R k) = lat (m ((c.tc : Thread QIdeal.nD QIdeal.τ).loc QIdeal.main_arg0)) (m ((c.tc : Thread QIdeal.nD QIdeal.τ).loc QIdeal.main_arg1)) R k := fun R k => by
        rw [← hp]
        pointwise [lat]
      idx_vars i
      pointwise [query, nrm]
      simp only [hq]

    · funext i
      refine Eq.trans ?_ (Cert.QV.W_v15 m c i).symm
      generalize hp : (extractStridedSlice RefQIdeal.S6144x768 ![0, 3072] (Host.dotGeneral (F := Ideal) RefQIdeal.dot_S6144x2048_S2048x12608_S6144x12608_1_0_0_1_n_n none (extf .f32 (m ((c.tc : Thread QIdeal.nD QIdeal.τ).loc QIdeal.main_arg0)) RefQIdeal.Facts₀.bitsLt_bf16_f32) (shapeCast RefQIdeal.S2048x12608 (extractStridedSlice RefQIdeal.S1x2048x12608 ![1, 0, 0] (m ((c.tc : Thread QIdeal.nD QIdeal.τ).loc QIdeal.main_arg1)) RefQIdeal.Facts₀.slices_S2x2048x12608_S1x2048x12608_1_0_0) RefQIdeal.Facts₀.shapeCasts_S1x2048x12608_S2048x12608)) RefQIdeal.Facts₀.slices_S6144x12608_S6144x768_0_3072) = p
      have hq : ∀ (R : Fin 6144) (k : Fin 768), p (ix2 R k) = lat (m ((c.tc : Thread QIdeal.nD QIdeal.τ).loc QIdeal.main_arg0)) (m ((c.tc : Thread QIdeal.nD QIdeal.τ).loc QIdeal.main_arg1)) R k := fun R k => by
        rw [← hp]
        pointwise [lat]
      idx_vars i
      pointwise [query, nrm]
      simp only [hq]

end Cert.QV
-- ==== Proof.Kv.Run.lean ====
module

public import proofs.«01_k».proof.Proof.Gen.KvIdeal.Frame
public import proofs.«01_k».proof.Proof.Gen.KvIdeal.Skeleton
public import Idealize.ShloMosaic.Lib.Pipeline.TableIdle
public import Idealize.ShloMosaic.Lib.Pipeline.ValueKit
public import Idealize.ShloMosaic.Lib.VecWindow

@[expose] public section

set_option maxRecDepth 16384

noncomputable section

namespace Cert.KvV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KvIdeal Cert.KvIdeal.Gen

variable {F : FTy → Type} [FloatOps F]

/-- A load of all of a whole buffer holding `x` reads `x`. -/
theorem whole_read {sp : Space} {s : Shape} {e : EltTy} {a : Memref sig .tc sp s e} (h : a.IsWhole) (x : Vec F s e)
    {off : Fin s.rank → ℕ} (inb : ∀ k, off k + s.size k ≤ s.size k) :
    a.view.readAt (Elt F) (Rect.unit off s.size inb).toLoadRect (h.unread x) = x :=
  (View.readAt_full _ _ _).trans (h.read_unread _)

set_option maxHeartbeats 2000000 in
/-- The first point of a row block whose latents are written out: every result is stored. -/
theorem first_run (c : Dev nD) (i : grid0.Coords) (arg2 : Memref sig .tc .vmem S2048x2048 .bf16) (harg2 : arg2.IsWhole) (arg3 : Memref sig .tc .vmem S1x640x2048 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S2048x512 .f32) (harg6 : arg6.IsWhole) (arg7 : Memref sig .tc .vmem S2048x128 .f32) (harg7 : arg7.IsWhole) (arg8 : Memref sig .tc .vmem S2048x512 .bf16) (harg8 : arg8.IsWhole) (arg9 : Memref sig .tc .vmem S2048x512 .bf16) (harg9 : arg9.IsWhole) (hc : k0_cond1 i = 1#1) (hd : k0_cond2 i = 1#1)
    (x0 : Vec F S2048x2048 .bf16) (x1 : Vec F S1x640x2048 .f32) (x2 : Vec F S1x512 .f32) (x3 : Vec F S1x512x512 .f32)  (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x0 x1 x2) ∗ owns (c : Thread nD τ) arg7 fullShare (k0_pay3 x0 x1) ∗ owns (c : Thread nD τ) arg8 fullShare (k0_pay5 (k0_pay4 x0 x1 x2) x3) ∗ owns (c : Thread nD τ) arg9 fullShare (k0_pay4 x0 x1 x2)) -∗ K ⟨⟩))
      ⊢ wp frame (wpE (defs₀ (F := F)) Variants.none c none) E (cc0_kv_proj i arg2 harg2 arg3 harg3 arg4 harg4 arg5 harg5 arg6 harg6 arg7 harg7 arg8 harg8 arg9 harg9) K := by
  simp only [cc0_kv_proj_eq_skeleton]; unfold cc0_kv_proj_skel
  unfold owns
  iintro ⟨⟨%f0, %hf0, H0⟩, ⟨%f1, %hf1, H1⟩, ⟨%f2, %hf2, H2⟩, ⟨%f3, %hf3, H3⟩, ⟨%dH4, %fH4, -, H4⟩, ⟨%dH5, %fH5, -, H5⟩, ⟨%dH6, %fH6, -, H6⟩, ⟨%dHS, %fHS, -, HS⟩, Hk⟩
  obtain rfl := harg2.eq_unread hf0; obtain rfl := harg3.eq_unread hf1; obtain rfl := harg4.eq_unread hf2; obtain rfl := harg5.eq_unread hf3
  sl_exec (disch := first | sl_exact hc | sl_exact hd)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; exact (View.read_writes_full _ _ _ _ _).trans (congr (congr (congrArg k0_pay2 (whole_read harg2 _ _)) (whole_read harg3 _ _)) (whole_read harg4 _ _))
  isplitl [H5]
  · iexists _; isplitr
    swap; · iexact H5
    ipureintro; exact (View.read_writes_full _ _ _ _ _).trans (congr (congrArg k0_pay3 (whole_read harg2 _ _)) (whole_read harg3 _ _))
  isplitl [H6]
  · iexists _; isplitr
    swap; · iexact H6
    ipureintro; exact (View.read_writes_full _ _ _ _ _).trans (congr (congrArg k0_pay5 ((View.readCov_full _ _ _ _ _).trans (congr (congr (congrArg k0_pay4 (whole_read harg2 _ _)) (whole_read harg3 _ _)) (whole_read harg4 _ _)))) (whole_read harg5 _ _))
  iexists _; isplitr
  swap; · iexact HS
  ipureintro; exact (View.read_writes_full _ _ _ _ _).trans (congr (congr (congrArg k0_pay4 (whole_read harg2 _ _)) (whole_read harg3 _ _)) (whole_read harg4 _ _))

set_option maxHeartbeats 2000000 in
/-- The first point of the row block whose latents are not written out. -/
theorem last_run (c : Dev nD) (i : grid0.Coords) (arg2 : Memref sig .tc .vmem S2048x2048 .bf16) (harg2 : arg2.IsWhole) (arg3 : Memref sig .tc .vmem S1x640x2048 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S2048x512 .f32) (harg6 : arg6.IsWhole) (arg7 : Memref sig .tc .vmem S2048x128 .f32) (harg7 : arg7.IsWhole) (arg8 : Memref sig .tc .vmem S2048x512 .bf16) (harg8 : arg8.IsWhole) (arg9 : Memref sig .tc .vmem S2048x512 .bf16) (harg9 : arg9.IsWhole) (hc : k0_cond1 i = 1#1) (hd : ¬k0_cond2 i = 1#1)
    (x0 : Vec F S2048x2048 .bf16) (x1 : Vec F S1x640x2048 .f32) (x2 : Vec F S1x512 .f32) (x3 : Vec F S1x512x512 .f32) (x4 : Vec F S2048x512 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1) ∗ owns (c : Thread nD τ) arg8 fullShare (k0_pay5 (k0_pay4 x0 x1 x2) x3) ∗ owns (c : Thread nD τ) arg9 fullShare (k0_pay4 x0 x1 x2)) -∗ K ⟨⟩))
      ⊢ wp frame (wpE (defs₀ (F := F)) Variants.none c none) E (cc0_kv_proj i arg2 harg2 arg3 harg3 arg4 harg4 arg5 harg5 arg6 harg6 arg7 harg7 arg8 harg8 arg9 harg9) K := by
  simp only [cc0_kv_proj_eq_skeleton]; unfold cc0_kv_proj_skel
  unfold owns
  iintro ⟨⟨%f0, %hf0, H0⟩, ⟨%f1, %hf1, H1⟩, ⟨%f2, %hf2, H2⟩, ⟨%f3, %hf3, H3⟩, ⟨%f4, %hf4, H4⟩, ⟨%dH5, %fH5, -, H5⟩, ⟨%dH6, %fH6, -, H6⟩, ⟨%dHS, %fHS, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc | sl_exact hd)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; exact (View.read_writes_full _ _ _ _ _).trans (congr (congrArg k0_pay3 (whole_read harg2 _ _)) (whole_read harg3 _ _))
  isplitl [H6]
  · iexists _; isplitr
    swap; · iexact H6
    ipureintro; exact (View.read_writes_full _ _ _ _ _).trans (congr (congrArg k0_pay5 ((View.readCov_full _ _ _ _ _).trans (congr (congr (congrArg k0_pay4 (whole_read harg2 _ _)) (whole_read harg3 _ _)) (whole_read harg4 _ _)))) (whole_read harg5 _ _))
  iexists _; isplitr
  swap; · iexact HS
  ipureintro; exact (View.read_writes_full _ _ _ _ _).trans (congr (congr (congrArg k0_pay4 (whole_read harg2 _ _)) (whole_read harg3 _ _)) (whole_read harg4 _ _))

set_option maxHeartbeats 2000000 in
/-- Any other point: the columns are computed from the latent the scratch holds. -/
theorem rest_run (c : Dev nD) (i : grid0.Coords) (arg2 : Memref sig .tc .vmem S2048x2048 .bf16) (harg2 : arg2.IsWhole) (arg3 : Memref sig .tc .vmem S1x640x2048 .f32) (harg3 : arg3.IsWhole) (arg4 : Memref sig .tc .vmem S1x512 .f32) (harg4 : arg4.IsWhole) (arg5 : Memref sig .tc .vmem S1x512x512 .f32) (harg5 : arg5.IsWhole) (arg6 : Memref sig .tc .vmem S2048x512 .f32) (harg6 : arg6.IsWhole) (arg7 : Memref sig .tc .vmem S2048x128 .f32) (harg7 : arg7.IsWhole) (arg8 : Memref sig .tc .vmem S2048x512 .bf16) (harg8 : arg8.IsWhole) (arg9 : Memref sig .tc .vmem S2048x512 .bf16) (harg9 : arg9.IsWhole) (hc : ¬k0_cond1 i = 1#1)
    (x0 : Vec F S2048x2048 .bf16) (x1 : Vec F S1x640x2048 .f32) (x2 : Vec F S1x512 .f32) (x3 : Vec F S1x512x512 .f32) (x4 : Vec F S2048x512 .f32) (x5 : Vec F S2048x128 .f32) (xs : Vec F S2048x512 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay5 xs x3) ∗ owns (c : Thread nD τ) arg9 fullShare xs) -∗ K ⟨⟩))
      ⊢ wp frame (wpE (defs₀ (F := F)) Variants.none c none) E (cc0_kv_proj i arg2 harg2 arg3 harg3 arg4 harg4 arg5 harg5 arg6 harg6 arg7 harg7 arg8 harg8 arg9 harg9) K := by
  simp only [cc0_kv_proj_eq_skeleton]; unfold cc0_kv_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dH6, %fH6, -, H6⟩, ⟨%fS, %hfS, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfS
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; exact (View.read_writes_full _ _ _ _ _).trans (congr (congrArg k0_pay5 (whole_read harg9 _ _)) (whole_read harg5 _ _))
  iexists _; isplitr; · ipureintro; exact harg9.read_unread _
  iexact HS

end Cert.KvV
-- ==== Proof.Kv.Frame.lean ====
module

public import proofs.«01_k».proof.Proof.Gen.KvIdeal.Frame
public import proofs.«01_k».proof.Proof.Gen.KvIdeal.Skeleton
public import Idealize.ShloMosaic.Lib.Pipeline.TableIdle
public import Idealize.ShloMosaic.Lib.Pipeline.ValueKit
public import proofs.«01_k».proof.Proof.Kv.Run
public import Idealize.ShloMosaic.Lib.Pipeline.FrameBody
public import Idealize.ShloMosaic.Lib.Pipeline.FrameSuffix

@[expose] public section

set_option maxRecDepth 16384

noncomputable section

namespace Cert.KvV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KvIdeal Cert.KvIdeal.Gen

variable {F : FTy → Type} [FloatOps F]

/-- The machine's resources, at the run's values. -/
abbrev Res (F : FTy → Type) [FloatOps F] := MT nD τ sig Unit (Elt F) ℕ (UR sig nD τ) ℕ

variable (m : (ℓ : Loc nD τ sig) → Buf (Elt F) ℓ) (ρ : Dev nD → PrngReg)

/-- The grid has twenty-four points, eight to a row block. -/
theorem points : cfg0.N = 24 := N_0

/-- The first point of a point's row block. -/
def lead (n : ℕ) (h : n < cfg0.N) : Fin cfg0.N := ⟨8 * (n / 8), by omega⟩

/-- The first point of the row block whose latents were the last to be written out. -/
def lead4 (n : ℕ) (h : n < cfg0.N) : Fin cfg0.N := ⟨8 * min (n / 8) 1, by omega⟩

/-- What the scratch holds after a point: its row block's latents, narrowed. -/
def held (c : Dev nD) (n : ℕ) (h : n < cfg0.N) : Vec F S2048x512 .bf16 :=
  k0_pay4 (iblk m c 0 (lead n h)) (X0_1 m c (lead n h)) (iblk m c 2 (lead n h))

/-- The latents' buffer after a point. -/
def out4 (c : Dev nD) (t : Fin cfg0.N) : Vec F S2048x512 .f32 :=
  k0_pay2 (iblk m c 0 (lead4 t.val t.isLt)) (X0_1 m c (lead4 t.val t.isLt)) (iblk m c 2 (lead4 t.val t.isLt))

/-- The position keys' buffer after a point. -/
def out5 (c : Dev nD) (t : Fin cfg0.N) : Vec F S2048x128 .f32 :=
  k0_pay3 (iblk m c 0 (lead t.val t.isLt)) (X0_1 m c (lead t.val t.isLt))

/-- The keys' and values' buffer after a point. -/
def out6 (c : Dev nD) (t : Fin cfg0.N) : Vec F S2048x512 .bf16 :=
  k0_pay5 (held m c t.val t.isLt) (iblk m c 3 t)

/-- The scratch, whole. -/
abbrev scr : Memref sig .tc .vmem S2048x512 .bf16 := Memref.whole cc0_scratch0

/-- What holds between points: the scratch at what the point before left, at anything before the first. -/
def between (c : Dev nD) : (n : ℕ) → n ≤ cfg0.N → sProp (Res F)
  | 0, _ => Pipeline.ΦA spec0 c
  | n + 1, h => iprop(owns (c : Thread nD τ) scr fullShare (held m c n h) ∗ (∃ r, prngReg c r))

/-- The launch's invariant, its scratch as a buffer owned at some contents. -/
theorem start_eq (c : Dev nD) : (Pipeline.ΦA spec0 c : sProp (Res F))
    = iprop((∃ d, owns (c : Thread nD τ) scr fullShare d) ∗ (∃ r, prngReg c r)) := by
  unfold Pipeline.ΦA; rw [scopedRest0_eq]; simp only [scr, owns_whole]; rfl

theorem between_pos (c : Dev nD) (n : ℕ) (h : n ≤ cfg0.N) (hz : n ≠ 0) :
    between m c n h = iprop(owns (c : Thread nD τ) scr fullShare (held m c (n - 1) (by omega)) ∗ (∃ r, prngReg c r)) := by
  cases n with
  | zero => exact absurd rfl hz
  | succ n => rfl

/-- At any point the scratch is owned at some contents. -/
theorem between_any (c : Dev nD) (n : ℕ) (h : n ≤ cfg0.N) : between m c n h
    ⊢ iprop((∃ d, owns (c : Thread nD τ) scr fullShare d) ∗ (∃ r, prngReg c r)) := by
  cases n with
  | zero => exact (start_eq (F := F) c) ▸ Idealize.SL.BI.Entails.refl _
  | succ n =>
    unfold between
    iintro ⟨H, Hg⟩
    isplitl [H]
    · iexists _; iexact H
    iexact Hg

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => out4 m c t
    | ⟨5, _⟩ => out5 m c t
    | ⟨6, _⟩ => out6 m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Φ_at (c : Dev nD) (t : Fin cfg0.N) : (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = out4 m c t := by dsimp only [dats]
theorem after_5 (c : Dev nD) (t : Fin cfg0.N) : (dats m 0 c).after 5 t = out5 m c t := by dsimp only [dats]
theorem after_6 (c : Dev nD) (t : Fin cfg0.N) : (dats m 0 c).after 6 t = out6 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- When the two branches are taken, and which points leave a result's buffer alone: over the grid. -/
theorem taken : ∀ t : Fin cfg0.N, (k0_cond1 (grid0.coords t) = 1#1 ↔ t.val % 8 = 0) ∧ (k0_cond2 (grid0.coords t) = 1#1 ↔ t.val < 16) :=
  (by decide +kernel : ∀ t : Fin grid0.N, _)

theorem idle_4 : ∀ t : Fin cfg0.N, cfg0.idle 4 (cfg0.grid.coords t) = !(decide (t.val % 8 = 0) && decide (t.val < 16)) :=
  (by decide +kernel : ∀ t : Fin grid0.N, _)

theorem idle_5 : ∀ t : Fin cfg0.N, cfg0.idle 5 (cfg0.grid.coords t) = !decide (t.val % 8 = 0) :=
  (by decide +kernel : ∀ t : Fin grid0.N, _)

theorem fresh_4 : ∀ t : Fin cfg0.N, cfg0.fresh 4 t.val = decide (t.val = 0 ∨ t.val = 8) :=
  (by decide +kernel : ∀ t : Fin grid0.N, _)

theorem fresh_5 : ∀ t : Fin cfg0.N, cfg0.fresh 5 t.val = decide (t.val % 8 = 0) :=
  (by decide +kernel : ∀ t : Fin grid0.N, _)

theorem flush_4 : ∀ t : Fin cfg0.N, (cfg0.win 4).flush t = true → t.val % 8 ≠ 0 :=
  (by decide +kernel : ∀ t : Fin grid0.N, _)

/-- The latents' buffer changes at a row block's first point only. -/
theorem out4_carry (c : Dev nD) (t : Fin cfg0.N) (h : ¬(t.val = 0 ∨ t.val = 8)) :
    out4 m c t = out4 m c ⟨t.val - 1, by omega⟩ := by
  have hN : t.val < 24 := lt_of_lt_of_eq t.isLt points
  have e : lead4 t.val t.isLt = lead4 (t.val - 1) (by omega) := Fin.ext (by unfold lead4; show 8 * min (t.val / 8) 1 = 8 * min ((t.val - 1) / 8) 1; omega)
  unfold out4
  rw [e]

theorem out5_carry (c : Dev nD) (t : Fin cfg0.N) (h : t.val % 8 ≠ 0) :
    out5 m c t = out5 m c ⟨t.val - 1, by omega⟩ := by
  have e : lead t.val t.isLt = lead (t.val - 1) (by omega) := Fin.ext (by unfold lead; show 8 * (t.val / 8) = 8 * ((t.val - 1) / 8); omega)
  unfold out5
  rw [e]

/-- A point that is no row block's first finds the scratch at what it leaves there. -/
theorem held_carry (c : Dev nD) (t : Fin cfg0.N) (h : t.val % 8 ≠ 0) :
    held m c t.val t.isLt = held m c (t.val - 1) (by omega) := by
  have e : lead t.val t.isLt = lead (t.val - 1) (by omega) := Fin.ext (by unfold lead; show 8 * (t.val / 8) = 8 * ((t.val - 1) / 8); omega)
  unfold held
  rw [e]

theorem lead_first (t : Fin cfg0.N) (h : t.val % 8 = 0) : lead t.val t.isLt = t := Fin.ext (by unfold lead; show 8 * (t.val / 8) = t.val; omega)

theorem lead4_first (t : Fin cfg0.N) (h : t.val % 8 = 0) (h' : t.val < 16) : lead4 t.val t.isLt = t :=
  Fin.ext (by unfold lead4; show 8 * min (t.val / 8) 1 = t.val; omega)

/-- What the latents' buffer holds when a point's body starts. -/
theorem before_4 (c : Dev nD) (t : Fin cfg0.N) (h : ¬(t.val = 0 ∨ t.val = 8)) (d) : (dats m 0 c).before 4 t d = out4 m c t := by
  rw [(dats m 0 c).before_out_traj 4 rfl (fun _ _ => rfl) (fun t' h0 hi hf => by
      rw [after_4, after_4]
      exact out4_carry m c t' (by rw [fresh_4] at hf; exact of_decide_eq_false hf)) t.val t rfl d, fresh_4, decide_eq_false h,
    if_neg Bool.false_ne_true, after_4]
  exact (out4_carry m c t h).symm

/-- What the position keys' buffer holds when a point's body starts. -/
theorem before_5 (c : Dev nD) (t : Fin cfg0.N) (h : t.val % 8 ≠ 0) (d) : (dats m 0 c).before 5 t d = out5 m c t := by
  rw [(dats m 0 c).before_out_traj 5 rfl (fun _ _ => rfl) (fun t' h0 hi hf => by
      rw [after_5, after_5]
      exact out5_carry m c t' (by rw [fresh_5] at hf; exact of_decide_eq_false hf)) t.val t rfl d, fresh_5, decide_eq_false h,
    if_neg Bool.false_ne_true, after_5]
  exact (out5_carry m c t h).symm

/-- Window 0's buffer at a point. -/
abbrev st0 (t : Fin cfg0.N) : Memref sig .tc .vmem S2048x2048 .bf16 := win0_0.stage (cfg0.slots t 0)

/-- Window 1's buffer at a point. -/
abbrev st1 (t : Fin cfg0.N) : Memref sig .tc .vmem S1x640x2048 .f32 := win0_1.stage (cfg0.slots t 1)

/-- Window 2's buffer at a point. -/
abbrev st2 (t : Fin cfg0.N) : Memref sig .tc .vmem S1x512 .f32 := win0_2.stage (cfg0.slots t 2)

/-- Window 3's buffer at a point. -/
abbrev st3 (t : Fin cfg0.N) : Memref sig .tc .vmem S1x512x512 .f32 := win0_3.stage (cfg0.slots t 3)

/-- Window 4's buffer at a point. -/
abbrev st4 (t : Fin cfg0.N) : Memref sig .tc .vmem S2048x512 .f32 := win0_4.stage (cfg0.slots t 4)

/-- Window 5's buffer at a point. -/
abbrev st5 (t : Fin cfg0.N) : Memref sig .tc .vmem S2048x128 .f32 := win0_5.stage (cfg0.slots t 5)

/-- Window 6's buffer at a point. -/
abbrev st6 (t : Fin cfg0.N) : Memref sig .tc .vmem S2048x512 .bf16 := win0_6.stage (cfg0.slots t 6)

/-- What a point's body is given, and what it gives back. -/
def given (c : Dev nD) (t : Fin cfg0.N) : sProp (Res F) :=
  iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)))

def back (c : Dev nD) (t : Fin cfg0.N) : sProp (Res F) :=
  iprop((dats m 0 c).Φ t.succ ∗ (dats m 0 c).owesAt () t.succ ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ (dats m 0 c).leavesExact 4 t ∗ (dats m 0 c).leavesExact 5 t ∗ owns (c : Thread nD τ) (st6 t) fullShare ((dats m 0 c).after 6 t))

/-- The latents' buffer, owned at what a point finds in it, is what the point has to leave: at a point that stores nothing there. -/
theorem leave_4 (c : Dev nD) (t : Fin cfg0.N) (h : ¬(t.val = 0 ∨ t.val = 8)) :
    owns (c : Thread nD τ) (st4 t) fullShare (out4 m c t) ⊢ (dats m 0 c).leavesExact 4 t := by
  have hN : t.val < 24 := lt_of_lt_of_eq t.isLt points
  have hi : cfg0.idle 4 (cfg0.grid.coords t) = true := by rw [idle_4]; by_cases h8 : t.val % 8 = 0 <;> simp [h8]; omega
  by_cases hf : (cfg0.win 4).flush t = true
  · unfold Dat.leavesExact; rw [hi, hf, after_4]
  · rw [(dats m 0 c).leavesExact_idle 4 t hi (Bool.not_eq_true _ ▸ hf)]
    iintro H
    iexists (out4 m c t)
    rw [before_4 m c t h]
    iexact H

theorem leave_5 (c : Dev nD) (t : Fin cfg0.N) (h : t.val % 8 ≠ 0) :
    owns (c : Thread nD τ) (st5 t) fullShare (out5 m c t) ⊢ (dats m 0 c).leavesExact 5 t := by
  have hi : cfg0.idle 5 (cfg0.grid.coords t) = true := by rw [idle_5]; simp [h]
  by_cases hf : (cfg0.win 5).flush t = true
  · unfold Dat.leavesExact; rw [hi, hf, after_5]
  · rw [(dats m 0 c).leavesExact_idle 5 t hi (Bool.not_eq_true _ ▸ hf)]
    iintro H
    iexists (out5 m c t)
    rw [before_5 m c t h]
    iexact H

/-- At a row block's first point the two results' buffers are at what is stored. -/
theorem store_4 (c : Dev nD) (t : Fin cfg0.N) (h : t.val % 8 = 0) (h' : t.val < 16) :
    (dats m 0 c).leavesExact 4 t = owns (c : Thread nD τ) (st4 t) fullShare (out4 m c t) := by
  unfold Dat.leavesExact; rw [idle_4, decide_eq_true h, decide_eq_true h', after_4]; rfl

theorem store_5 (c : Dev nD) (t : Fin cfg0.N) (h : t.val % 8 = 0) :
    (dats m 0 c).leavesExact 5 t = owns (c : Thread nD τ) (st5 t) fullShare (out5 m c t) := by
  unfold Dat.leavesExact; rw [idle_5, decide_eq_true h, after_5]; rfl

set_option maxHeartbeats 3200000 in
/-- The body at any point. -/
theorem body_at (c : Dev nD) (t : Fin cfg0.N) :
    given m c t ⊢ wp frame (wpE (defs₀ (F := F)) Variants.none c none) Set.univ (bodyAt0 t) (fun _ => back m c t) := by
  have hN : t.val < 24 := lt_of_lt_of_eq t.isLt points
  unfold given back bodyAt0
  simp only [before_0, before_1, before_2, before_3]
  rw [show (dats m 0 c).owesAt () t.succ = (dats m 0 c).owesAt () t.castSucc from rfl, after_0, after_1, after_2, after_3, after_6,
    show (dats m 0 c).Φ t.succ = iprop(owns (c : Thread nD τ) scr fullShare (held m c t.val t.isLt) ∗ (∃ r, prngReg c r)) from rfl, Φ_at]
  unfold out6
  by_cases h0 : t.val % 8 = 0
  · rw [store_5 m c t h0]
    unfold out5
    by_cases h1 : t.val < 16
    · rw [store_4 m c t h0 h1]
      unfold out4 held
      rw [lead_first t h0, lead4_first t h0 h1]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (between_any m c t.val (Nat.le_of_lt t.isLt)) $$ HΦ
      icases HΦ' with ⟨HS, Hg⟩
      iapply (first_run c (grid0.coords t) _ _ _ _ _ _ _ _ _ _ _ _ _ _ _ _ ((taken t).1.mpr h0) ((taken t).2.mpr h1) (iblk m c 0 t) (X0_1 m c t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, H4, H5, H6, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hne : ¬(t.val = 0 ∨ t.val = 8) := by omega
      simp only [before_4 m c t hne]
      unfold held
      rw [lead_first t h0]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (between_any m c t.val (Nat.le_of_lt t.isLt)) $$ HΦ
      icases HΦ' with ⟨HS, Hg⟩
      iapply (last_run c (grid0.coords t) _ _ _ _ _ _ _ _ _ _ _ _ _ _ _ _ ((taken t).1.mpr h0) (fun h => h1 ((taken t).2.mp h)) (iblk m c 0 t) (X0_1 m c t) (iblk m c 2 t) (iblk m c 3 t) (out4 m c t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iapply (leave_4 m c t hne); iexact H4
      isplitl [H5]; · iexact H5
      iexact H6
  · have hne : ¬(t.val = 0 ∨ t.val = 8) := by omega
    simp only [before_4 m c t hne, before_5 m c t h0]
    rw [held_carry m c t h0, between_pos m c _ _ (by omega)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (rest_run c (grid0.coords t) _ _ _ _ _ _ _ _ _ _ _ _ _ _ _ _ (fun h => h0 ((taken t).1.mp h)) (iblk m c 0 t) (X0_1 m c t) (iblk m c 2 t) (iblk m c 3 t) (out4 m c t) (out5 m c t) (held m c (t.val - 1) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iapply (leave_4 m c t hne); iexact H4
    isplitl [H5]; · iapply (leave_5 m c t h0); iexact H5
    iexact H6

/-- The launch's row of the body table at a point. -/
theorem row_at (t : Fin cfg0.N) : defs₀ (F := F) .tc cfg0.body (cfg0.bodyArgs t (cfg0.slots t)) = bodyAt0 t := by
  unfold defs₀; rw [Defs.onTc_tc]

/-- What the launch asks of the body. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

theorem enter (c : Dev nD) : Pipeline.ΦA spec0 c ⊢ (dats m 0 c).Φ 0 := by
  rw [show (dats m 0 c).Φ 0 = between m c 0 (Nat.zero_le _) from rfl]
  exact Idealize.SL.BI.Entails.refl _

theorem leave (c : Dev nD) : (dats m 0 c).Φ (Fin.last cfg0.N) ⊢ Pipeline.ΦA spec0 c := by
  rw [show (dats m 0 c).Φ (Fin.last cfg0.N) = between m c cfg0.N (Nat.le_refl _) from rfl, start_eq]
  exact between_any m c _ _

-- the launch theorem's implicit arguments are found by unifying its conclusion with this one
set_option backward.isDefEq.respectTransparency.types false in
set_option maxHeartbeats 800000 in
/-- The launch: every array ends at what the proof data say, and every counter at zero. -/
theorem launch : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The same without the counters. -/
theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (launch m ρ)

/-- The kernel terminates, keeps its arguments and leaves every counter at zero, at any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (launch m ρ))

end Cert.KvV
-- ==== Proof.Kv.Value.lean ====
module

public import proofs.«01_k».proof.Proof.Kv.Frame
public import proofs.«01_k».proof.Proof.Gen.RefKvIdeal.Run
public import Idealize.ShloMosaic.Lib.Pipeline.ValueKit
public import Idealize.ShloMosaic.Lib.Pointwise
public import proofs.«01_k».proof.Proof.Common.Sigmoid
public import Idealize.ShloMosaic.Lib.Claim
@[expose] public section

set_option maxRecDepth 16384

noncomputable section

namespace Cert.KvV

open Idealize.ShloMosaic Idealize.ShloMosaic.TcCoe Idealize.SL.Sem
open Cert.KvIdeal Cert.KvIdeal.Gen

/-- Column `3840 + q` of layer 1's input projection at row `R`: the latent's 512 columns, then the position keys'. -/
def proj (h : S6144x2048.Idx → EReal) (w : S2x2048x12608.Idx → EReal) (R : Fin 6144) (q : Fin 640) : EReal :=
  ∑ k : Fin 2048, h (ix2 R k) * w (ix3 1 k ⟨3840 + q.val, by omega⟩)

/-- The latent's columns of it. -/
def lat (h : S6144x2048.Idx → EReal) (w : S2x2048x12608.Idx → EReal) (R : Fin 6144) (q : Fin 512) : EReal := proj h w R ⟨q.val, by omega⟩

/-- The latent, normalised and scaled. -/
def nrm (h : S6144x2048.Idx → EReal) (w : S2x2048x12608.Idx → EReal) (g : S2x512.Idx → EReal) (R : Fin 6144) (q : Fin 512) : EReal :=
  lat h w R q * Ideal.rsqrt (Ideal.div (∑ k : Fin 512, lat h w R k * lat h w R k) (Ideal.ofBits .f32 0x44000000#32) + Ideal.ofBits .f32 0x358637BD#32) * g (ix2 1 q)

/-- Column `n` of the keys and values. -/
def keys (h : S6144x2048.Idx → EReal) (w : S2x2048x12608.Idx → EReal) (g : S2x512.Idx → EReal) (u : S2x512x4096.Idx → EReal) (R : Fin 6144) (n : Fin 4096) : EReal :=
  ∑ q : Fin 512, nrm h w g R q * u (ix3 1 q n)

variable (m : (ℓ : Loc nD τ sig) → Buf (Elt Ideal) ℓ)

/-- The windows' blocks at a point of the grid. -/
theorem idx : ∀ t : Fin cfg0.N, win0_0.index t = ![t.val / 8, 0] ∧
    win0_1.index t = ![1, 6, 0] ∧
    win0_2.index t = ![0, 0] ∧
    win0_3.index t = ![1, 0, t.val % 8] ∧
    win0_4.index t = ![min (t.val / 8) 1, 0] ∧
    win0_5.index t = ![t.val / 8, 0] ∧
    win0_6.index t = ![t.val / 8, t.val % 8] :=
  (by decide +kernel : ∀ t : Fin grid0.N, _)

/-- The scale as the region finds it. -/
theorem V_v3 (c : Dev nD) (z : S1x512.Idx) : V m c main_v3 z = m ((c : Thread nD τ).loc main_arg2) (ix2 1 (z 1)) := by
  unfold V V0
  simp only [List.flatten_cons, List.flatten_nil, List.append_nil]
  entry_read
  idx_vars z
  pointwise []

/-- The projection's weights as the region finds them: transposed. -/
theorem V_v0 (c : Dev nD) (z : S2x12608x2048.Idx) : V m c main_v0 z = m ((c : Thread nD τ).loc main_arg1) (ix3 (z 0) (z 2) (z 1)) := by
  unfold V V0
  simp only [List.flatten_cons, List.flatten_nil, List.append_nil]
  entry_read
  idx_vars z
  pointwise []

/-- The projection's weights' block at a point. -/
theorem X1 (c : Dev nD) (t : Fin cfg0.N) (a : Fin 640) (k : Fin 2048) : X0_1 m c t (ix3 0 a k) =
    m ((c : Thread nD τ).loc main_arg1) (ix3 1 k ⟨3840 + a.val, by omega⟩) := by
  unfold X0_1 Pipeline.Window.fill
  rw [dif_pos (moved0_1 t _)]
  obtain ⟨e0, e1, e2, e3, e4, e5, e6⟩ := idx t
  refine Eq.trans ?_ (V_v0 m c (ix3 1 ⟨3840 + a.val, by omega⟩ k))
  blk_point [iblk, idx t]

/-- The projection as a point computes it. -/
theorem projected (c : Dev nD) (t : Fin cfg0.N) (r : Fin 2048) (q : Fin 640) (hr : 2048 * (t.val / 8) + r.val < 6144) :
    k0_pay1 (iblk m c 0 t) (X0_1 m c t) (ix2 r q) = proj (m ((c : Thread nD τ).loc main_arg0)) (m ((c : Thread nD τ).loc main_arg1)) ⟨2048 * (t.val / 8) + r.val, hr⟩ q := by
  obtain ⟨e0, e1, e2, e3, e4, e5, e6⟩ := idx t
  have hx : ∀ k : Fin 2048, iblk m c 0 t (ix2 r k) = (m ((c : Thread nD τ).loc main_arg0)) (ix2 ⟨2048 * (t.val / 8) + r.val, hr⟩ k) := fun k => by
    blk_point [iblk, V, idx t]
  have hl : (∑ k : Fin 2048, (show EReal from iblk m c 0 t (ix2 r k)) * (show EReal from X0_1 m c t (ix3 0 q k))) = proj (m ((c : Thread nD τ).loc main_arg0)) (m ((c : Thread nD τ).loc main_arg1)) ⟨2048 * (t.val / 8) + r.val, hr⟩ q :=
    Finset.sum_congr rfl fun k _ => by rw [hx, X1]
  rw [← hl]
  pointwise [k0_pay1]

/-- The latent as a point computes it. -/
theorem fresh (c : Dev nD) (t : Fin cfg0.N) (r : Fin 2048) (q : Fin 512) (hr : 2048 * (t.val / 8) + r.val < 6144) :
    k0_pay2 (iblk m c 0 t) (X0_1 m c t) (iblk m c 2 t) (ix2 r q) = nrm (m ((c : Thread nD τ).loc main_arg0)) (m ((c : Thread nD τ).loc main_arg1)) (m ((c : Thread nD τ).loc main_arg2)) ⟨2048 * (t.val / 8) + r.val, hr⟩ q := by
  have hp := fun q' => projected m c t r q' hr
  obtain ⟨e0, e1, e2, e3, e4, e5, e6⟩ := idx t
  have hg : iblk m c 2 t (ix2 0 q) = (m ((c : Thread nD τ).loc main_arg2)) (ix2 1 q) := by
    refine Eq.trans ?_ (V_v3 m c (ix2 0 q))
    blk_point [iblk, idx t]
  unfold nrm lat
  simp only [← hp]
  rw [← hg]
  unfold k0_pay2
  generalize k0_pay1 (iblk m c 0 t) (X0_1 m c t) = p
  pointwise []

/-- The position keys as a point computes them. -/
theorem fresh' (c : Dev nD) (t : Fin cfg0.N) (r : Fin 2048) (q : Fin 128) (hr : 2048 * (t.val / 8) + r.val < 6144) :
    k0_pay3 (iblk m c 0 t) (X0_1 m c t) (ix2 r q) = proj (m ((c : Thread nD τ).loc main_arg0)) (m ((c : Thread nD τ).loc main_arg1)) ⟨2048 * (t.val / 8) + r.val, hr⟩ ⟨512 + q.val, by omega⟩ := by
  rw [← projected m c t r ⟨512 + q.val, by omega⟩ hr]
  unfold k0_pay3
  generalize k0_pay1 (iblk m c 0 t) (X0_1 m c t) = p
  pointwise []

/-- The prompts' latents as an array. -/
def latArr (h : S6144x2048.Idx → EReal) (w : S2x2048x12608.Idx → EReal) (g : S2x512.Idx → EReal) (i : S4096x512.Idx) : EReal :=
  nrm h w g ⟨(i 0).val, by have := (i 0).isLt; have e : S4096x512.size 0 = 4096 := rfl; omega⟩ (i 1)

/-- Every row's position keys as an array. -/
def posArr (h : S6144x2048.Idx → EReal) (w : S2x2048x12608.Idx → EReal) (i : S6144x128.Idx) : EReal :=
  proj h w (i 0) ⟨512 + (i 1).val, by have := (i 1).isLt; have e : S6144x128.size 1 = 128 := rfl; omega⟩

/-- The latents' array the kernel writes back. -/
theorem latents (c : Dev nD) : (dats m 0 c).arrAt 4 cfg0.N =
    latArr (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after_4]
  unfold out4
  idx_vars y
  obtain ⟨e0, e1, e2, e3, e4, e5, e6⟩ := idx t
  have hN : t.val < 24 := lt_of_lt_of_eq t.isLt points
  have hl : (lead4 t.val t.isLt).val / 8 = min (t.val / 8) 1 := by show 8 * min (t.val / 8) 1 / 8 = min (t.val / 8) 1; omega
  have hr : 2048 * ((lead4 t.val t.isLt).val / 8) + y0.val < 6144 := by omega
  rw [fresh m c (lead4 t.val t.isLt) y0 y1 hr]
  unfold latArr
  refine congrArg₂ (nrm (m ((c : Thread nD τ).loc main_arg0)) (m ((c : Thread nD τ).loc main_arg1)) (m ((c : Thread nD τ).loc main_arg2))) (Fin.ext ?_) (Fin.ext ?_)
  · refine Eq.trans ?_ (Pipeline.Window.rect_emb_val win0_4 t (ix2 y0 y1) 0).symm
    rw [e4]; show 2048 * ((lead4 t.val t.isLt).val / 8) + y0.val = min (t.val / 8) 1 * 2048 + y0.val; omega
  · refine Eq.trans ?_ (Pipeline.Window.rect_emb_val win0_4 t (ix2 y0 y1) 1).symm
    rw [e4]; show y1.val = 0 * 512 + y1.val; omega

/-- The position keys' array the kernel writes back. -/
theorem positions (c : Dev nD) : (dats m 0 c).arrAt 5 cfg0.N =
    posArr (m ((c : Thread nD τ).loc main_arg0)) (m ((c : Thread nD τ).loc main_arg1)) := by
  refine (dats m 0 c).arrAt_eq_of_covers 5 _ (by decide +kernel) fun t hf y => ?_
  blk_simp
  rw [after_5]
  unfold out5
  idx_vars y
  obtain ⟨e0, e1, e2, e3, e4, e5, e6⟩ := idx t
  have hN : t.val < 24 := lt_of_lt_of_eq t.isLt points
  have hl : (lead t.val t.isLt).val / 8 = t.val / 8 := by show 8 * (t.val / 8) / 8 = t.val / 8; omega
  have hr : 2048 * ((lead t.val t.isLt).val / 8) + y0.val < 6144 := by omega
  rw [fresh' m c (lead t.val t.isLt) y0 y1 hr]
  unfold posArr
  refine congrArg₂ (proj (m ((c : Thread nD τ).loc main_arg0)) (m ((c : Thread nD τ).loc main_arg1))) (Fin.ext ?_) (Fin.ext ?_)
  · refine Eq.trans ?_ (Pipeline.Window.rect_emb_val win0_5 t (ix2 y0 y1) 0).symm
    rw [e5]; show 2048 * ((lead t.val t.isLt).val / 8) + y0.val = t.val / 8 * 2048 + y0.val; omega
  · refine congrArg (512 + ·) (Eq.trans ?_ (Pipeline.Window.rect_emb_val win0_5 t (ix2 y0 y1) 1).symm)
    rw [e5]; show y1.val = 0 * 128 + y1.val; omega

/-- The keys' and values' array the kernel writes back. -/
theorem kernel_value (c : Dev nD) : (dats m 0 c).arrAt 6 cfg0.N =
    fun i => keys (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 6 _ (by decide +kernel) fun t hf y => ?_
  blk_simp
  rw [after_6]
  unfold out6 held
  idx_vars y
  obtain ⟨e0, e1, e2, e3, e4, e5, e6⟩ := idx t
  have hN : t.val < 24 := lt_of_lt_of_eq t.isLt points
  have hl : (lead t.val t.isLt).val / 8 = t.val / 8 := by show 8 * (t.val / 8) / 8 = t.val / 8; omega
  have hr : 2048 * ((lead t.val t.isLt).val / 8) + y0.val < 6144 := by omega
  have hj : 512 * (t.val % 8) + y1.val < 4096 := by omega
  have hw : ∀ q : Fin 512, iblk m c 3 t (ix3 0 q y1) = (m ((c : Thread nD τ).loc main_arg3)) (ix3 1 q ⟨512 * (t.val % 8) + y1.val, hj⟩) := fun q => by
    blk_point [iblk, V, idx t]
  have h0 : (((View.whole main_v4_2).slice (win0_6.rect t)).emb (ix2 y0 y1) 0) = (⟨2048 * ((lead t.val t.isLt).val / 8) + y0.val, hr⟩ : Fin 6144) :=
    Fin.ext ((Pipeline.Window.rect_emb_val win0_6 t (ix2 y0 y1) 0).trans (by rw [e6]; show t.val / 8 * 2048 + y0.val = 2048 * ((lead t.val t.isLt).val / 8) + y0.val; omega))
  have h1 : (((View.whole main_v4_2).slice (win0_6.rect t)).emb (ix2 y0 y1) 1) = (⟨512 * (t.val % 8) + y1.val, hj⟩ : Fin 4096) :=
    Fin.ext ((Pipeline.Window.rect_emb_val win0_6 t (ix2 y0 y1) 1).trans (by rw [e6]; show t.val % 8 * 512 + y1.val = 512 * (t.val % 8) + y1.val; omega))
  rw [h0, h1]
  have hs : ∀ q : Fin 512, k0_pay4 (iblk m c 0 (lead t.val t.isLt)) (X0_1 m c (lead t.val t.isLt)) (iblk m c 2 (lead t.val t.isLt)) (ix2 y0 q) = nrm (m ((c : Thread nD τ).loc main_arg0)) (m ((c : Thread nD τ).loc main_arg1)) (m ((c : Thread nD τ).loc main_arg2)) ⟨2048 * ((lead t.val t.isLt).val / 8) + y0.val, hr⟩ q := fun q => by
    rw [← fresh m c (lead t.val t.isLt) y0 q hr]
    unfold k0_pay4
    generalize k0_pay2 (iblk m c 0 (lead t.val t.isLt)) (X0_1 m c (lead t.val t.isLt)) (iblk m c 2 (lead t.val t.isLt)) = p
    pointwise []
  generalize k0_pay4 (iblk m c 0 (lead t.val t.isLt)) (X0_1 m c (lead t.val t.isLt)) (iblk m c 2 (lead t.val t.isLt)) = p at hs ⊢
  pointwise [k0_pay5, keys]
  refine Fin.sum_fin_congr fun q => ?_
  rw [hs, hw]

/-- The first result: the prompts' latents, by sequence. -/
theorem W_v5 (c : Dev nD) (i : S16x256x512.Idx) : Pipeline.afterTail₀ cfgs (dats m) 0 (V0 m) [hostOps1] c main_v5 i =
    nrm (m ((c : Thread nD τ).loc main_arg0)) (m ((c : Thread nD τ).loc main_arg1)) (m ((c : Thread nD τ).loc main_arg2)) ⟨(i 0).val * 256 + (i 1).val, by have := (i 0).isLt; have := (i 1).isLt; have := (i 2).isLt; have e : S16x256x512.size 0 = 16 := rfl; have e' : S16x256x512.size 1 = 256 := rfl; omega⟩ (i 2) := by
  unfold Pipeline.afterTail₀
  simp only [List.flatten_cons, List.flatten_nil, List.append_nil, hostOps1]
  after_results
  have h := Pipeline.withArrays_arr spec0 (by decide) c (V0 m c) (fun w => (dats m 0 c).arrAt w cfg0.N) 4
  erw [h, latents]
  idx_vars i
  pointwise [latArr]

/-- The second result: the prompts' position keys, by sequence. -/
theorem W_v7 (c : Dev nD) (i : S16x256x64.Idx) : Pipeline.afterTail₀ cfgs (dats m) 0 (V0 m) [hostOps1] c main_v7 i =
    proj (m ((c : Thread nD τ).loc main_arg0)) (m ((c : Thread nD τ).loc main_arg1)) ⟨(i 0).val * 256 + (i 1).val, by have := (i 0).isLt; have := (i 1).isLt; have := (i 2).isLt; have e : S16x256x64.size 0 = 16 := rfl; have e' : S16x256x64.size 1 = 256 := rfl; omega⟩ ⟨512 + (i 2).val, by have := (i 2).isLt; have e : S16x256x64.size 2 = 64 := rfl; omega⟩ := by
  unfold Pipeline.afterTail₀
  simp only [List.flatten_cons, List.flatten_nil, List.append_nil, hostOps1]
  after_results
  have h := Pipeline.withArrays_arr spec0 (by decide) c (V0 m c) (fun w => (dats m 0 c).arrAt w cfg0.N) 5
  erw [h, positions]
  idx_vars i
  pointwise [posArr]

end Cert.KvV
-- ==== Proof.Kv.Claims.lean ====
module

public import proofs.«01_k».proof.Defs
public import proofs.«01_k».proof.Proof.Kv.Value
public import proofs.«01_k».proof.Proof.KvBits.Frame
public import Idealize.ShloMosaic.Lib.Claim

@[expose] public section

set_option maxRecDepth 1000000

noncomputable section

namespace Cert.KvV

open Idealize.ShloMosaic Idealize.ShloMosaic.TcCoe Idealize.SL.Sem Cert

/-- The kernel terminates, keeps its arguments and leaves no counter raised. -/
theorem bits_frame : Cert.quiescent_Kv := fun m ρ _ => Cert.KvBits.frame_any (F := Bits) m ρ

/-- The idealized kernel terminates, keeps its arguments and leaves no counter raised. -/
theorem ideal_frame : Cert.quiescent_KvIdeal := fun m ρ _ => frame_any (F := Ideal) m ρ

/-- The reference terminates, keeps its arguments and leaves no counter raised. -/
theorem ref_frame : Cert.quiescent_RefKvIdeal := fun m g _ =>
  (θ_run _ _ _).mono (fun r h => ⟨fun c => (h c).2.2.2.2, sem_eq_zero_of_no_sems (by decide) r.2⟩)
    (Cert.RefKvIdeal.Value.run m g)

/-- The kernel's results are the reference's, from any arguments. -/
theorem algebraic : Cert.algebraic_KvIdeal_RefKvIdeal := by
  pair_intro
  · run_from Cert.KvV.run m g
    · exact Cert.KvIdeal.Gen.W_main_arg1 m _ c
    · exact Cert.KvIdeal.Gen.W_main_arg2 m _ c
  · run_from Cert.RefKvIdeal.Value.run (F := Ideal) m' g'
    · funext i
      refine Eq.trans ?_ (Cert.KvV.W_v5 m c i).symm
      generalize hp : (extractStridedSlice RefKvIdeal.S6144x512 ![0, 3840] (Host.dotGeneral (F := Ideal) RefKvIdeal.dot_S6144x2048_S2048x12608_S6144x12608_1_0_0_1_n_n none (extf .f32 (m ((c.tc : Thread KvIdeal.nD KvIdeal.τ).loc KvIdeal.main_arg0)) RefKvIdeal.Facts₀.bitsLt_bf16_f32) (shapeCast RefKvIdeal.S2048x12608 (extractStridedSlice RefKvIdeal.S1x2048x12608 ![1, 0, 0] (m ((c.tc : Thread KvIdeal.nD KvIdeal.τ).loc KvIdeal.main_arg1)) RefKvIdeal.Facts₀.slices_S2x2048x12608_S1x2048x12608_1_0_0) RefKvIdeal.Facts₀.shapeCasts_S1x2048x12608_S2048x12608)) RefKvIdeal.Facts₀.slices_S6144x12608_S6144x512_0_3840) = p
      have hq : ∀ (R : Fin 6144) (k : Fin 512), p (ix2 R k) = lat (m ((c.tc : Thread KvIdeal.nD KvIdeal.τ).loc KvIdeal.main_arg0)) (m ((c.tc : Thread KvIdeal.nD KvIdeal.τ).loc KvIdeal.main_arg1)) R k := fun R k => by
        rw [← hp]
        pointwise [lat, proj]
      idx_vars i
      pointwise [nrm]
      simp only [hq]
    · funext i
      refine Eq.trans ?_ (Cert.KvV.W_v7 m c i).symm
      idx_vars i
      pointwise [proj]
      simp only [show ∀ n : ℕ, 3840 + (512 + n) = 4352 + n from fun n => by omega]
    · funext i
      refine Eq.trans ?_ (congrFun (Cert.KvV.positions m c) i).symm
      idx_vars i
      pointwise [posArr, proj]
      simp only [show ∀ n : ℕ, 3840 + (512 + n) = 4352 + n from fun n => by omega]
    · funext i
      refine Eq.trans ?_ (congrFun (Cert.KvV.kernel_value m c) i).symm
      generalize hp : (extractStridedSlice RefKvIdeal.S6144x512 ![0, 3840] (Host.dotGeneral (F := Ideal) RefKvIdeal.dot_S6144x2048_S2048x12608_S6144x12608_1_0_0_1_n_n none (extf .f32 (m ((c.tc : Thread KvIdeal.nD KvIdeal.τ).loc KvIdeal.main_arg0)) RefKvIdeal.Facts₀.bitsLt_bf16_f32) (shapeCast RefKvIdeal.S2048x12608 (extractStridedSlice RefKvIdeal.S1x2048x12608 ![1, 0, 0] (m ((c.tc : Thread KvIdeal.nD KvIdeal.τ).loc KvIdeal.main_arg1)) RefKvIdeal.Facts₀.slices_S2x2048x12608_S1x2048x12608_1_0_0) RefKvIdeal.Facts₀.shapeCasts_S1x2048x12608_S2048x12608)) RefKvIdeal.Facts₀.slices_S6144x12608_S6144x512_0_3840) = p
      have hq : ∀ (R : Fin 6144) (k : Fin 512), p (ix2 R k) = lat (m ((c.tc : Thread KvIdeal.nD KvIdeal.τ).loc KvIdeal.main_arg0)) (m ((c.tc : Thread KvIdeal.nD KvIdeal.τ).loc KvIdeal.main_arg1)) R k := fun R k => by
        rw [← hp]
        pointwise [lat, proj]
      idx_vars i
      pointwise [keys, nrm]
      simp only [hq]

end Cert.KvV
-- ==== Proof.CacheKv.Value.lean ====
module

public import proofs.«01_k».proof.Proof.Gen.CacheKvIdeal.Value
public import proofs.«01_k».proof.Proof.Gen.RefCacheKvIdeal.Run
public import Idealize.ShloMosaic.Lib.Pipeline.ValueKit
public import Idealize.ShloMosaic.Lib.Pointwise

@[expose] public section

set_option maxRecDepth 16384

noncomputable section

namespace Cert.CacheKvV

open Idealize.ShloMosaic Idealize.ShloMosaic.TcCoe Idealize.SL.Sem
open Cert.CacheKvIdeal Cert.CacheKvIdeal.Gen

/-- Layer 1's cached latents, all requests' tokens in a row, times layer 1's up-projection. -/
def G (a : S2x2x256x512.Idx → EReal) (w : S2x512x4096.Idx → EReal) : S512x4096.Idx → EReal :=
  fun i => ∑ k : Fin 512, a (ix4 ⟨(i 0).val / 256, by have := (i 0).isLt; have e : S512x4096.size 0 = 512 := rfl; omega⟩ 1 ⟨(i 0).val % 256, Nat.mod_lt _ (by decide)⟩ k) * w (ix3 1 k (i 1))

variable (m : (ℓ : Loc nD τ sig) → Buf (Elt Ideal) ℓ)

/-- The three windows' blocks at a point of the grid. -/
theorem idx : ∀ t : Fin cfg0.N, win0_0.index t = ![(grid0.coords t 0).val, 1, 0, 0] ∧
    win0_1.index t = ![1, 0, (grid0.coords t 1).val] ∧
    win0_2.index t = ![(grid0.coords t 0).val, (grid0.coords t 1).val] :=
  (by decide +kernel : ∀ t : Fin grid0.N, _)

/-- The array the kernel writes back. -/
theorem kernel_value (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have hb : (grid0.coords t 1).val < 4 := (grid0.coords t 1).isLt
  have ha : (grid0.coords t 0).val < 2 := (grid0.coords t 0).isLt
  pointwise [k0_pay1, G]
  blk_point [iblk, V, idx t]

end Cert.CacheKvV
-- ==== Proof.CacheKv.Claims.lean ====
module

public import proofs.«01_k».proof.Defs
public import proofs.«01_k».proof.Proof.CacheKv.Value
public import Idealize.ShloMosaic.Lib.Claim

@[expose] public section

set_option maxRecDepth 16384

noncomputable section

namespace Cert.CacheKvV

open Idealize.ShloMosaic Idealize.ShloMosaic.TcCoe Idealize.SL.Sem Cert

/-- The reference terminates, keeps its arguments and leaves no counter raised. -/
theorem ref_frame : Cert.quiescent_RefCacheKvIdeal := fun m g _ =>
  (θ_run _ _ _).mono (fun r h => ⟨fun c => (h c).2, sem_eq_zero_of_no_sems (by decide) r.2⟩)
    (Cert.RefCacheKvIdeal.Value.run m g)

/-- The kernel's result is the reference's, from any arguments. -/
theorem algebraic : Cert.algebraic_CacheKvIdeal_RefCacheKvIdeal := by
  pair_intro
  · run_from Cert.CacheKvIdeal.Value.run_blocks m g
  · run_from Cert.RefCacheKvIdeal.Value.run (F := Ideal) m' g'
    refine Eq.trans ?_ (Cert.CacheKvV.kernel_value m c).symm
    funext i
    idx_vars i
    pointwise [G]

end Cert.CacheKvV
-- ==== Proof.Norm.Value.lean ====
module

public import proofs.«01_k».proof.Proof.Gen.NormIdeal.Value
public import proofs.«01_k».proof.Proof.Gen.RefNormIdeal.Run
public import Idealize.ShloMosaic.Lib.Pipeline.ValueKit
public import Idealize.ShloMosaic.Lib.Pointwise
public import proofs.«01_k».proof.Proof.Common.Sigmoid

@[expose] public section

set_option maxRecDepth 16384

noncomputable section

namespace Cert.NormV

open Idealize.ShloMosaic Idealize.ShloMosaic.TcCoe Idealize.SL.Sem
open Cert.NormIdeal Cert.NormIdeal.Gen

/-- The normalised stream, scaled and shifted by the row's request (the context's own for its first 4096 rows). -/
def G (x : S6144x2048.Idx → EReal) (g : S2x2048.Idx → EReal) (sc sh : S3x1x2048.Idx → EReal) : S6144x2048.Idx → EReal :=
  fun i => x i * Ideal.rsqrt (Ideal.div (∑ k : Fin 2048, x (ix2 (i 0) k) * x (ix2 (i 0) k)) (Ideal.ofBits .f32 0x45000000#32) + Ideal.ofBits .f32 0x358637BD#32) * g (ix2 1 (i 1))
    * (1 + sc (ix3 ⟨(i 0).val / 1024 - 3, by have := (i 0).isLt; have e : S6144x2048.size 0 = 6144 := rfl; omega⟩ 0 (i 1)))
    + sh (ix3 ⟨(i 0).val / 1024 - 3, by have := (i 0).isLt; have e : S6144x2048.size 0 = 6144 := rfl; omega⟩ 0 (i 1))

variable (m : (ℓ : Loc nD τ sig) → Buf (Elt Ideal) ℓ)

/-- The windows' blocks at a point of the grid. -/
theorem idx : ∀ t : Fin cfg0.N, win0_0.index t = ![(grid0.coords t 0).val, 0] ∧
    win0_1.index t = ![0, 0] ∧
    win0_2.index t = ![(grid0.coords t 0).val - 3, 0, 0] ∧
    win0_3.index t = ![(grid0.coords t 0).val - 3, 0, 0] ∧
    win0_4.index t = ![(grid0.coords t 0).val, 0] :=
  (by decide +kernel : ∀ t : Fin grid0.N, _)

/-- The array the kernel writes back. -/
theorem kernel_value (c : Dev nD) : (dats m 0 c).arrAt 4 cfg0.N =
    G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  obtain ⟨e0, e1, e2, e3, e4⟩ := idx t
  have ha : (grid0.coords t 0).val < 6 := (grid0.coords t 0).isLt
  pointwise [k0_pay1, G]
  blk_point [iblk, V, idx t]

end Cert.NormV
-- ==== Proof.Norm.Claims.lean ====
module

public import proofs.«01_k».proof.Defs
public import proofs.«01_k».proof.Proof.Norm.Value
public import Idealize.ShloMosaic.Lib.Claim

@[expose] public section

set_option maxRecDepth 16384

noncomputable section

namespace Cert.NormV

open Idealize.ShloMosaic Idealize.ShloMosaic.TcCoe Idealize.SL.Sem Cert

/-- The reference terminates, keeps its arguments and leaves no counter raised. -/
theorem ref_frame : Cert.quiescent_RefNormIdeal := fun m g _ =>
  (θ_run _ _ _).mono (fun r h => ⟨fun c => (h c).2, sem_eq_zero_of_no_sems (by decide) r.2⟩)
    (Cert.RefNormIdeal.Value.run m g)

/-- The kernel's result is the reference's, from any arguments. -/
theorem algebraic : Cert.algebraic_NormIdeal_RefNormIdeal := by
  pair_intro
  · run_from Cert.NormIdeal.Value.run_blocks m g
  · run_from Cert.RefNormIdeal.Value.run (F := Ideal) m' g'
    refine Eq.trans ?_ (Cert.NormV.kernel_value m c).symm
    funext i
    idx_vars i
    pointwise [G]
    rw [(hagree c).2.2.1, (hagree c).2.2.2]
    refine congrArg₂ (· + ·) (congrArg₂ (· * ·) rfl (congrArg₂ (· + ·) rfl ?_)) ?_ <;> (split <;> blk_ext)

end Cert.NormV
-- ==== Proof.FinalP.Value.lean ====
module

public import proofs.«01_k».proof.Proof.Gen.FinalPIdeal.Frame
public import proofs.«01_k».proof.Proof.Gen.RefFinalPIdeal.Run
public import Idealize.ShloMosaic.Lib.Pipeline.ValueKit
public import Idealize.ShloMosaic.Lib.Pointwise
public import proofs.«01_k».proof.Proof.Common.Sigmoid
public import Idealize.ShloMosaic.Lib.Claim
@[expose] public section

set_option maxRecDepth 16384

noncomputable section

namespace Cert.FinalPV

open Idealize.ShloMosaic Idealize.ShloMosaic.TcCoe Idealize.SL.Sem
open Cert.FinalPIdeal Cert.FinalPIdeal.Gen

/-- The normalised rows of the last layer's output, from row 0 on. -/
def G (x : S6144x2048.Idx → EReal) (g : S2048.Idx → EReal) : S4096x2048.Idx → EReal :=
  fun i => x (ix2 ⟨0 + (i 0).val, by have := (i 0).isLt; have e : S4096x2048.size 0 = 4096 := rfl; omega⟩ (i 1)) * Ideal.rsqrt (Ideal.div (∑ k : Fin 2048, x (ix2 ⟨0 + (i 0).val, by have := (i 0).isLt; have e : S4096x2048.size 0 = 4096 := rfl; omega⟩ k) * x (ix2 ⟨0 + (i 0).val, by have := (i 0).isLt; have e : S4096x2048.size 0 = 4096 := rfl; omega⟩ k)) (Ideal.ofBits .f32 0x45000000#32) + Ideal.ofBits .f32 0x358637BD#32) * g (ix1 (i 1))

variable (m : (ℓ : Loc nD τ sig) → Buf (Elt Ideal) ℓ)

/-- The windows' blocks at a point of the grid. -/
theorem idx : ∀ t : Fin cfg0.N, win0_0.index t = ![0 + (grid0.coords t 0).val, 0] ∧
    win0_1.index t = ![0, 0] ∧
    win0_2.index t = ![(grid0.coords t 0).val, 0] :=
  (by decide +kernel : ∀ t : Fin grid0.N, _)

/-- The gain as the region finds it: one row of it. -/
theorem V_v0 (c : Dev nD) (z : S1x2048.Idx) : V m c main_v0 z = m ((c : Thread nD τ).loc main_arg1) (ix1 (z 1)) := by
  unfold V V0
  simp only [List.flatten_cons, List.flatten_nil, List.append_nil]
  entry_read
  idx_vars z
  pointwise []

/-- The array the kernel writes back. -/
theorem kernel_value (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ha : (grid0.coords t 0).val < 4 := (grid0.coords t 0).isLt
  pointwise [k0_pay1, G]
  blk_point [iblk, idx t]
  rw [V_v0]
  blk_point [idx t]

/-- The result: the array the kernel writes back, its rows in their sequences. -/
theorem W_v2 (c : Dev nD) (i : S16x256x2048.Idx) : Pipeline.afterTail₀ cfgs (dats m) 0 (V0 m) [hostOps1] c main_v2 i =
    G (m ((c : Thread nD τ).loc main_arg0)) (m ((c : Thread nD τ).loc main_arg1)) (ix2 ⟨(i 0).val * 256 + (i 1).val, by have := (i 0).isLt; have := (i 1).isLt; have e : S16x256x2048.size 0 = 16 := rfl; have e : S16x256x2048.size 1 = 256 := rfl; omega⟩ (i 2)) := by
  rw [← kernel_value]
  unfold Pipeline.afterTail₀
  simp only [List.flatten_cons, List.flatten_nil, List.append_nil, hostOps1]
  after_results
  have h := Pipeline.withArrays_arr spec0 (by decide) c (V0 m c) (fun w => (dats m 0 c).arrAt w cfg0.N) 2
  erw [h]
  idx_vars i
  pointwise []

end Cert.FinalPV
-- ==== Proof.FinalP.Claims.lean ====
module

public import proofs.«01_k».proof.Defs
public import proofs.«01_k».proof.Proof.FinalP.Value
public import Idealize.ShloMosaic.Lib.Claim

@[expose] public section

set_option maxRecDepth 16384

noncomputable section

namespace Cert.FinalPV

open Idealize.ShloMosaic Idealize.ShloMosaic.TcCoe Idealize.SL.Sem Cert

/-- The reference terminates, keeps its arguments and leaves no counter raised. -/
theorem ref_frame : Cert.quiescent_RefFinalPIdeal := fun m g _ =>
  (θ_run _ _ _).mono (fun r h => ⟨fun c => (h c).2, sem_eq_zero_of_no_sems (by decide) r.2⟩)
    (Cert.RefFinalPIdeal.Value.run m g)

/-- The kernel's result is the reference's, from any arguments. -/
theorem algebraic : Cert.algebraic_FinalPIdeal_RefFinalPIdeal := by
  pair_intro
  · run_from Cert.FinalPIdeal.Gen.run_main m g
    exact Cert.FinalPIdeal.Gen.W_main_arg1 m _ c
  · run_from Cert.RefFinalPIdeal.Value.run (F := Ideal) m' g'
    funext i
    refine Eq.trans ?_ (Cert.FinalPV.W_v2 m c i).symm
    idx_vars i
    pointwise [G]

end Cert.FinalPV
-- ==== Proof.FinalS.Value.lean ====
module

public import proofs.«01_k».proof.Proof.Gen.FinalSIdeal.Frame
public import proofs.«01_k».proof.Proof.Gen.RefFinalSIdeal.Run
public import Idealize.ShloMosaic.Lib.Pipeline.ValueKit
public import Idealize.ShloMosaic.Lib.Pointwise
public import proofs.«01_k».proof.Proof.Common.Sigmoid
public import Idealize.ShloMosaic.Lib.Claim
@[expose] public section

set_option maxRecDepth 16384

noncomputable section

namespace Cert.FinalSV

open Idealize.ShloMosaic Idealize.ShloMosaic.TcCoe Idealize.SL.Sem
open Cert.FinalSIdeal Cert.FinalSIdeal.Gen

/-- The normalised rows of the last layer's output, from row 4096 on. -/
def G (x : S6144x2048.Idx → EReal) (g : S2048.Idx → EReal) : S2048x2048.Idx → EReal :=
  fun i => x (ix2 ⟨4096 + (i 0).val, by have := (i 0).isLt; have e : S2048x2048.size 0 = 2048 := rfl; omega⟩ (i 1)) * Ideal.rsqrt (Ideal.div (∑ k : Fin 2048, x (ix2 ⟨4096 + (i 0).val, by have := (i 0).isLt; have e : S2048x2048.size 0 = 2048 := rfl; omega⟩ k) * x (ix2 ⟨4096 + (i 0).val, by have := (i 0).isLt; have e : S2048x2048.size 0 = 2048 := rfl; omega⟩ k)) (Ideal.ofBits .f32 0x45000000#32) + Ideal.ofBits .f32 0x358637BD#32) * g (ix1 (i 1))

variable (m : (ℓ : Loc nD τ sig) → Buf (Elt Ideal) ℓ)

/-- The windows' blocks at a point of the grid. -/
theorem idx : ∀ t : Fin cfg0.N, win0_0.index t = ![4 + (grid0.coords t 0).val, 0] ∧
    win0_1.index t = ![0, 0] ∧
    win0_2.index t = ![(grid0.coords t 0).val, 0] :=
  (by decide +kernel : ∀ t : Fin grid0.N, _)

/-- The gain as the region finds it: one row of it. -/
theorem V_v0 (c : Dev nD) (z : S1x2048.Idx) : V m c main_v0 z = m ((c : Thread nD τ).loc main_arg1) (ix1 (z 1)) := by
  unfold V V0
  simp only [List.flatten_cons, List.flatten_nil, List.append_nil]
  entry_read
  idx_vars z
  pointwise []

/-- The array the kernel writes back. -/
theorem kernel_value (c : Dev nD) : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ha : (grid0.coords t 0).val < 2 := (grid0.coords t 0).isLt
  pointwise [k0_pay1, G]
  blk_point [iblk, idx t]
  rw [V_v0]
  blk_point [idx t]

/-- The result: the array the kernel writes back, its rows in their sequences. -/
theorem W_v2 (c : Dev nD) (i : S2x1024x2048.Idx) : Pipeline.afterTail₀ cfgs (dats m) 0 (V0 m) [hostOps1] c main_v2 i =
    G (m ((c : Thread nD τ).loc main_arg0)) (m ((c : Thread nD τ).loc main_arg1)) (ix2 ⟨(i 0).val * 1024 + (i 1).val, by have := (i 0).isLt; have := (i 1).isLt; have e : S2x1024x2048.size 0 = 2 := rfl; have e : S2x1024x2048.size 1 = 1024 := rfl; omega⟩ (i 2)) := by
  rw [← kernel_value]
  unfold Pipeline.afterTail₀
  simp only [List.flatten_cons, List.flatten_nil, List.append_nil, hostOps1]
  after_results
  have h := Pipeline.withArrays_arr spec0 (by decide) c (V0 m c) (fun w => (dats m 0 c).arrAt w cfg0.N) 2
  erw [h]
  idx_vars i
  pointwise []

end Cert.FinalSV
-- ==== Proof.FinalS.Claims.lean ====
module

public import proofs.«01_k».proof.Defs
public import proofs.«01_k».proof.Proof.FinalS.Value
public import Idealize.ShloMosaic.Lib.Claim

@[expose] public section

set_option maxRecDepth 16384

noncomputable section

namespace Cert.FinalSV

open Idealize.ShloMosaic Idealize.ShloMosaic.TcCoe Idealize.SL.Sem Cert

/-- The reference terminates, keeps its arguments and leaves no counter raised. -/
theorem ref_frame : Cert.quiescent_RefFinalSIdeal := fun m g _ =>
  (θ_run _ _ _).mono (fun r h => ⟨fun c => (h c).2, sem_eq_zero_of_no_sems (by decide) r.2⟩)
    (Cert.RefFinalSIdeal.Value.run m g)

/-- The kernel's result is the reference's, from any arguments. -/
theorem algebraic : Cert.algebraic_FinalSIdeal_RefFinalSIdeal := by
  pair_intro
  · run_from Cert.FinalSIdeal.Gen.run_main m g
    exact Cert.FinalSIdeal.Gen.W_main_arg1 m _ c
  · run_from Cert.RefFinalSIdeal.Value.run (F := Ideal) m' g'
    funext i
    refine Eq.trans ?_ (Cert.FinalSV.W_v2 m c i).symm
    idx_vars i
    pointwise [G]

end Cert.FinalSV
-- ==== Proof.Modu.Value.lean ====
module

public import proofs.«01_k».proof.Proof.Gen.ModuIdeal.Frame
public import proofs.«01_k».proof.Proof.Gen.RefModuIdeal.Run
public import Idealize.ShloMosaic.Lib.Pipeline.ValueKit
public import Idealize.ShloMosaic.Lib.Pointwise
public import proofs.«01_k».proof.Proof.Common.Sigmoid
public import Idealize.ShloMosaic.Lib.Claim
@[expose] public section

set_option maxRecDepth 16384

noncomputable section

namespace Cert.ModuV

open Idealize.ShloMosaic Idealize.ShloMosaic.TcCoe Idealize.SL.Sem
open Cert.ModuIdeal Cert.ModuIdeal.Gen

/-- The conditioning rows: the context's, the requests', and five rows of zeros. -/
def cond (x : S2x2048.Idx → EReal) (x0 : S2048.Idx → EReal) (r : Fin 8) (k : Fin 2048) : EReal :=
  if h : r.val < 1 then x0 (ix1 k) else if h' : r.val < 3 then x (ix2 ⟨r.val - 1, by omega⟩ k) else 0

/-- The modulation of each layer: the conditioning rows under their own sigmoid, times the weights, and the bias. -/
def G (x : S2x2048.Idx → EReal) (x0 : S2048.Idx → EReal) (w : S2x2048x12288.Idx → EReal) (b : S2x12288.Idx → EReal) : S2x8x12288.Idx → EReal :=
  fun i => (∑ k : Fin 2048, cond x x0 (i 1) k * Ideal.logistic (cond x x0 (i 1) k) * w (ix3 (i 0) k (i 2))) + b (ix2 (i 0) (i 2))

variable (m : (ℓ : Loc nD τ sig) → Buf (Elt Ideal) ℓ)

/-- The windows' blocks at a point of the grid. -/
theorem idx : ∀ t : Fin cfg0.N, win0_0.index t = ![0, 0] ∧
    win0_1.index t = ![(grid0.coords t 0).val, 0, (grid0.coords t 1).val] ∧
    win0_2.index t = ![(grid0.coords t 0).val, 0, (grid0.coords t 1).val] ∧
    win0_3.index t = ![(grid0.coords t 0).val, 0, (grid0.coords t 1).val] :=
  (by decide +kernel : ∀ t : Fin grid0.N, _)

/-- Three arrays set one below another, read at a row: `V` is what the host holds before. -/
theorem stacked (W : Valuation τ sig (Elt Ideal)) (h1) (h2) (r : Fin 8) (k : Fin 2048) :
    (StableHlo.nary (τ := τ) ![main_v0, main_arg0, main_v1] main_v2 (fun u => (concatenate S8x2048 0 [⟨S1x2048, (u 0 : (⟨S1x2048, .f32⟩ : BufTy).Contents (Elt Ideal))⟩, ⟨S2x2048, (u 1 : (⟨S2x2048, .f32⟩ : BufTy).Contents (Elt Ideal))⟩, ⟨S5x2048, (u 2 : (⟨S5x2048, .f32⟩ : BufTy).Contents (Elt Ideal))⟩] concatenates_S1x2048_S2x2048_S5x2048_S8x2048_d0 : (⟨S8x2048, .f32⟩ : BufTy).Contents (Elt Ideal))) h1 h2).result W main_v2 (ix2 r k) =
    if h : r.val < 1 then (W main_v0 : S1x2048.Idx → EReal) (ix2 0 k) else if h' : r.val < 3 then (W main_arg0 : S2x2048.Idx → EReal) (ix2 ⟨r.val - 1, by omega⟩ k) else (W main_v1 : S5x2048.Idx → EReal) (ix2 ⟨r.val - 3, by omega⟩ k) := by
  rw [StableHlo.nary_result]
  show (concatenate S8x2048 0 [⟨S1x2048, (W main_v0 : S1x2048.Idx → EReal)⟩, ⟨S2x2048, (W main_arg0 : S2x2048.Idx → EReal)⟩, ⟨S5x2048, (W main_v1 : S5x2048.Idx → EReal)⟩] concatenates_S1x2048_S2x2048_S5x2048_S8x2048_d0 : S8x2048.Idx → EReal) (ix2 r k) = _
  generalize (W main_v0 : S1x2048.Idx → EReal) = A
  generalize (W main_arg0 : S2x2048.Idx → EReal) = B
  generalize (W main_v1 : S5x2048.Idx → EReal) = C
  pointwise []
  refine dite_congr rfl (fun h => congrArg A (congrArg (fun r' => ix2 r' k) (Fin.ext (show r.val = 0 by omega)))) fun h => ?_
  by_cases h' : r.val < 3
  · rw [dif_pos h', dif_pos (by omega)]
  · rw [dif_neg h', dif_neg (by omega)]
    exact congrArg C (congrArg (fun r' => ix2 r' k) (Fin.ext (show r.val - 1 - 2 = r.val - 3 by omega)))

/-- The conditioning rows as the region finds them. -/
theorem V_v2 (c : Dev nD) (r : Fin 8) (k : Fin 2048) : V m c main_v2 (ix2 r k) = cond (m ((c : Thread nD τ).loc main_arg0)) (m ((c : Thread nD τ).loc main_arg1)) r k := by
  unfold V V0
  simp only [List.flatten_cons, List.flatten_nil, List.append_nil, hostOps0, StableHlo.after_cons, StableHlo.after_nil]
  rw [StableHlo.reshape_result_ne]; rotate_left; decide
  rw [stacked]
  unfold cond
  refine dite_congr rfl (fun h => ?_) fun h => dite_congr rfl (fun h' => ?_) fun h' => ?_
  · after_results_steps
    pointwise []
  · after_results_steps
  · after_results_steps
    pointwise []

/-- The bias as the region finds it. -/
theorem V_v3 (c : Dev nD) (z : S2x1x12288.Idx) : V m c main_v3 z = m ((c : Thread nD τ).loc main_arg3) (ix2 (z 0) (z 2)) := by
  unfold V V0
  simp only [List.flatten_cons, List.flatten_nil, List.append_nil]
  entry_read
  idx_vars z
  pointwise []

/-- The array the kernel writes back. -/
theorem kernel_value (c : Dev nD) : (dats m 0 c).arrAt 3 cfg0.N =
    G (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  frame_out
  idx_vars y
  obtain ⟨e0, e1, e2, e3⟩ := idx t
  have ha : (grid0.coords t 0).val < 2 := (grid0.coords t 0).isLt
  have hb : (grid0.coords t 1).val < 12 := (grid0.coords t 1).isLt
  have hx : ∀ k : Fin 2048, iblk m c 0 t (ix2 y1 k) = cond (m ((c : Thread nD τ).loc main_arg0)) (m ((c : Thread nD τ).loc main_arg1)) y1 k := fun k => by
    rw [← V_v2]
    blk_point [iblk, idx t]
  have hw : ∀ k : Fin 2048, iblk m c 1 t (ix3 0 k y2) = (m ((c : Thread nD τ).loc main_arg2)) (ix3 ⟨(grid0.coords t 0).val, ha⟩ k ⟨1024 * (grid0.coords t 1).val + y2.val, by omega⟩) := fun k => by
    blk_point [iblk, V, idx t]
  have hv : iblk m c 2 t (ix3 0 0 y2) = (m ((c : Thread nD τ).loc main_arg3)) (ix2 ⟨(grid0.coords t 0).val, ha⟩ ⟨1024 * (grid0.coords t 1).val + y2.val, by omega⟩) := by
    refine Eq.trans ?_ (V_v3 m c (ix3 ⟨(grid0.coords t 0).val, ha⟩ 0 ⟨1024 * (grid0.coords t 1).val + y2.val, by omega⟩))
    blk_point [iblk, idx t]
  have h0 : (((View.whole main_v4).slice (win0_3.rect t)).emb (ix3 y0 y1 y2) 0) = (⟨(grid0.coords t 0).val, ha⟩ : Fin 2) :=
    Fin.ext ((Pipeline.Window.rect_emb_val win0_3 t (ix3 y0 y1 y2) 0).trans (by rw [e3]; show (grid0.coords t 0).val * 1 + y0.val = (grid0.coords t 0).val; omega))
  have h1 : (((View.whole main_v4).slice (win0_3.rect t)).emb (ix3 y0 y1 y2) 1) = y1 :=
    Fin.ext ((Pipeline.Window.rect_emb_val win0_3 t (ix3 y0 y1 y2) 1).trans (by rw [e3]; show 0 * 8 + y1.val = y1.val; omega))
  have h2 : (((View.whole main_v4).slice (win0_3.rect t)).emb (ix3 y0 y1 y2) 2) = (⟨1024 * (grid0.coords t 1).val + y2.val, by omega⟩ : Fin 12288) :=
    Fin.ext ((Pipeline.Window.rect_emb_val win0_3 t (ix3 y0 y1 y2) 2).trans (by rw [e3]; show (grid0.coords t 1).val * 1024 + y2.val = 1024 * (grid0.coords t 1).val + y2.val; omega))
  pointwise [k0_pay1, G]
  simp only [Common.ofBits_half, Common.half_tanh, h0, h1, h2]
  rw [hv]
  refine congrArg (· + _) (Finset.sum_congr rfl fun k _ => ?_)
  rw [hx, hw]

/-- The result: layer 1's first three rows of the array the kernel writes back. -/
theorem W_v6 (c : Dev nD) (i : S3x12288.Idx) : Pipeline.afterTail₀ cfgs (dats m) 0 (V0 m) [hostOps1] c main_v6 i =
    G (m ((c : Thread nD τ).loc main_arg0)) (m ((c : Thread nD τ).loc main_arg1)) (m ((c : Thread nD τ).loc main_arg2)) (m ((c : Thread nD τ).loc main_arg3)) (ix3 1 ⟨(i 0).val, by have := (i 0).isLt; have e : S3x12288.size 0 = 3 := rfl; omega⟩ (i 1)) := by
  rw [← kernel_value]
  unfold Pipeline.afterTail₀
  simp only [List.flatten_cons, List.flatten_nil, List.append_nil, hostOps1]
  after_results
  have h := Pipeline.withArrays_arr spec0 (by decide) c (V0 m c) (fun w => (dats m 0 c).arrAt w cfg0.N) 3
  erw [h]
  idx_vars i
  pointwise []

end Cert.ModuV
-- ==== Proof.Modu.Claims.lean ====
module

public import proofs.«01_k».proof.Defs
public import proofs.«01_k».proof.Proof.Modu.Value
public import Idealize.ShloMosaic.Lib.Claim

@[expose] public section

set_option maxRecDepth 16384

noncomputable section

namespace Cert.ModuV

open Idealize.ShloMosaic Idealize.ShloMosaic.TcCoe Idealize.SL.Sem Cert

/-- The reference terminates, keeps its arguments and leaves no counter raised. -/
theorem ref_frame : Cert.quiescent_RefModuIdeal := fun m g _ =>
  (θ_run _ _ _).mono (fun r h => ⟨fun c => (h c).2, sem_eq_zero_of_no_sems (by decide) r.2⟩)
    (Cert.RefModuIdeal.Value.run m g)

/-- The kernel's result is the reference's, from any arguments. -/
theorem algebraic : Cert.algebraic_ModuIdeal_RefModuIdeal := by
  pair_intro
  · run_from Cert.ModuIdeal.Gen.run_main m g
    · exact Cert.ModuIdeal.Gen.W_main_arg0 m _ c
    · exact Cert.ModuIdeal.Gen.W_main_arg1 m _ c
    · exact Cert.ModuIdeal.Gen.W_main_arg3 m _ c
  · run_from Cert.RefModuIdeal.Value.run (F := Ideal) m' g'
    funext i
    refine Eq.trans ?_ (Cert.ModuV.W_v6 m c i).symm
    idx_vars i
    pointwise [G, cond]
    rfl

end Cert.ModuV
-- ==== Proof.Attn.Math.lean ====
module

public import Idealize.ShloMosaic.PureOps.Ideal
public import Mathlib.Analysis.SpecialFunctions.Pow.Real

@[expose] public section

noncomputable section

namespace Cert.AttnV

open Idealize.ShloMosaic

/-! The arithmetic of a softmax on extended reals: the scores are real, the values may be infinite. -/

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem isReal_sum {n : ℕ} (f : Fin n → EReal) (h : ∀ k, IsReal (f k)) : IsReal (∑ k, f k) := by
  classical
  refine Finset.sum_induction f IsReal (fun _ _ => IsReal.add) ⟨0, rfl⟩ fun k _ => h k

/-- What is below infinity in size is real. -/
theorem isReal_of_abs_lt {x : EReal} (h : max x (-x) < ⊤) : IsReal x := by
  induction x with
  | bot => simp at h
  | top => simp at h
  | coe r => exact ⟨r, rfl⟩

/-- The largest of some reals is real. -/
theorem isReal_fold {n : ℕ} (hn : 0 < n) (f : Fin n → EReal) (h : ∀ k, IsReal (f k)) :
    IsReal (Finset.univ.fold max ⊥ f) := by
  haveI : Nonempty (Fin n) := ⟨⟨0, hn⟩⟩
  obtain ⟨k, _, hk⟩ := Finset.exists_mem_eq_sup (Finset.univ : Finset (Fin n)) Finset.univ_nonempty f
  have e : Finset.univ.fold max ⊥ f = Finset.univ.sup f := rfl
  rw [e, hk]
  exact h k

theorem isReal_max {x y : EReal} (hx : IsReal x) (hy : IsReal y) : IsReal (max x y) := by
  rcases max_choice x y with h | h <;> rw [h] <;> assumption

/-- A real factor, not negative, moves through a sum of extended reals. -/
theorem mul_sum_of_nonneg {n : ℕ} (a : ℝ) (ha : 0 ≤ a) (f : Fin n → EReal) : (a : EReal) * ∑ k, f k = ∑ k, (a : EReal) * f k := by
  classical
  refine Finset.induction_on (Finset.univ : Finset (Fin n)) (by simp) fun k s hk ih => ?_
  rw [Finset.sum_insert hk, Finset.sum_insert hk,
    EReal.left_distrib_of_nonneg_of_ne_top (EReal.coe_nonneg.mpr ha) (EReal.coe_ne_top a), ih]

theorem coe_sum {n : ℕ} (f : Fin n → ℝ) : ((∑ k, f k : ℝ) : EReal) = ∑ k, (f k : EReal) := by
  classical
  refine Finset.induction_on (Finset.univ : Finset (Fin n)) (by simp) fun k s hk ih => ?_
  rw [Finset.sum_insert hk, Finset.sum_insert hk, EReal.coe_add, ih]

/-- The scores' scale, one over the root of a query's 192 lanes. -/
def scale : ℝ := (Real.sqrt 192)⁻¹

/-- The scale for powers of two. -/
def scale2 : ℝ := (Real.sqrt 192)⁻¹ * (Real.log 2)⁻¹

/-- The softmax of the scores, over the values: exponentials of the scaled scores less their largest, each over the sum
    of all, times the values, summed. -/
def soft {n : ℕ} (s v : Fin n → EReal) : EReal :=
  ∑ k, Ideal.div (Ideal.exp (s k * (scale : EReal) - Finset.univ.fold max ⊥ fun j => s j * (scale : EReal)))
    (∑ i, Ideal.exp (s i * (scale : EReal) - Finset.univ.fold max ⊥ fun j => s j * (scale : EReal))) * v k

theorem exp2_scaled (f M : ℝ) : Ideal.exp2 (((f : EReal) - (M : EReal)) * (scale2 : EReal)) = ((Real.exp ((f - M) * scale) : ℝ) : EReal) := by
  rw [← EReal.coe_sub, ← EReal.coe_mul, Ideal.exp2_coe]
  congr 1
  show (2 : ℝ) ^ ((f - M) * scale2) = _
  rw [Real.rpow_def_of_pos (by norm_num : (0 : ℝ) < 2)]
  congr 1
  have h : Real.log 2 ≠ 0 := (Real.log_pos (by norm_num)).ne'
  unfold scale2 scale
  field_simp

/-- The kernel's quotient of one sum by another is the softmax, whichever real number is taken off the scores first. -/
theorem soft_eq {n : ℕ} (hn : 0 < n) (s v : Fin n → EReal) (M : EReal) (hs : ∀ k, IsReal (s k)) (hM : IsReal M) :
    Ideal.div (∑ k, Ideal.exp2 ((s k - M) * (scale2 : EReal)) * v k) (∑ k, Ideal.exp2 ((s k - M) * (scale2 : EReal))) = soft s v := by
  haveI : Nonempty (Fin n) := ⟨⟨0, hn⟩⟩
  obtain ⟨M', hM'⟩ := isReal_fold hn (fun j => s j * (scale : EReal)) fun k => (hs k).mul ⟨scale, rfl⟩
  obtain ⟨M, rfl⟩ := hM
  choose f hf using hs
  unfold soft
  rw [hM']
  obtain rfl : s = fun k => (f k : EReal) := funext hf
  have hp : ∀ k, Ideal.exp2 (((f k : EReal) - (M : EReal)) * (scale2 : EReal)) = ((Real.exp ((f k - M) * scale) : ℝ) : EReal) := fun k => exp2_scaled _ _
  have he : ∀ k, Ideal.exp ((f k : EReal) * (scale : EReal) - (M' : EReal)) = ((Real.exp (f k * scale - M') : ℝ) : EReal) := fun k => by
    rw [← EReal.coe_mul, ← EReal.coe_sub, Ideal.exp_coe]
  simp only [hp, he, ← coe_sum]
  have hL : 0 < ∑ k, Real.exp ((f k - M) * scale) := Finset.sum_pos (fun _ _ => Real.exp_pos _) Finset.univ_nonempty
  have hE : 0 < ∑ k, Real.exp (f k * scale - M') := Finset.sum_pos (fun _ _ => Real.exp_pos _) Finset.univ_nonempty
  rw [Ideal.div_coe hL.ne', mul_comm, mul_sum_of_nonneg _ (by positivity)]
  refine Finset.sum_congr rfl fun k _ => ?_
  rw [Ideal.div_coe hE.ne', ← mul_assoc, ← EReal.coe_mul, ← EReal.coe_mul]
  congr 2
  have hr : ∀ j, Real.exp (f j * scale - M') = Real.exp (M * scale - M') * Real.exp ((f j - M) * scale) := fun j => by
    rw [← Real.exp_add]; congr 1; ring
  simp only [hr, ← Finset.mul_sum]
  have := (Real.exp_pos (M * scale - M')).ne'
  generalize (∑ j, Real.exp ((f j - M) * scale)) = L at hL ⊢
  have hL := hL.ne'
  field_simp

/-- A score: the products of the plain lanes and of the positional lanes, summed. -/
def score (qn kn : Fin 128 → EReal) (qp kp : Fin 64 → EReal) : EReal := ∑ e, qn e * kn e + ∑ e, qp e * kp e

theorem isReal_score {qn kn : Fin 128 → EReal} {qp kp : Fin 64 → EReal} (h1 : ∀ e, IsReal (qn e)) (h2 : ∀ e, IsReal (kn e))
    (h3 : ∀ e, IsReal (qp e)) (h4 : ∀ e, IsReal (kp e)) : IsReal (score qn kn qp kp) :=
  (isReal_sum _ fun e => (h1 e).mul (h2 e)).add (isReal_sum _ fun e => (h3 e).mul (h4 e))

/-- 192 lanes are 128 and 64. -/
theorem score_192 (q k : Fin 192 → EReal) :
    ∑ e, q e * k e = score (fun e => q ⟨e.val, by omega⟩) (fun e => k ⟨e.val, by omega⟩) (fun e => q ⟨128 + e.val, by omega⟩) (fun e => k ⟨128 + e.val, by omega⟩) :=
  Fin.sum_univ_add (a := 128) (b := 64) fun e => q e * k e

/-- 256 lanes, whose upper 128 hold the positional lanes of a pair of heads and keys that vanish on the first 64 or the last. -/
theorem score_256 (q k : Fin 256 → EReal) (o : ℕ) (ho : o = 0 ∨ o = 64) (hz : ∀ e : Fin 128, ¬ (o ≤ e.val ∧ e.val < o + 64) → k ⟨128 + e.val, by omega⟩ = 0) :
    ∑ e, q e * k e = score (fun e => q ⟨e.val, by omega⟩) (fun e => k ⟨e.val, by omega⟩)
      (fun e => q ⟨128 + o + e.val, by omega⟩) (fun e => k ⟨128 + o + e.val, by omega⟩) := by
  refine (Fin.sum_univ_add (a := 128) (b := 128) fun e => q e * k e).trans (congrArg₂ (· + ·) rfl ?_)
  refine (Fin.sum_univ_add (a := 64) (b := 64) _).trans ?_
  rcases ho with rfl | rfl
  · refine (congrArg (_ + ·) (Finset.sum_eq_zero fun i _ => ?_)).trans (add_zero _) |>.trans ?_
    · exact (congrArg _ (hz ⟨64 + i.val, by omega⟩ (by simp))).trans (mul_zero _)
    · refine Finset.sum_congr rfl fun i _ => congrArg₂ (fun a b => q a * k b) (Fin.ext ?_) (Fin.ext ?_) <;>
        simp [Fin.natAdd, add_comm]
  · refine (congrArg (· + _) (Finset.sum_eq_zero fun i _ => ?_)).trans (zero_add _) |>.trans ?_
    · exact (congrArg _ (hz ⟨i.val, by omega⟩ (by simp))).trans (mul_zero _)
    · refine Finset.sum_congr rfl fun i _ => congrArg₂ (fun a b => q a * k b) (Fin.ext ?_) (Fin.ext ?_) <;>
        simp [Fin.natAdd] <;> omega

/-- Two stretches of keys are one. -/
theorem sum_1280 (g : Fin 1280 → EReal) : ∑ k : Fin 256, g ⟨k.val, by omega⟩ + ∑ k : Fin 1024, g ⟨256 + k.val, by omega⟩ = ∑ k, g k :=
  (Fin.sum_univ_add (a := 256) (b := 1024) g).symm

end Cert.AttnV
-- ==== Proof.Attn.Pre.lean ====
module

public import proofs.«01_k».proof.Pre_finite_scores
public import proofs.«01_k».proof.Proof.Attn.Math
public import Idealize.ShloMosaic.Lib.Pointwise

@[expose] public section

set_option maxRecDepth 16384

noncomputable section

namespace Cert.AttnV

open Idealize.ShloMosaic Idealize.ShloMosaic.TcCoe Idealize.SL.Sem
open Cert.Pre_finite_scores

/-! The precondition, entry by entry: an array whose absolute values lie below infinity holds real numbers. -/

/-- The shape relations the precondition takes hold. -/
instance pre_facts : Cert.Pre_finite_scores.Facts where
  bitsLt_bf16_f32 := by decide
  shapeCasts_S6144x4096_S6144x16x256 := by decide
  slices_S6144x16x256_S6144x16x128_0_0_0 := by decide
  shapeCasts_S512x4096_S512x16x256 := by decide
  slices_S512x16x256_S512x16x128_0_0_0 := by decide
  slices_S6144x128_S6144x64_0_0 := by decide
  slices_S2x2x256x64_S2x1x256x64_0_1_0_0 := by decide
  shapeCasts_S2x1x256x64_S2x256x64 := by decide
  bcast_S_S6144x3072 := by decide
  bcast_S_S6144x16x128 := by decide
  bcast_S_S6144x64 := by decide
  bcast_S_S512x16x128 := by decide
  bcast_S_S2x256x64 := by decide
  bcast_S_S1024x16 := by decide

/-- The single-precision pattern the precondition compares with is infinity. -/
theorem inf_top : Ideal.ofBits .f32 0x7F800000#32 = ⊤ := by simp [Ideal.ofBits, Ideal.ieee]

/-- A value whose absolute value compares below infinity is real. -/
theorem real_of_cmp {x : EReal} (h : Ideal.cmp .olt (max x (-x)) (Ideal.ofBits .f32 0x7F800000#32) = 1#1) : IsReal x := by
  rw [inf_top] at h
  refine isReal_of_abs_lt ?_
  by_contra hn
  simp [Ideal.cmp, hn] at h

theorem fin0 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (R : Fin 6144) (n : Fin 3072) (hf : (fn (F := Ideal) a0 a1 a2 a3 a4 a5 a6 a7 a8).1 = fun _ => 1#1) : IsReal (a0 (ix2 R n)) := by
  refine real_of_cmp ?_
  refine Eq.trans ?_ (congrFun hf (ix2 R n))
  unfold fn fn_part1
  dsimp only
  symm
  pointwise []
  rfl

theorem fin1 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (R : Fin 6144) (h : Fin 16) (e : Fin 128) (hf : (fn (F := Ideal) a0 a1 a2 a3 a4 a5 a6 a7 a8).2.1 = fun _ => 1#1) : IsReal (a1 (ix2 R ⟨h.val * 256 + e.val, by omega⟩)) := by
  refine real_of_cmp ?_
  refine Eq.trans ?_ (congrFun hf (ix3 R h e))
  unfold fn fn_part1
  dsimp only
  symm
  pointwise []
  rfl

theorem fin2 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (R : Fin 6144) (e : Fin 64) (hf : (fn (F := Ideal) a0 a1 a2 a3 a4 a5 a6 a7 a8).2.2.1 = fun _ => 1#1) : IsReal (a2 (ix2 R ⟨e.val, by omega⟩)) := by
  refine real_of_cmp ?_
  refine Eq.trans ?_ (congrFun hf (ix2 R e))
  unfold fn fn_part1
  dsimp only
  symm
  pointwise []
  rfl

theorem fin3 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (R : Fin 512) (h : Fin 16) (e : Fin 128) (hf : (fn (F := Ideal) a0 a1 a2 a3 a4 a5 a6 a7 a8).2.2.2.1 = fun _ => 1#1) : IsReal (a3 (ix2 R ⟨h.val * 256 + e.val, by omega⟩)) := by
  refine real_of_cmp ?_
  refine Eq.trans ?_ (congrFun hf (ix3 R h e))
  unfold fn fn_part1
  dsimp only
  symm
  pointwise []
  rfl

theorem fin4 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (b : Fin 2) (k : Fin 256) (e : Fin 64) (hf : (fn (F := Ideal) a0 a1 a2 a3 a4 a5 a6 a7 a8).2.2.2.2.1 = fun _ => 1#1) : IsReal (a4 (ix4 b 1 k e)) := by
  refine real_of_cmp ?_
  refine Eq.trans ?_ (congrFun hf (ix3 b k e))
  unfold fn fn_part1
  dsimp only
  symm
  pointwise []
  rfl

theorem fin5 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (p : Fin 1024) (e : Fin 16) (hf : (fn (F := Ideal) a0 a1 a2 a3 a4 a5 a6 a7 a8).2.2.2.2.2.1 = fun _ => 1#1) : IsReal (a5 (ix2 p e)) := by
  refine real_of_cmp ?_
  refine Eq.trans ?_ (congrFun hf (ix2 p e))
  unfold fn fn_part1
  dsimp only
  symm
  pointwise []
  rfl

theorem fin6 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (p : Fin 1024) (e : Fin 16) (hf : (fn (F := Ideal) a0 a1 a2 a3 a4 a5 a6 a7 a8).2.2.2.2.2.2.1 = fun _ => 1#1) : IsReal (a6 (ix2 p e)) := by
  refine real_of_cmp ?_
  refine Eq.trans ?_ (congrFun hf (ix2 p e))
  unfold fn fn_part1
  dsimp only
  symm
  pointwise []
  rfl

theorem fin7 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (p : Fin 1024) (e : Fin 16) (hf : (fn (F := Ideal) a0 a1 a2 a3 a4 a5 a6 a7 a8).2.2.2.2.2.2.2.1 = fun _ => 1#1) : IsReal (a7 (ix2 p e)) := by
  refine real_of_cmp ?_
  refine Eq.trans ?_ (congrFun hf (ix2 p e))
  unfold fn fn_part1
  dsimp only
  symm
  pointwise []
  rfl

theorem fin8 (a0 : FVec Ideal S6144x3072 .bf16) (a1 : FVec Ideal S6144x4096 .bf16) (a2 : FVec Ideal S6144x128 .f32) (a3 : FVec Ideal S512x4096 .bf16) (a4 : FVec Ideal S2x2x256x64 .f32) (a5 : FVec Ideal S1024x16 .f32) (a6 : FVec Ideal S1024x16 .f32) (a7 : FVec Ideal S1024x16 .f32) (a8 : FVec Ideal S1024x16 .f32) (p : Fin 1024) (e : Fin 16) (hf : (fn (F := Ideal) a0 a1 a2 a3 a4 a5 a6 a7 a8).2.2.2.2.2.2.2.2 = fun _ => 1#1) : IsReal (a8 (ix2 p e)) := by
  refine real_of_cmp ?_
  refine Eq.trans ?_ (congrFun hf (ix2 p e))
  unfold fn fn_part1
  dsimp only
  symm
  pointwise []
  rfl

end Cert.AttnV
-- ==== Proof.Attn.Spec.lean ====
module

public import proofs.«01_k».proof.AttnIdeal
public import Idealize.ShloMosaic.Lib.Pipeline.ValueKit
public import proofs.«01_k».proof.Proof.Attn.Math

@[expose] public section

set_option maxRecDepth 16384

noncomputable section

namespace Cert.AttnV

open Idealize.ShloMosaic Idealize.ShloMosaic.TcCoe Idealize.SL.Sem
open Cert.AttnIdeal

/-- An array of two dimensions at places equal in value. -/
theorem at2 {n m : ℕ} {α : Type} (x : Shape.Idx ⟨2, ![n, m]⟩ → α) {a a' : Fin n} {b b' : Fin m} (h : a.val = a'.val) (h' : b.val = b'.val) : x (ix2 a b) = x (ix2 a' b') := by
  rw [Fin.ext h, Fin.ext h']

/-- An array of four dimensions, likewise. -/
theorem at4 {n m k l : ℕ} {α : Type} (x : Shape.Idx ⟨4, ![n, m, k, l]⟩ → α) {a a' : Fin n} {b b' : Fin m} {c c' : Fin k} {d d' : Fin l}
    (h : a.val = a'.val) (h' : b.val = b'.val) (h'' : c.val = c'.val) (h3 : d.val = d'.val) : x (ix4 a b c d) = x (ix4 a' b' c' d') := by
  rw [Fin.ext h, Fin.ext h', Fin.ext h'', Fin.ext h3]

/-! What the attention computes, as a function of the arrays it is given. -/

variable (cr sr cc sc : S1024x16.Idx → EReal)

/-- The 64 positional lanes at a position, turned: 32 lanes by the row's angles, 32 by the column's, each in halves of 16. -/
def rope (x : Fin 64 → EReal) (p : Fin 1024) (e : Fin 64) : EReal :=
  if h1 : e.val < 16 then x e * cr (ix2 p ⟨e.val, h1⟩) - x ⟨e.val + 16, by omega⟩ * sr (ix2 p ⟨e.val, h1⟩)
  else if h2 : e.val < 32 then x e * cr (ix2 p ⟨e.val - 16, by omega⟩) + x ⟨e.val - 16, by omega⟩ * sr (ix2 p ⟨e.val - 16, by omega⟩)
  else if h3 : e.val < 48 then x e * cc (ix2 p ⟨e.val - 32, by omega⟩) - x ⟨e.val + 16, by omega⟩ * sc (ix2 p ⟨e.val - 32, by omega⟩)
  else x e * cc (ix2 p ⟨e.val - 48, by omega⟩) + x ⟨e.val - 16, by omega⟩ * sc (ix2 p ⟨e.val - 48, by omega⟩)

variable (q : S6144x3072.Idx → EReal) (kv : S6144x4096.Idx → EReal) (kz : S6144x128.Idx → EReal) (kvc : S512x4096.Idx → EReal) (kpc : S2x2x256x64.Idx → EReal)

/-- Key `k` of the 256 a context row reads. -/
def ctxKey (R : Fin 6144) (k : Fin 256) : Fin 6144 := ⟨256 * (R.val / 256) + k.val, by omega⟩

/-- Lane `j` of head `h` of a context row. -/
def ctxOut (R : Fin 6144) (h : Fin 16) (j : Fin 128) : EReal :=
  soft (fun k : Fin 256 => score (fun e => q (ix2 R ⟨192 * h.val + e.val, by omega⟩)) (fun e => kv (ix2 (ctxKey R k) ⟨256 * h.val + e.val, by omega⟩))
      (fun e => q (ix2 R ⟨192 * h.val + (128 + e.val), by omega⟩)) (fun e => kz (ix2 (ctxKey R k) ⟨e.val, by omega⟩)))
    fun k => kv (ix2 (ctxKey R k) ⟨256 * h.val + (128 + j.val), by omega⟩)

/-- A new row of prompt `b`. -/
def newRow (b : Fin 2) (p : Fin 1024) : Fin 6144 := ⟨4096 + 1024 * b.val + p.val, by omega⟩

/-- The plain lanes of key `k` of the 1280 that prompt `b` reads: 256 cached ones, then its own. -/
def keyN (b : Fin 2) (h : Fin 16) (k : Fin 1280) (e : Fin 128) : EReal :=
  if hk : k.val < 256 then kvc (ix2 ⟨256 * b.val + k.val, by omega⟩ ⟨256 * h.val + e.val, by omega⟩)
  else kv (ix2 (newRow b ⟨k.val - 256, by omega⟩) ⟨256 * h.val + e.val, by omega⟩)

/-- Its value's lanes. -/
def keyV (b : Fin 2) (h : Fin 16) (k : Fin 1280) (e : Fin 128) : EReal :=
  if hk : k.val < 256 then kvc (ix2 ⟨256 * b.val + k.val, by omega⟩ ⟨256 * h.val + (128 + e.val), by omega⟩)
  else kv (ix2 (newRow b ⟨k.val - 256, by omega⟩) ⟨256 * h.val + (128 + e.val), by omega⟩)

/-- Its positional lanes: the cached ones as they are, its own turned. -/
def keyP (b : Fin 2) (k : Fin 1280) (e : Fin 64) : EReal :=
  if hk : k.val < 256 then kpc (ix4 b 1 ⟨k.val, hk⟩ e)
  else rope cr sr cc sc (fun e => kz (ix2 (newRow b ⟨k.val - 256, by omega⟩) ⟨e.val, by omega⟩)) ⟨k.val - 256, by omega⟩ e

/-- The query's positional lanes, turned. -/
def qryP (b : Fin 2) (p : Fin 1024) (h : Fin 16) (e : Fin 64) : EReal :=
  rope cr sr cc sc (fun e => q (ix2 (newRow b p) ⟨192 * h.val + (128 + e.val), by omega⟩)) p e

/-- Lane `j` of head `h` of a new row. -/
def decOut (b : Fin 2) (p : Fin 1024) (h : Fin 16) (j : Fin 128) : EReal :=
  soft (fun k => score (fun e => q (ix2 (newRow b p) ⟨192 * h.val + e.val, by omega⟩)) (keyN kv kvc b h k) (qryP cr sr cc sc q b p h) (keyP cr sr cc sc kz kpc b k))
    fun k => keyV kv kvc b h k j

/-- The attention's result: 4096 context rows, then 2048 new ones. -/
def G : S6144x2048.Idx → EReal := fun i =>
  have h0 : (i 0).val < 6144 := (i 0).isLt
  have h1 : (i 1).val < 2048 := (i 1).isLt
  if (i 0).val < 4096 then ctxOut q kv kz ⟨(i 0).val, h0⟩ ⟨(i 1).val / 128, by omega⟩ ⟨(i 1).val % 128, by omega⟩
  else decOut cr sr cc sc q kv kz kvc kpc ⟨(i 0).val / 1024 - 4, by omega⟩ ⟨(i 0).val % 1024, by omega⟩ ⟨(i 1).val / 128, by omega⟩ ⟨(i 1).val % 128, by omega⟩

theorem G_ctx (R : Fin 6144) (hR : R.val < 4096) (h : Fin 16) (j : Fin 128) (n : Fin 2048) (hn : n.val = 128 * h.val + j.val) :
    G cr sr cc sc q kv kz kvc kpc (ix2 R n) = ctxOut q kv kz R h j := by
  have e1 : (⟨n.val / 128, by omega⟩ : Fin 16) = h := Fin.ext (by dsimp only; omega)
  have e2 : (⟨n.val % 128, by omega⟩ : Fin 128) = j := Fin.ext (by dsimp only; omega)
  refine (if_pos hR).trans ?_
  show ctxOut q kv kz R ⟨n.val / 128, _⟩ ⟨n.val % 128, _⟩ = _
  rw [e1, e2]

theorem G_dec (R : Fin 6144) (b : Fin 2) (p : Fin 1024) (hR : R.val = 4096 + 1024 * b.val + p.val) (h : Fin 16) (j : Fin 128) (n : Fin 2048) (hn : n.val = 128 * h.val + j.val) :
    G cr sr cc sc q kv kz kvc kpc (ix2 R n) = decOut cr sr cc sc q kv kz kvc kpc b p h j := by
  have e1 : (⟨n.val / 128, by omega⟩ : Fin 16) = h := Fin.ext (by dsimp only; omega)
  have e2 : (⟨n.val % 128, by omega⟩ : Fin 128) = j := Fin.ext (by dsimp only; omega)
  have e3 : (⟨R.val / 1024 - 4, by omega⟩ : Fin 2) = b := Fin.ext (by dsimp only; omega)
  have e4 : (⟨R.val % 1024, by omega⟩ : Fin 1024) = p := Fin.ext (by dsimp only; omega)
  refine (if_neg (show ¬ R.val < 4096 by omega)).trans ?_
  show decOut cr sr cc sc q kv kz kvc kpc ⟨R.val / 1024 - 4, _⟩ ⟨R.val % 1024, _⟩ ⟨n.val / 128, _⟩ ⟨n.val % 128, _⟩ = _
  rw [e1, e2, e3, e4]

/-- Everything a score is computed from is real. -/
structure Reals : Prop where
  hq : ∀ R n, IsReal (q (ix2 R n))
  hkv : ∀ R (h : Fin 16) (e : Fin 128), IsReal (kv (ix2 R ⟨256 * h.val + e.val, by omega⟩))
  hkz : ∀ R (e : Fin 64), IsReal (kz (ix2 R ⟨e.val, by omega⟩))
  hkvc : ∀ R (h : Fin 16) (e : Fin 128), IsReal (kvc (ix2 R ⟨256 * h.val + e.val, by omega⟩))
  hkpc : ∀ b k e, IsReal (kpc (ix4 b 1 k e))
  hcr : ∀ p e, IsReal (cr (ix2 p e))
  hsr : ∀ p e, IsReal (sr (ix2 p e))
  hcc : ∀ p e, IsReal (cc (ix2 p e))
  hsc : ∀ p e, IsReal (sc (ix2 p e))

variable {cr sr cc sc q kv kz kvc kpc}

theorem Reals.rope (H : Reals cr sr cc sc q kv kz kvc kpc) (x : Fin 64 → EReal) (hx : ∀ e, IsReal (x e)) (p : Fin 1024) (e : Fin 64) : IsReal (rope cr sr cc sc x p e) := by
  unfold AttnV.rope
  split
  · exact ((hx _).mul (H.hcr _ _)).sub ((hx _).mul (H.hsr _ _))
  · split
    · exact ((hx _).mul (H.hcr _ _)).add ((hx _).mul (H.hsr _ _))
    · split
      · exact ((hx _).mul (H.hcc _ _)).sub ((hx _).mul (H.hsc _ _))
      · exact ((hx _).mul (H.hcc _ _)).add ((hx _).mul (H.hsc _ _))

theorem Reals.ctx (H : Reals cr sr cc sc q kv kz kvc kpc) (R : Fin 6144) (h : Fin 16) (k : Fin 256) :
    IsReal (score (fun e => q (ix2 R ⟨192 * h.val + e.val, by omega⟩)) (fun e => kv (ix2 (ctxKey R k) ⟨256 * h.val + e.val, by omega⟩))
      (fun e => q (ix2 R ⟨192 * h.val + (128 + e.val), by omega⟩)) (fun e => kz (ix2 (ctxKey R k) ⟨e.val, by omega⟩))) :=
  isReal_score (fun _ => H.hq _ _) (fun _ => H.hkv _ h _) (fun _ => H.hq _ _) fun _ => H.hkz _ _

theorem Reals.dec (H : Reals cr sr cc sc q kv kz kvc kpc) (b : Fin 2) (p : Fin 1024) (h : Fin 16) (k : Fin 1280) :
    IsReal (score (fun e => q (ix2 (newRow b p) ⟨192 * h.val + e.val, by omega⟩)) (keyN kv kvc b h k) (qryP cr sr cc sc q b p h) (keyP cr sr cc sc kz kpc b k)) := by
  refine isReal_score (fun _ => H.hq _ _) (fun e => ?_) (fun e => H.rope _ (fun _ => H.hq _ _) p e) fun e => ?_
  · unfold keyN
    split
    · exact H.hkvc _ h e
    · exact H.hkv _ h e
  · unfold keyP
    split
    · exact H.hkpc _ _ _
    · exact H.rope _ (fun _ => H.hkz _ _) _ e

variable (cr sr cc sc)

/-- The table of cosines over 128 lanes: a position's, twice over. -/
def cosT (p : Fin 1024) (e : Fin 128) : EReal :=
  if h1 : e.val % 64 < 16 then cr (ix2 p ⟨e.val % 64, h1⟩)
  else if h2 : e.val % 64 < 32 then cr (ix2 p ⟨e.val % 64 - 16, by omega⟩)
  else if h3 : e.val % 64 < 48 then cc (ix2 p ⟨e.val % 64 - 32, by omega⟩)
  else cc (ix2 p ⟨e.val % 64 - 48, by omega⟩)

/-- The table of signed sines. -/
def sinT (p : Fin 1024) (e : Fin 128) : EReal :=
  if h1 : e.val % 64 < 16 then - sr (ix2 p ⟨e.val % 64, h1⟩)
  else if h2 : e.val % 64 < 32 then sr (ix2 p ⟨e.val % 64 - 16, by omega⟩)
  else if h3 : e.val % 64 < 48 then - sc (ix2 p ⟨e.val % 64 - 32, by omega⟩)
  else sc (ix2 p ⟨e.val % 64 - 48, by omega⟩)

/-- A turned lane: the lane 16 on or 16 back in its group of 32. -/
def turn (e : Fin 128) : Fin 128 := if e.val % 32 < 16 then ⟨(e.val + 128 - 112) % 128, by omega⟩ else ⟨(e.val + 128 - 16) % 128, by omega⟩

/-- The tables turn either half of 128 lanes. -/
theorem rope_tile (x : Fin 128 → EReal) (o : ℕ) (ho : o = 0 ∨ o = 64) (p : Fin 1024) (e : Fin 64) :
    x ⟨o + e.val, by omega⟩ * cosT cr cc p ⟨o + e.val, by omega⟩ + x (turn ⟨o + e.val, by omega⟩) * sinT sr sc p ⟨o + e.val, by omega⟩
      = rope cr sr cc sc (fun e => x ⟨o + e.val, by omega⟩) p e := by
  have hm : (o + e.val) % 64 = e.val := by omega
  have he := e.isLt
  unfold rope cosT sinT turn
  simp only [hm]
  by_cases h1 : e.val < 16
  · rw [dif_pos h1, dif_pos h1, dif_pos h1, if_pos (by omega), mul_neg, ← sub_eq_add_neg]
    refine congrArg₂ (· - ·) rfl (congrArg₂ (· * ·) (congrArg x (Fin.ext ?_)) rfl)
    show (o + e.val + 128 - 112) % 128 = o + (e.val + 16)
    omega
  · rw [dif_neg h1, dif_neg h1, dif_neg h1]
    by_cases h2 : e.val < 32
    · rw [dif_pos h2, dif_pos h2, dif_pos h2, if_neg (by omega)]
      refine congrArg₂ (· + ·) rfl (congrArg₂ (· * ·) (congrArg x (Fin.ext ?_)) rfl)
      show (o + e.val + 128 - 16) % 128 = o + (e.val - 16)
      omega
    · rw [dif_neg h2, dif_neg h2, dif_neg h2]
      by_cases h3 : e.val < 48
      · rw [dif_pos h3, dif_pos h3, dif_pos h3, if_pos (by omega), mul_neg, ← sub_eq_add_neg]
        refine congrArg₂ (· - ·) rfl (congrArg₂ (· * ·) (congrArg x (Fin.ext ?_)) rfl)
        show (o + e.val + 128 - 112) % 128 = o + (e.val + 16)
        omega
      · rw [dif_neg h3, dif_neg h3, dif_neg h3, if_neg (by omega)]
        refine congrArg₂ (· + ·) rfl (congrArg₂ (· * ·) (congrArg x (Fin.ext ?_)) rfl)
        show (o + e.val + 128 - 16) % 128 = o + (e.val - 16)
        omega

end Cert.AttnV
-- ==== Proof.Attn.Head.lean ====
module

public import proofs.«01_k».proof.Proof.Gen.AttnIdeal.Skeleton
public import Idealize.ShloMosaic.Lib.Pipeline.ValueKit
public import Idealize.ShloMosaic.Lib.Pointwise
public import proofs.«01_k».proof.Proof.Attn.Spec

@[expose] public section

set_option maxRecDepth 16384

noncomputable section

namespace Cert.AttnV

open Idealize.ShloMosaic Idealize.ShloMosaic.TcCoe Idealize.SL.Sem
open Cert.AttnIdeal Cert.AttnIdeal.Gen

theorem low : Ideal.ofBits FTy.f32 4286578688#32 = ⊥ := by
  simp [Ideal.ofBits, Ideal.ieee]

theorem named_scale : (Named.named κ "scale_log2" 1037384597#32 : Ideal .f32) = (scale2 : EReal) :=
  IdealRules.named_const.ideal_named_scalar _ _ _ _ rfl

/-- 128 lanes that hold the positional lanes of a pair of heads, against keys that vanish on the other head's half. -/
theorem half (o : ℕ) (ho : o = 0 ∨ o = 64) (b kp : Fin 128 → EReal) (hz : ∀ e : Fin 128, ¬ (o ≤ e.val ∧ e.val < o + 64) → kp e = 0) :
    ∑ e, b e * kp e = ∑ e : Fin 64, b ⟨o + e.val, by omega⟩ * kp ⟨o + e.val, by omega⟩ := by
  refine (Fin.sum_univ_add (a := 64) (b := 64) fun e => b e * kp e).trans ?_
  rcases ho with rfl | rfl
  · refine (congrArg (_ + ·) (Finset.sum_eq_zero fun i _ => ?_)).trans (add_zero _) |>.trans ?_
    · exact (congrArg _ (hz ⟨64 + i.val, by omega⟩ (by simp))).trans (mul_zero _)
    · refine Finset.sum_congr rfl fun i _ => congrArg₂ (fun a c => b a * kp c) (Fin.ext ?_) (Fin.ext ?_) <;>
        simp
  · refine (congrArg (· + _) (Finset.sum_eq_zero fun i _ => ?_)).trans (zero_add _) |>.trans ?_
    · exact (congrArg _ (hz ⟨i.val, by omega⟩ (by simp))).trans (mul_zero _)
    · rfl

/-- One head of a context step, at a row and a lane. -/
theorem head_ctx_raw (kp b a kn vv : Vec Ideal S256x128 .bf16) (i : Fin 256) (j : Fin 128) (s : Fin 256 → EReal)
    (hs : ∀ k, ∑ e, a (ix2 i e) * kn (ix2 k e) + ∑ e, b (ix2 i e) * kp (ix2 k e) = s k) (hr : ∀ k, IsReal (s k)) :
    k0_pay9 kp (k0_pay6 (F := Ideal)) (k0_pay7 b) a kn vv (ix2 i j) = soft s fun k => vv (ix2 k j) := by
  refine Eq.trans ?_ (soft_eq (by norm_num) s _ (Finset.univ.fold max ⊥ s) hr (isReal_fold (by norm_num) s hr))
  unfold k0_pay9
  pointwise [k0_pay6, k0_pay7]
  simp only [hs, low, named_scale]
  rfl

/-- One head of a decode step, at a row and a lane: the cached keys, then the new ones. -/
theorem head_dec_raw (kp0 qr a kn vv : Vec Ideal S256x128 .bf16) (kp1 knd vvd : Vec Ideal S1024x128 .bf16) (i : Fin 256) (j : Fin 128) (s v : Fin 1280 → EReal)
    (hs : ∀ k : Fin 256, ∑ e, a (ix2 i e) * kn (ix2 k e) + ∑ e, qr (ix2 i e) * kp0 (ix2 k e) = s ⟨k.val, by omega⟩)
    (hs' : ∀ k : Fin 1024, ∑ e, a (ix2 i e) * knd (ix2 k e) + ∑ e, qr (ix2 i e) * kp1 (ix2 k e) = s ⟨256 + k.val, by omega⟩)
    (hv : ∀ k : Fin 256, vv (ix2 k j) = v ⟨k.val, by omega⟩) (hv' : ∀ k : Fin 1024, vvd (ix2 k j) = v ⟨256 + k.val, by omega⟩)
    (hr : ∀ k, IsReal (s k)) :
    k0_pay61 (k0_pay46 (F := Ideal)) (k0_pay47 (F := Ideal)) (k0_pay58 kp1 qr a knd) (k0_pay59 kp0 kp1 qr a kn knd) (k0_pay60 kp0 kp1 qr a kn knd) vv vvd (ix2 i j) = soft s v := by
  refine Eq.trans ?_ (soft_eq (by norm_num) s v
    (max (Finset.univ.fold max ⊥ fun k : Fin 256 => s ⟨k.val, by omega⟩) (Finset.univ.fold max ⊥ fun k : Fin 1024 => s ⟨256 + k.val, by omega⟩)) hr
    (isReal_max (isReal_fold (by norm_num) _ fun _ => hr _) (isReal_fold (by norm_num) _ fun _ => hr _)))
  unfold k0_pay61
  pointwise [k0_pay46, k0_pay47, k0_pay58, k0_pay59, k0_pay60, k0_pay57, k0_pay56]
  simp only [hs, hs', hv, hv', low, named_scale]
  exact congrArg₂ Ideal.div (sum_1280 fun k => Ideal.exp2 ((s k - _) * (scale2 : EReal)) * v k) (sum_1280 fun k => Ideal.exp2 ((s k - _) * (scale2 : EReal)))

/-- A choice by the lane's half. -/
theorem sel64 {α : Type} (n : ℕ) (hn : n < 128) (a b : α) : Scalar.select (IntOp.cmpi CmpIPredicate.slt (BitVec.ofNat 32 n) 64#32) a b = if n < 64 then a else b := by
  have h : ∀ e : Fin 128, IntOp.cmpi CmpIPredicate.slt (BitVec.ofNat 32 e.val) 64#32 = if e.val < 64 then 1#1 else 0#1 := by decide +kernel
  rw [show IntOp.cmpi CmpIPredicate.slt (BitVec.ofNat 32 n) 64#32 = _ from h ⟨n, hn⟩]
  by_cases hc : n < 64
  · simp [hc, Scalar.select]
  · simp [hc, Scalar.select]

/-- A choice by the lane's place in its group of 32. -/
theorem sel16 {α : Type} (n : ℕ) (hn : n < 128) (a b : α) : Scalar.select (IntOp.cmpi CmpIPredicate.slt (IntOp.andi (BitVec.ofNat 32 n) 31#32) 16#32) a b = if n % 32 < 16 then a else b := by
  have h : ∀ e : Fin 128, IntOp.cmpi CmpIPredicate.slt (IntOp.andi (BitVec.ofNat 32 e.val) 31#32) 16#32 = if e.val % 32 < 16 then 1#1 else 0#1 := by decide +kernel
  rw [show IntOp.cmpi CmpIPredicate.slt (IntOp.andi (BitVec.ofNat 32 n) 31#32) 16#32 = _ from h ⟨n, hn⟩]
  by_cases hc : n % 32 < 16
  · simp [hc, Scalar.select]
  · simp [hc, Scalar.select]

/-- The position keys of an even head. -/
theorem pe_even (x : Vec Ideal S256x128 .f32) (k : Fin 256) (e : Fin 128) : k0_pay4 x (ix2 k e) = if e.val < 64 then x (ix2 k e) else 0 := by
  pointwise [k0_pay4, k0_pay3]
  exact sel64 e.val e.isLt _ _

/-- The position keys of an odd head. -/
theorem pe_odd (x : Vec Ideal S256x128 .f32) (k : Fin 256) (e : Fin 128) : k0_pay5 x (ix2 k e) = if h : 64 ≤ e.val then x (ix2 k ⟨e.val - 64, by omega⟩) else 0 := by
  pointwise [k0_pay5, k0_pay3]
  rw [sel64 _ (by omega)]
  have := e.isLt
  by_cases h : 64 ≤ e.val
  · rw [if_pos (by omega), dif_pos h]; exact congrArg (fun e => x (ix2 k e)) (Fin.ext (by show (e.val + 128 - 64) % 128 = e.val - 64; omega))
  · rw [if_neg (by omega), dif_neg h]

/-- The cached position keys of an even head. -/
theorem pc_even (x : Vec Ideal S1x256x128 .f32) (k : Fin 256) (e : Fin 128) : k0_pay39 x (ix2 k e) = if e.val < 64 then x (ix3 0 k e) else 0 := by
  pointwise [k0_pay39, k0_pay38]
  exact sel64 e.val e.isLt _ _

/-- The cached position keys of an odd head. -/
theorem pc_odd (x : Vec Ideal S1x256x128 .f32) (k : Fin 256) (e : Fin 128) : k0_pay40 x (ix2 k e) = if h : 64 ≤ e.val then x (ix3 0 k ⟨e.val - 64, by omega⟩) else 0 := by
  pointwise [k0_pay40, k0_pay38]
  rw [sel64 _ (by omega)]
  have := e.isLt
  by_cases h : 64 ≤ e.val
  · rw [if_pos (by omega), dif_pos h]; exact congrArg (fun e => x (ix3 0 k e)) (Fin.ext (by show (e.val + 128 - 64) % 128 = e.val - 64; omega))
  · rw [if_neg (by omega), dif_neg h]

/-- The new position keys of an even head, turned. -/
theorem pd_even (x c s : Vec Ideal S1024x128 .f32) (k : Fin 1024) (e : Fin 128) : k0_pay42 x c s (ix2 k e) = if e.val < 64 then x (ix2 k e) * c (ix2 k e) + x (ix2 k (turn e)) * s (ix2 k e) else 0 := by
  pointwise [k0_pay42, k0_pay41]
  rw [sel64 _ e.isLt, sel16 _ e.isLt]
  unfold turn
  split
  · split <;> rfl
  · rfl

/-- The new position keys of an odd head, turned. -/
theorem pd_odd (x c s : Vec Ideal S1024x128 .f32) (k : Fin 1024) (e : Fin 128) : k0_pay43 x c s (ix2 k e) = k0_pay42 x c s (ix2 k ⟨(e.val + 128 - 64) % 128, by omega⟩) := by
  pointwise [k0_pay42, k0_pay43]

/-- The queries' positional lanes, turned. -/
theorem pq (x : Vec Ideal S256x128 .bf16) (c s : Vec Ideal S256x128 .f32) (k : Fin 256) (e : Fin 128) : k0_pay48 c s x (ix2 k e) = x (ix2 k e) * c (ix2 k e) + x (ix2 k (turn e)) * s (ix2 k e) := by
  pointwise [k0_pay48, k0_pay45]
  rw [sel16 _ e.isLt]
  unfold turn
  split <;> rfl

end Cert.AttnV
-- ==== Proof.Attn.Entry.lean ====
module

public import proofs.«01_k».proof.Proof.Gen.AttnIdeal.Value
public import Idealize.ShloMosaic.Lib.Pipeline.ValueKit
public import Idealize.ShloMosaic.Lib.Pointwise
public import proofs.«01_k».proof.Proof.Attn.Spec

@[expose] public section

set_option maxRecDepth 16384

noncomputable section

namespace Cert.AttnV

open Idealize.ShloMosaic Idealize.ShloMosaic.TcCoe Idealize.SL.Sem
open Cert.AttnIdeal Cert.AttnIdeal.Gen

/-! The arrays the host prepares, as the region finds them. -/

variable (m : (ℓ : Loc nD τ sig) → Buf (Elt Ideal) ℓ)

/-- The queries' plain lanes, head by head. -/
theorem V_qn (c : Dev nD) (R : Fin 6144) (n : Fin 2048) : V m c main_v5 (ix2 R ⟨n.val, by omega⟩) =
    m ((c : Thread nD τ).loc main_arg0) (ix2 R ⟨192 * (n.val / 128) + n.val % 128, by omega⟩) := by
  unfold V
  simp only [List.flatten_cons, List.flatten_nil, List.append_nil, hostOps0, hostOps0_1, hostOps0_2, List.cons_append, List.nil_append]
  after_results
  pointwise []
  exact congrArg (fun n => m ((c : Thread nD τ).loc main_arg0) (ix2 R n)) (Fin.ext (show n.val / 128 * 192 + n.val % 128 = 192 * (n.val / 128) + n.val % 128 by omega))

/-- The queries' positional lanes, head by head. -/
theorem V_qp (c : Dev nD) (R : Fin 6144) (n : Fin 1024) : V m c main_v5 (ix2 R ⟨2048 + n.val, by omega⟩) =
    m ((c : Thread nD τ).loc main_arg0) (ix2 R ⟨192 * (n.val / 64) + (128 + n.val % 64), by omega⟩) := by
  unfold V
  simp only [List.flatten_cons, List.flatten_nil, List.append_nil, hostOps0, hostOps0_1, hostOps0_2, List.cons_append, List.nil_append]
  after_results
  pointwise []
  exact congrArg (fun n => m ((c : Thread nD τ).loc main_arg0) (ix2 R n)) (Fin.ext (show n.val / 64 * 192 + (128 + n.val % 64) = 192 * (n.val / 64) + (128 + n.val % 64) by omega))

/-- Padded lanes below the padding. -/
theorem pad_at (x : Vec Ideal S2x2x256x64 .f32) (v : Vec Ideal S_ .f32) (b : Fin 2) (k : Fin 256) (e : Fin 64) :
    pad S2x2x256x128 ![0, 0, 0, 0] ![0, 0, 0, 64] ![0, 0, 0, 0] x v pads_S2x2x256x64_S2x2x256x128_000_000_000_0640 h_S_ (ix4 b 1 k ⟨e.val, by omega⟩) = x (ix4 b 1 k e) := by
  pointwise []

/-- The cached positional lanes of layer 1. -/
theorem V_kpc (c : Dev nD) (b : Fin 2) (k : Fin 256) (e : Fin 64) : V m c main_v12 (ix3 b k ⟨e.val, by omega⟩) =
    m ((c : Thread nD τ).loc main_arg4) (ix4 b 1 k e) := by
  unfold V
  simp only [List.flatten_cons, List.flatten_nil, List.append_nil, hostOps0, hostOps0_1, hostOps0_2, List.cons_append, List.nil_append]
  after_results
  pointwise []
  exact pad_at _ _ b k e

set_option maxHeartbeats 4000000 in
/-- The cosines, from the contents before they are laid out. -/
theorem cos_at (W : Valuation τ sig (Elt Ideal)) (p : Fin 1024) (e : Fin 128) : StableHlo.after hostOps0_2 W (Proc.tc.devRef main_v15) (ix2 p e) =
    cosT (W (Proc.tc.devRef main_arg5)) (W (Proc.tc.devRef main_arg7)) p e := by
  unfold hostOps0_2
  after_results
  pointwise []
  unfold cosT
  by_cases h1 : e.val % 64 < 16
  · refine (dif_pos h1).trans (Eq.trans ?_ (dif_pos h1).symm)
    exact congrArg (fun n : Fin 16 => (W (Proc.tc.devRef main_arg5) : S1024x16.Idx → EReal) (ix2 p n)) (Fin.ext (by first | rfl | omega | (dsimp only; omega)))
  · refine (dif_neg h1).trans (Eq.trans ?_ (dif_neg h1).symm)
    by_cases h2 : e.val % 64 < 32
    · refine (dif_pos (show e.val % 64 - 16 < 16 by omega)).trans (Eq.trans ?_ (dif_pos h2).symm)
      exact congrArg (fun n : Fin 16 => (W (Proc.tc.devRef main_arg5) : S1024x16.Idx → EReal) (ix2 p n)) (Fin.ext (by first | rfl | omega | (dsimp only; omega)))
    · refine (dif_neg (show ¬ e.val % 64 - 16 < 16 by omega)).trans (Eq.trans ?_ (dif_neg h2).symm)
      by_cases h3 : e.val % 64 < 48
      · refine (dif_pos (show e.val % 64 - 16 - 16 < 16 by omega)).trans (Eq.trans ?_ (dif_pos h3).symm)
        exact congrArg (fun n : Fin 16 => (W (Proc.tc.devRef main_arg7) : S1024x16.Idx → EReal) (ix2 p n)) (Fin.ext (by first | rfl | omega | (dsimp only; omega)))
      · refine (dif_neg (show ¬ e.val % 64 - 16 - 16 < 16 by omega)).trans (Eq.trans ?_ (dif_neg h3).symm)
        exact congrArg (fun n : Fin 16 => (W (Proc.tc.devRef main_arg7) : S1024x16.Idx → EReal) (ix2 p n)) (Fin.ext (by first | rfl | omega | (dsimp only; omega)))

set_option maxHeartbeats 4000000 in
/-- The signed sines, likewise. -/
theorem sin_at (W : Valuation τ sig (Elt Ideal)) (p : Fin 1024) (e : Fin 128) : StableHlo.after hostOps0_2 W (Proc.tc.devRef main_v18) (ix2 p e) =
    sinT (W (Proc.tc.devRef main_arg6)) (W (Proc.tc.devRef main_arg8)) p e := by
  unfold hostOps0_2
  after_results
  pointwise []
  unfold sinT
  by_cases h1 : e.val % 64 < 16
  · refine (dif_pos h1).trans (Eq.trans ?_ (dif_pos h1).symm)
    after_results_loop; exact congrArg (fun n : Fin 16 => - (show EReal from (W (Proc.tc.devRef main_arg6) : S1024x16.Idx → EReal) (ix2 p n))) (Fin.ext (by first | rfl | omega | (dsimp only; omega)))
  · refine (dif_neg h1).trans (Eq.trans ?_ (dif_neg h1).symm)
    by_cases h2 : e.val % 64 < 32
    · refine (dif_pos (show e.val % 64 - 16 < 16 by omega)).trans (Eq.trans ?_ (dif_pos h2).symm)
      after_results_loop; exact congrArg (fun n : Fin 16 => (W (Proc.tc.devRef main_arg6) : S1024x16.Idx → EReal) (ix2 p n)) (Fin.ext (by first | rfl | omega | (dsimp only; omega)))
    · refine (dif_neg (show ¬ e.val % 64 - 16 < 16 by omega)).trans (Eq.trans ?_ (dif_neg h2).symm)
      by_cases h3 : e.val % 64 < 48
      · refine (dif_pos (show e.val % 64 - 16 - 16 < 16 by omega)).trans (Eq.trans ?_ (dif_pos h3).symm)
        after_results_loop; exact congrArg (fun n : Fin 16 => - (show EReal from (W (Proc.tc.devRef main_arg8) : S1024x16.Idx → EReal) (ix2 p n))) (Fin.ext (by first | rfl | omega | (dsimp only; omega)))
      · refine (dif_neg (show ¬ e.val % 64 - 16 - 16 < 16 by omega)).trans (Eq.trans ?_ (dif_neg h3).symm)
        after_results_loop; exact congrArg (fun n : Fin 16 => (W (Proc.tc.devRef main_arg8) : S1024x16.Idx → EReal) (ix2 p n)) (Fin.ext (by first | rfl | omega | (dsimp only; omega)))

theorem V_cos (c : Dev nD) (p : Fin 1024) (e : Fin 128) : V m c main_v15 (ix2 p e) =
    cosT (m ((c : Thread nD τ).loc main_arg5)) (m ((c : Thread nD τ).loc main_arg7)) p e := by
  unfold V
  simp only [List.flatten_cons, List.flatten_nil, List.append_nil, StableHlo.after_append]
  rw [cos_at]
  unfold hostOps0 hostOps0_1
  after_results
  try rfl

theorem V_sin (c : Dev nD) (p : Fin 1024) (e : Fin 128) : V m c main_v18 (ix2 p e) =
    sinT (m ((c : Thread nD τ).loc main_arg6)) (m ((c : Thread nD τ).loc main_arg8)) p e := by
  unfold V
  simp only [List.flatten_cons, List.flatten_nil, List.append_nil, StableHlo.after_append]
  rw [sin_at]
  unfold hostOps0 hostOps0_1
  after_results
  try rfl

end Cert.AttnV
-- ==== Proof.Attn.Ctx.lean ====
module

public import proofs.«01_k».proof.Proof.Attn.Head
public import proofs.«01_k».proof.Proof.Attn.Entry

@[expose] public section

set_option maxRecDepth 16384

noncomputable section

namespace Cert.AttnV

open Idealize.ShloMosaic Idealize.ShloMosaic.TcCoe Idealize.SL.Sem
open Cert.AttnIdeal Cert.AttnIdeal.Gen

/-! A context step's head, from the blocks it reads. -/

variable (m : (ℓ : Loc nD τ sig) → Buf (Elt Ideal) ℓ)

/-- The kernel's result on device `c`, as a function of the launch's arrays. -/
def Gm (c : Dev nD) : S6144x2048.Idx → EReal :=
  G (m ((c : Thread nD τ).loc main_arg5)) (m ((c : Thread nD τ).loc main_arg6)) (m ((c : Thread nD τ).loc main_arg7)) (m ((c : Thread nD τ).loc main_arg8))
    (m ((c : Thread nD τ).loc main_arg0)) (m ((c : Thread nD τ).loc main_arg1)) (m ((c : Thread nD τ).loc main_arg2)) (m ((c : Thread nD τ).loc main_arg3)) (m ((c : Thread nD τ).loc main_arg4))

/-- The launch's arrays are real where scores read them. -/
def Hm (c : Dev nD) : Prop :=
  Reals (m ((c : Thread nD τ).loc main_arg5)) (m ((c : Thread nD τ).loc main_arg6)) (m ((c : Thread nD τ).loc main_arg7)) (m ((c : Thread nD τ).loc main_arg8))
    (m ((c : Thread nD τ).loc main_arg0)) (m ((c : Thread nD τ).loc main_arg1)) (m ((c : Thread nD τ).loc main_arg2)) (m ((c : Thread nD τ).loc main_arg3)) (m ((c : Thread nD τ).loc main_arg4))

variable {m}

theorem qn_at (c : Dev nD) (R : Fin 6144) (h : Fin 16) (e : Fin 128) (n : Fin 3072) (hn : n.val = 128 * h.val + e.val) :
    V m c main_v5 (ix2 R n) = m ((c : Thread nD τ).loc main_arg0) (ix2 R ⟨192 * h.val + e.val, by omega⟩) := by
  obtain ⟨n, hlt⟩ := n
  dsimp only at hn
  subst hn
  refine (V_qn m c R ⟨128 * h.val + e.val, by omega⟩).trans ?_
  refine congrArg (fun n => m ((c : Thread nD τ).loc main_arg0) (ix2 R n)) (Fin.ext ?_)
  dsimp only
  omega

theorem qp_at (c : Dev nD) (R : Fin 6144) (h : Fin 16) (e : Fin 64) (n : Fin 3072) (hn : n.val = 2048 + 64 * h.val + e.val) :
    V m c main_v5 (ix2 R n) = m ((c : Thread nD τ).loc main_arg0) (ix2 R ⟨192 * h.val + (128 + e.val), by omega⟩) := by
  obtain ⟨n, hlt⟩ := n
  dsimp only at hn
  subst hn
  refine Eq.trans ?_ ((V_qp m c R ⟨64 * h.val + e.val, by omega⟩).trans ?_)
  · exact congrArg (fun n => V m c main_v5 (ix2 R n)) (Fin.ext (by dsimp only; omega))
  · refine congrArg (fun n => m ((c : Thread nD τ).loc main_arg0) (ix2 R n)) (Fin.ext ?_)
    dsimp only
    omega

theorem idx : ∀ t : Fin cfg0.N, win0_0.index t = ![t.val, 0] ∧ win0_1.index t = ![min t.val 15, 0] ∧ win0_2.index t = ![min t.val 15, 0] ∧ win0_3.index t = ![4 + (t.val - 16) / 4, 0]
    ∧ win0_4.index t = ![4 + (t.val - 16) / 4, 0] ∧ win0_5.index t = ![(t.val - 16) / 4, 0] ∧ win0_6.index t = ![(t.val - 16) / 4, 0, 0] ∧ win0_7.index t = ![(t.val - 16) % 4, 0]
    ∧ win0_8.index t = ![(t.val - 16) % 4, 0] ∧ win0_9.index t = ![0, 0] ∧ win0_10.index t = ![0, 0] ∧ win0_11.index t = ![t.val, 0] :=
  (by decide +kernel : ∀ t : Fin grid0.N, _)

/-- A head of a context row, its keys vanishing outside 64 lanes. -/
theorem ctx_head {c : Dev nD} (H : Hm m c) (Q : S6144x3072.Idx → EReal) (hQ : V m c main_v5 = Q) (R : Fin 6144) (h : Fin 16) (o : ℕ) (ho : o = 0 ∨ o = 64) (i : Fin 256) (j : Fin 128) (kp b a kn vv : Vec Ideal S256x128 .bf16)
    (ha : ∀ e : Fin 128, a (ix2 i e) = Q (ix2 R ⟨128 * h.val + e.val, by omega⟩))
    (hb : ∀ e : Fin 64, b (ix2 i ⟨o + e.val, by omega⟩) = Q (ix2 R ⟨2048 + 64 * h.val + e.val, by omega⟩))
    (hkn : ∀ (k : Fin 256) (e : Fin 128), kn (ix2 k e) = m ((c : Thread nD τ).loc main_arg1) (ix2 (ctxKey R k) ⟨256 * h.val + e.val, by omega⟩))
    (hvv : ∀ k : Fin 256, vv (ix2 k j) = m ((c : Thread nD τ).loc main_arg1) (ix2 (ctxKey R k) ⟨256 * h.val + (128 + j.val), by omega⟩))
    (hkp : ∀ (k : Fin 256) (e : Fin 64), kp (ix2 k ⟨o + e.val, by omega⟩) = m ((c : Thread nD τ).loc main_arg2) (ix2 (ctxKey R k) ⟨e.val, by omega⟩))
    (hz : ∀ (k : Fin 256) (e : Fin 128), ¬ (o ≤ e.val ∧ e.val < o + 64) → kp (ix2 k e) = 0)
    (hR : R.val < 4096) (n : Fin 2048) (hn : n.val = 128 * h.val + j.val) :
    k0_pay9 kp (k0_pay6 (F := Ideal)) (k0_pay7 b) a kn vv (ix2 i j) = Gm m c (ix2 R n) := by
  subst hQ
  unfold Gm
  rw [G_ctx _ _ _ _ _ _ _ _ _ R hR h j n hn]
  refine (head_ctx_raw kp b a kn vv i j _ (fun k => ?_) (H.ctx R h)).trans ?_
  · rw [half o ho (fun e => b (ix2 i e)) (fun e => kp (ix2 k e)) (hz k)]
    refine congrArg₂ (· + ·) (Finset.sum_congr rfl fun e _ => congrArg₂ (· * ·) ?_ (hkn k e)) (Finset.sum_congr rfl fun e _ => congrArg₂ (· * ·) ?_ (hkp k e))
    · exact (ha e).trans (qn_at c R h e _ rfl)
    · exact (hb e).trans (qp_at c R h e _ rfl)
  · unfold ctxOut
    exact congrArg (soft _) (funext hvv)

/-- An even head. -/
theorem ctx_even {c : Dev nD} (H : Hm m c) (Q : S6144x3072.Idx → EReal) (hQ : V m c main_v5 = Q) (R : Fin 6144) (h : Fin 16) (i : Fin 256) (j : Fin 128) (b a kn vv : Vec Ideal S256x128 .bf16) (x : Vec Ideal S256x128 .f32)
    (ha : ∀ e : Fin 128, a (ix2 i e) = Q (ix2 R ⟨128 * h.val + e.val, by omega⟩))
    (hb : ∀ e : Fin 64, b (ix2 i ⟨0 + e.val, by omega⟩) = Q (ix2 R ⟨2048 + 64 * h.val + e.val, by omega⟩))
    (hkn : ∀ (k : Fin 256) (e : Fin 128), kn (ix2 k e) = m ((c : Thread nD τ).loc main_arg1) (ix2 (ctxKey R k) ⟨256 * h.val + e.val, by omega⟩))
    (hvv : ∀ k : Fin 256, vv (ix2 k j) = m ((c : Thread nD τ).loc main_arg1) (ix2 (ctxKey R k) ⟨256 * h.val + (128 + j.val), by omega⟩))
    (hx : ∀ (k : Fin 256) (e : Fin 128), x (ix2 k e) = m ((c : Thread nD τ).loc main_arg2) (ix2 (ctxKey R k) e))
    (hR : R.val < 4096) (n : Fin 2048) (hn : n.val = 128 * h.val + j.val) :
    k0_pay9 (k0_pay4 x) (k0_pay6 (F := Ideal)) (k0_pay7 b) a kn vv (ix2 i j) = Gm m c (ix2 R n) := by
  refine ctx_head H Q hQ R h 0 (Or.inl rfl) i j (k0_pay4 x) b a kn vv ha hb hkn hvv (fun k e => ?_) (fun k e he => ?_) hR n hn
  · rw [pe_even, if_pos (show 0 + e.val < 64 by omega), hx]
    exact congrArg (fun n => m ((c : Thread nD τ).loc main_arg2) (ix2 (ctxKey R k) n)) (Fin.ext (Nat.zero_add _))
  · rw [pe_even, if_neg (by omega)]

/-- An odd head. -/
theorem ctx_odd {c : Dev nD} (H : Hm m c) (Q : S6144x3072.Idx → EReal) (hQ : V m c main_v5 = Q) (R : Fin 6144) (h : Fin 16) (i : Fin 256) (j : Fin 128) (b a kn vv : Vec Ideal S256x128 .bf16) (x : Vec Ideal S256x128 .f32)
    (ha : ∀ e : Fin 128, a (ix2 i e) = Q (ix2 R ⟨128 * h.val + e.val, by omega⟩))
    (hb : ∀ e : Fin 64, b (ix2 i ⟨64 + e.val, by omega⟩) = Q (ix2 R ⟨2048 + 64 * h.val + e.val, by omega⟩))
    (hkn : ∀ (k : Fin 256) (e : Fin 128), kn (ix2 k e) = m ((c : Thread nD τ).loc main_arg1) (ix2 (ctxKey R k) ⟨256 * h.val + e.val, by omega⟩))
    (hvv : ∀ k : Fin 256, vv (ix2 k j) = m ((c : Thread nD τ).loc main_arg1) (ix2 (ctxKey R k) ⟨256 * h.val + (128 + j.val), by omega⟩))
    (hx : ∀ (k : Fin 256) (e : Fin 128), x (ix2 k e) = m ((c : Thread nD τ).loc main_arg2) (ix2 (ctxKey R k) e))
    (hR : R.val < 4096) (n : Fin 2048) (hn : n.val = 128 * h.val + j.val) :
    k0_pay9 (k0_pay5 x) (k0_pay6 (F := Ideal)) (k0_pay7 b) a kn vv (ix2 i j) = Gm m c (ix2 R n) := by
  refine ctx_head H Q hQ R h 64 (Or.inr rfl) i j (k0_pay5 x) b a kn vv ha hb hkn hvv (fun k e => ?_) (fun k e he => ?_) hR n hn
  · rw [pe_odd, dif_pos (show 64 ≤ 64 + e.val by omega), hx]
    exact congrArg (fun n => m ((c : Thread nD τ).loc main_arg2) (ix2 (ctxKey R k) n)) (Fin.ext (by dsimp only; omega))
  · rw [pe_odd, dif_neg (by omega)]

end Cert.AttnV
-- ==== Proof.Attn.Reads.lean ====
module

public import proofs.«01_k».proof.Proof.Gen.AttnIdeal.Value
public import Idealize.ShloMosaic.Lib.Pipeline.ValueKit
public import Idealize.ShloMosaic.Lib.Pointwise
public import proofs.«01_k».proof.Proof.Attn.Ctx

@[expose] public section

set_option maxRecDepth 16384

noncomputable section

namespace Cert.AttnV

open Idealize.ShloMosaic Idealize.ShloMosaic.TcCoe Idealize.SL.Sem
open Cert.AttnIdeal Cert.AttnIdeal.Gen

/-! What a step's blocks hold, of the arrays the region finds. -/

variable (m : (ℓ : Loc nD τ sig) → Buf (Elt Ideal) ℓ) (c : Dev nD) (t : Fin cfg0.N)

theorem rd0 (Q : S6144x3072.Idx → EReal) (hQ : V m c main_v5 = Q) (ht : t.val < 24) (i : Fin 256) (n : Fin 3072) : iblk m c 0 t (ix2 i n) = Q (ix2 ⟨256 * t.val + i.val, by omega⟩ n) := by
  blk_point [iblk, hQ, idx t]

theorem rd1 (ht : t.val < 24) (i : Fin 256) (n : Fin 4096) : iblk m c 1 t (ix2 i n) = m ((c : Thread nD τ).loc main_arg1) (ix2 ⟨256 * min t.val 15 + i.val, by omega⟩ n) := by
  blk_point [iblk, V_main_arg1, idx t]

theorem rd2 (ht : t.val < 24) (i : Fin 256) (n : Fin 128) : iblk m c 2 t (ix2 i n) = m ((c : Thread nD τ).loc main_arg2) (ix2 ⟨256 * min t.val 15 + i.val, by omega⟩ n) := by
  blk_point [iblk, V_main_arg2, idx t]

theorem rd3 (ht : t.val < 24) (i : Fin 1024) (n : Fin 4096) : iblk m c 3 t (ix2 i n) = m ((c : Thread nD τ).loc main_arg1) (ix2 ⟨4096 + 1024 * ((t.val - 16) / 4) + i.val, by omega⟩ n) := by
  blk_point [iblk, V_main_arg1, idx t]

theorem rd4 (ht : t.val < 24) (i : Fin 1024) (n : Fin 128) : iblk m c 4 t (ix2 i n) = m ((c : Thread nD τ).loc main_arg2) (ix2 ⟨4096 + 1024 * ((t.val - 16) / 4) + i.val, by omega⟩ n) := by
  blk_point [iblk, V_main_arg2, idx t]

theorem rd5 (ht : t.val < 24) (i : Fin 256) (n : Fin 4096) : iblk m c 5 t (ix2 i n) = m ((c : Thread nD τ).loc main_arg3) (ix2 ⟨256 * ((t.val - 16) / 4) + i.val, by omega⟩ n) := by
  blk_point [iblk, V_main_arg3, idx t]

theorem rd6 (K : S2x256x128.Idx → EReal) (hK : V m c main_v12 = K) (ht : t.val < 24) (i : Fin 256) (n : Fin 128) : iblk m c 6 t (ix3 0 i n) = K (ix3 ⟨(t.val - 16) / 4, by omega⟩ i n) := by
  blk_point [iblk, hK, idx t]

theorem rd7 (C : S1024x128.Idx → EReal) (hC : V m c main_v15 = C) (ht : t.val < 24) (i : Fin 256) (n : Fin 128) : iblk m c 7 t (ix2 i n) = C (ix2 ⟨256 * ((t.val - 16) % 4) + i.val, by omega⟩ n) := by
  blk_point [iblk, hC, idx t]

theorem rd8 (C : S1024x128.Idx → EReal) (hC : V m c main_v18 = C) (ht : t.val < 24) (i : Fin 256) (n : Fin 128) : iblk m c 8 t (ix2 i n) = C (ix2 ⟨256 * ((t.val - 16) % 4) + i.val, by omega⟩ n) := by
  blk_point [iblk, hC, idx t]

theorem rd9 (C : S1024x128.Idx → EReal) (hC : V m c main_v15 = C) (i : Fin 1024) (n : Fin 128) : iblk m c 9 t (ix2 i n) = C (ix2 i n) := by
  blk_point [iblk, hC, idx t]

theorem rd10 (C : S1024x128.Idx → EReal) (hC : V m c main_v18 = C) (i : Fin 1024) (n : Fin 128) : iblk m c 10 t (ix2 i n) = C (ix2 i n) := by
  blk_point [iblk, hC, idx t]

end Cert.AttnV
-- ==== Proof.Attn.Dec.lean ====
module

public import proofs.«01_k».proof.Proof.Attn.Ctx

@[expose] public section

set_option maxRecDepth 16384

noncomputable section

namespace Cert.AttnV

open Idealize.ShloMosaic Idealize.ShloMosaic.TcCoe Idealize.SL.Sem
open Cert.AttnIdeal Cert.AttnIdeal.Gen

/-! A decode step's head, from the blocks it reads. -/

variable {m : (ℓ : Loc nD τ sig) → Buf (Elt Ideal) ℓ}

/-- A head of a new row, its positional keys vanishing outside 64 lanes. -/
theorem dec_head {c : Dev nD} (H : Hm m c) (Q : S6144x3072.Idx → EReal) (hQ : V m c main_v5 = Q) (o : ℕ) (b : Fin 2) (p : Fin 1024) (h : Fin 16) (i : Fin 256) (j : Fin 128) (xq a kn vv : Vec Ideal S256x128 .bf16) (c7 c8 : Vec Ideal S256x128 .f32) (knd vvd : Vec Ideal S1024x128 .bf16)
    (kp0 : Vec Ideal S256x128 .bf16) (kp1 : Vec Ideal S1024x128 .bf16) (ho : o = 64 * (h.val % 2))
    (ha : ∀ e : Fin 128, a (ix2 i e) = Q (ix2 (newRow b p) ⟨128 * h.val + e.val, by omega⟩))
    (hxq : ∀ e : Fin 128, xq (ix2 i e) = Q (ix2 (newRow b p) ⟨2048 + 128 * (h.val / 2) + e.val, by omega⟩))
    (hc : ∀ e : Fin 128, c7 (ix2 i e) = cosT (m ((c : Thread nD τ).loc main_arg5)) (m ((c : Thread nD τ).loc main_arg7)) p e)
    (hs : ∀ e : Fin 128, c8 (ix2 i e) = sinT (m ((c : Thread nD τ).loc main_arg6)) (m ((c : Thread nD τ).loc main_arg8)) p e)
    (hkn : ∀ (k : Fin 256) (e : Fin 128), kn (ix2 k e) = m ((c : Thread nD τ).loc main_arg3) (ix2 ⟨256 * b.val + k.val, by omega⟩ ⟨256 * h.val + e.val, by omega⟩))
    (hvv : ∀ k : Fin 256, vv (ix2 k j) = m ((c : Thread nD τ).loc main_arg3) (ix2 ⟨256 * b.val + k.val, by omega⟩ ⟨256 * h.val + (128 + j.val), by omega⟩))
    (hknd : ∀ (k : Fin 1024) (e : Fin 128), knd (ix2 k e) = m ((c : Thread nD τ).loc main_arg1) (ix2 (newRow b k) ⟨256 * h.val + e.val, by omega⟩))
    (hvvd : ∀ k : Fin 1024, vvd (ix2 k j) = m ((c : Thread nD τ).loc main_arg1) (ix2 (newRow b k) ⟨256 * h.val + (128 + j.val), by omega⟩))
    (hk0 : ∀ (k : Fin 256) (e : Fin 64), kp0 (ix2 k ⟨o + e.val, by omega⟩) = m ((c : Thread nD τ).loc main_arg4) (ix4 b 1 k e))
    (hz0 : ∀ (k : Fin 256) (e : Fin 128), ¬ (o ≤ e.val ∧ e.val < o + 64) → kp0 (ix2 k e) = 0)
    (hk1 : ∀ (k : Fin 1024) (e : Fin 64), kp1 (ix2 k ⟨o + e.val, by omega⟩) = rope (m ((c : Thread nD τ).loc main_arg5)) (m ((c : Thread nD τ).loc main_arg6)) (m ((c : Thread nD τ).loc main_arg7)) (m ((c : Thread nD τ).loc main_arg8)) (fun e => m ((c : Thread nD τ).loc main_arg2) (ix2 (newRow b k) ⟨e.val, by omega⟩)) k e)
    (hz1 : ∀ (k : Fin 1024) (e : Fin 128), ¬ (o ≤ e.val ∧ e.val < o + 64) → kp1 (ix2 k e) = 0)
    (R : Fin 6144) (hR : R.val = 4096 + 1024 * b.val + p.val) (n : Fin 2048) (hn : n.val = 128 * h.val + j.val) :
    k0_pay61 (k0_pay46 (F := Ideal)) (k0_pay47 (F := Ideal)) (k0_pay58 kp1 (k0_pay48 (k0_pay44 c7) c8 xq) a knd) (k0_pay59 kp0 kp1 (k0_pay48 (k0_pay44 c7) c8 xq) a kn knd) (k0_pay60 kp0 kp1 (k0_pay48 (k0_pay44 c7) c8 xq) a kn knd) vv vvd (ix2 i j) = Gm m c (ix2 R n) := by
  subst hQ
  have ho' : o = 0 ∨ o = 64 := by omega
  have hqn : ∀ e : Fin 128, a (ix2 i e) = m ((c : Thread nD τ).loc main_arg0) (ix2 (newRow b p) ⟨192 * h.val + e.val, by omega⟩) := fun e => (ha e).trans (qn_at c _ h e _ rfl)
  have hqp : ∀ e : Fin 64, k0_pay48 (k0_pay44 c7) c8 xq (ix2 i ⟨o + e.val, by omega⟩) = qryP (m ((c : Thread nD τ).loc main_arg5)) (m ((c : Thread nD τ).loc main_arg6)) (m ((c : Thread nD τ).loc main_arg7)) (m ((c : Thread nD τ).loc main_arg8)) (m ((c : Thread nD τ).loc main_arg0)) b p h e := fun e => by
    rw [pq, show k0_pay44 c7 (ix2 i ⟨o + e.val, by omega⟩) = c7 (ix2 i ⟨o + e.val, by omega⟩) by pointwise [k0_pay44], hc, hs]
    refine (rope_tile _ _ _ _ (fun e => xq (ix2 i e)) o ho' p e).trans ?_
    unfold qryP
    refine congrArg (fun x => rope (m ((c : Thread nD τ).loc main_arg5)) (m ((c : Thread nD τ).loc main_arg6)) (m ((c : Thread nD τ).loc main_arg7)) (m ((c : Thread nD τ).loc main_arg8)) x p e) (funext fun e => ?_)
    refine (hxq _).trans (qp_at c _ h e _ ?_)
    dsimp only
    omega
  unfold Gm
  rw [G_dec _ _ _ _ _ _ _ _ _ R b p hR h j n hn]
  refine (head_dec_raw kp0 _ a kn vv kp1 knd vvd i j _ (fun k => keyV (m ((c : Thread nD τ).loc main_arg1)) (m ((c : Thread nD τ).loc main_arg3)) b h k j) (fun k => ?_) (fun k => ?_) (fun k => ?_) (fun k => ?_) (H.dec b p h)).trans rfl
  · rw [half o ho' (fun e => k0_pay48 (k0_pay44 c7) c8 xq (ix2 i e)) (fun e => kp0 (ix2 k e)) (hz0 k)]
    refine congrArg₂ (· + ·) (Finset.sum_congr rfl fun e _ => congrArg₂ (· * ·) (hqn e) ?_) (Finset.sum_congr rfl fun e _ => congrArg₂ (· * ·) (hqp e) ?_)
    · refine (hkn k e).trans (Eq.trans ?_ (dif_pos (show k.val < 256 from k.isLt)).symm)
      rfl
    · refine (hk0 k e).trans (Eq.trans ?_ (dif_pos (show k.val < 256 from k.isLt)).symm)
      rfl
  · rw [half o ho' (fun e => k0_pay48 (k0_pay44 c7) c8 xq (ix2 i e)) (fun e => kp1 (ix2 k e)) (hz1 k)]
    have hk : (⟨256 + k.val - 256, by omega⟩ : Fin 1024) = k := Fin.ext (by dsimp only; omega)
    refine congrArg₂ (· + ·) (Finset.sum_congr rfl fun e _ => congrArg₂ (· * ·) (hqn e) ?_) (Finset.sum_congr rfl fun e _ => congrArg₂ (· * ·) (hqp e) ?_)
    · refine (hknd k e).trans (Eq.trans ?_ (dif_neg (show ¬ 256 + k.val < 256 by omega)).symm)
      rw [hk]
    · refine (hk1 k e).trans (Eq.trans ?_ (dif_neg (show ¬ 256 + k.val < 256 by omega)).symm)
      rw [hk]
  · refine (hvv k).trans (Eq.trans ?_ (dif_pos (show k.val < 256 from k.isLt)).symm)
    rfl
  · have hk : (⟨256 + k.val - 256, by omega⟩ : Fin 1024) = k := Fin.ext (by dsimp only; omega)
    refine (hvvd k).trans (Eq.trans ?_ (dif_neg (show ¬ 256 + k.val < 256 by omega)).symm)
    rw [hk]

/-- The new positional keys, turned, in the first 64 lanes. -/
theorem turned (cr sr cc sc : S1024x16.Idx → EReal) (x4 x9 x10 : Vec Ideal S1024x128 .f32) (k : Fin 1024) (f : Fin 128 → EReal) (h4 : ∀ e, x4 (ix2 k e) = f e)
    (h9 : ∀ e, x9 (ix2 k e) = cosT cr cc k e) (h10 : ∀ e, x10 (ix2 k e) = sinT sr sc k e) (e : Fin 64) (n : Fin 128) (hn : n.val = e.val) :
    k0_pay42 x4 x9 x10 (ix2 k n) = rope cr sr cc sc (fun e => f ⟨e.val, by omega⟩) k e := by
  have hn' : n = ⟨0 + e.val, by omega⟩ := Fin.ext (by dsimp only; omega)
  rw [hn', pd_even, if_pos (show 0 + e.val < 64 by omega), h4, h4, h9, h10]
  refine (rope_tile cr sr cc sc f 0 (Or.inl rfl) k e).trans ?_
  refine congrArg (fun x => rope cr sr cc sc x k e) (funext fun e => congrArg f (Fin.ext ?_))
  exact Nat.zero_add _

/-- An even head. -/
theorem dec_even {c : Dev nD} (H : Hm m c) (Q : S6144x3072.Idx → EReal) (hQ : V m c main_v5 = Q) (b : Fin 2) (p : Fin 1024) (h : Fin 16) (i : Fin 256) (j : Fin 128) (xq a kn vv : Vec Ideal S256x128 .bf16) (c7 c8 : Vec Ideal S256x128 .f32) (knd vvd : Vec Ideal S1024x128 .bf16)
    (x6 : Vec Ideal S1x256x128 .f32) (x4 x9 x10 : Vec Ideal S1024x128 .f32) (ho : 0 = 64 * (h.val % 2))
    (ha : ∀ e : Fin 128, a (ix2 i e) = Q (ix2 (newRow b p) ⟨128 * h.val + e.val, by omega⟩))
    (hxq : ∀ e : Fin 128, xq (ix2 i e) = Q (ix2 (newRow b p) ⟨2048 + 128 * (h.val / 2) + e.val, by omega⟩))
    (hc : ∀ e : Fin 128, c7 (ix2 i e) = cosT (m ((c : Thread nD τ).loc main_arg5)) (m ((c : Thread nD τ).loc main_arg7)) p e)
    (hs : ∀ e : Fin 128, c8 (ix2 i e) = sinT (m ((c : Thread nD τ).loc main_arg6)) (m ((c : Thread nD τ).loc main_arg8)) p e)
    (hkn : ∀ (k : Fin 256) (e : Fin 128), kn (ix2 k e) = m ((c : Thread nD τ).loc main_arg3) (ix2 ⟨256 * b.val + k.val, by omega⟩ ⟨256 * h.val + e.val, by omega⟩))
    (hvv : ∀ k : Fin 256, vv (ix2 k j) = m ((c : Thread nD τ).loc main_arg3) (ix2 ⟨256 * b.val + k.val, by omega⟩ ⟨256 * h.val + (128 + j.val), by omega⟩))
    (hknd : ∀ (k : Fin 1024) (e : Fin 128), knd (ix2 k e) = m ((c : Thread nD τ).loc main_arg1) (ix2 (newRow b k) ⟨256 * h.val + e.val, by omega⟩))
    (hvvd : ∀ k : Fin 1024, vvd (ix2 k j) = m ((c : Thread nD τ).loc main_arg1) (ix2 (newRow b k) ⟨256 * h.val + (128 + j.val), by omega⟩))
    (h6 : ∀ (k : Fin 256) (e : Fin 64), x6 (ix3 0 k ⟨e.val, by omega⟩) = m ((c : Thread nD τ).loc main_arg4) (ix4 b 1 k e))
    (h4 : ∀ (k : Fin 1024) (e : Fin 128), x4 (ix2 k e) = m ((c : Thread nD τ).loc main_arg2) (ix2 (newRow b k) e))
    (h9 : ∀ (k : Fin 1024) (e : Fin 128), x9 (ix2 k e) = cosT (m ((c : Thread nD τ).loc main_arg5)) (m ((c : Thread nD τ).loc main_arg7)) k e)
    (h10 : ∀ (k : Fin 1024) (e : Fin 128), x10 (ix2 k e) = sinT (m ((c : Thread nD τ).loc main_arg6)) (m ((c : Thread nD τ).loc main_arg8)) k e)
    (R : Fin 6144) (hR : R.val = 4096 + 1024 * b.val + p.val) (n : Fin 2048) (hn : n.val = 128 * h.val + j.val) :
    k0_pay61 (k0_pay46 (F := Ideal)) (k0_pay47 (F := Ideal)) (k0_pay58 (k0_pay42 x4 x9 x10) (k0_pay48 (k0_pay44 c7) c8 xq) a knd) (k0_pay59 (k0_pay39 x6) (k0_pay42 x4 x9 x10) (k0_pay48 (k0_pay44 c7) c8 xq) a kn knd) (k0_pay60 (k0_pay39 x6) (k0_pay42 x4 x9 x10) (k0_pay48 (k0_pay44 c7) c8 xq) a kn knd) vv vvd (ix2 i j) = Gm m c (ix2 R n) := by
  refine dec_head H Q hQ 0 b p h i j xq a kn vv c7 c8 knd vvd (k0_pay39 x6) (k0_pay42 x4 x9 x10) ho ha hxq hc hs hkn hvv hknd hvvd (fun k e => ?_) (fun k e he => ?_) (fun k e => ?_) (fun k e he => ?_) R hR n hn
  · rw [pc_even, if_pos (show 0 + e.val < 64 by omega), ← h6]
    exact congrArg (fun n => x6 (ix3 0 k n)) (Fin.ext (Nat.zero_add _))
  · rw [pc_even, if_neg (by omega)]
  · exact turned _ _ _ _ x4 x9 x10 k _ (h4 k) (h9 k) (h10 k) e _ (Nat.zero_add _)
  · rw [pd_even, if_neg (by omega)]

/-- An odd head. -/
theorem dec_odd {c : Dev nD} (H : Hm m c) (Q : S6144x3072.Idx → EReal) (hQ : V m c main_v5 = Q) (b : Fin 2) (p : Fin 1024) (h : Fin 16) (i : Fin 256) (j : Fin 128) (xq a kn vv : Vec Ideal S256x128 .bf16) (c7 c8 : Vec Ideal S256x128 .f32) (knd vvd : Vec Ideal S1024x128 .bf16)
    (x6 : Vec Ideal S1x256x128 .f32) (x4 x9 x10 : Vec Ideal S1024x128 .f32) (ho : 64 = 64 * (h.val % 2))
    (ha : ∀ e : Fin 128, a (ix2 i e) = Q (ix2 (newRow b p) ⟨128 * h.val + e.val, by omega⟩))
    (hxq : ∀ e : Fin 128, xq (ix2 i e) = Q (ix2 (newRow b p) ⟨2048 + 128 * (h.val / 2) + e.val, by omega⟩))
    (hc : ∀ e : Fin 128, c7 (ix2 i e) = cosT (m ((c : Thread nD τ).loc main_arg5)) (m ((c : Thread nD τ).loc main_arg7)) p e)
    (hs : ∀ e : Fin 128, c8 (ix2 i e) = sinT (m ((c : Thread nD τ).loc main_arg6)) (m ((c : Thread nD τ).loc main_arg8)) p e)
    (hkn : ∀ (k : Fin 256) (e : Fin 128), kn (ix2 k e) = m ((c : Thread nD τ).loc main_arg3) (ix2 ⟨256 * b.val + k.val, by omega⟩ ⟨256 * h.val + e.val, by omega⟩))
    (hvv : ∀ k : Fin 256, vv (ix2 k j) = m ((c : Thread nD τ).loc main_arg3) (ix2 ⟨256 * b.val + k.val, by omega⟩ ⟨256 * h.val + (128 + j.val), by omega⟩))
    (hknd : ∀ (k : Fin 1024) (e : Fin 128), knd (ix2 k e) = m ((c : Thread nD τ).loc main_arg1) (ix2 (newRow b k) ⟨256 * h.val + e.val, by omega⟩))
    (hvvd : ∀ k : Fin 1024, vvd (ix2 k j) = m ((c : Thread nD τ).loc main_arg1) (ix2 (newRow b k) ⟨256 * h.val + (128 + j.val), by omega⟩))
    (h6 : ∀ (k : Fin 256) (e : Fin 64), x6 (ix3 0 k ⟨e.val, by omega⟩) = m ((c : Thread nD τ).loc main_arg4) (ix4 b 1 k e))
    (h4 : ∀ (k : Fin 1024) (e : Fin 128), x4 (ix2 k e) = m ((c : Thread nD τ).loc main_arg2) (ix2 (newRow b k) e))
    (h9 : ∀ (k : Fin 1024) (e : Fin 128), x9 (ix2 k e) = cosT (m ((c : Thread nD τ).loc main_arg5)) (m ((c : Thread nD τ).loc main_arg7)) k e)
    (h10 : ∀ (k : Fin 1024) (e : Fin 128), x10 (ix2 k e) = sinT (m ((c : Thread nD τ).loc main_arg6)) (m ((c : Thread nD τ).loc main_arg8)) k e)
    (R : Fin 6144) (hR : R.val = 4096 + 1024 * b.val + p.val) (n : Fin 2048) (hn : n.val = 128 * h.val + j.val) :
    k0_pay61 (k0_pay46 (F := Ideal)) (k0_pay47 (F := Ideal)) (k0_pay58 (k0_pay43 x4 x9 x10) (k0_pay48 (k0_pay44 c7) c8 xq) a knd) (k0_pay59 (k0_pay40 x6) (k0_pay43 x4 x9 x10) (k0_pay48 (k0_pay44 c7) c8 xq) a kn knd) (k0_pay60 (k0_pay40 x6) (k0_pay43 x4 x9 x10) (k0_pay48 (k0_pay44 c7) c8 xq) a kn knd) vv vvd (ix2 i j) = Gm m c (ix2 R n) := by
  refine dec_head H Q hQ 64 b p h i j xq a kn vv c7 c8 knd vvd (k0_pay40 x6) (k0_pay43 x4 x9 x10) ho ha hxq hc hs hkn hvv hknd hvvd (fun k e => ?_) (fun k e he => ?_) (fun k e => ?_) (fun k e he => ?_) R hR n hn
  · rw [pc_odd, dif_pos (show 64 ≤ 64 + e.val by omega), ← h6]
    exact congrArg (fun n => x6 (ix3 0 k n)) (Fin.ext (by dsimp only; omega))
  · rw [pc_odd, dif_neg (by omega)]
  · rw [pd_odd]
    exact turned _ _ _ _ x4 x9 x10 k _ (h4 k) (h9 k) (h10 k) e _ (by dsimp only; omega)
  · rw [pd_odd, pd_even, if_neg (by dsimp only; omega)]

end Cert.AttnV
-- ==== Proof.Attn.Value.lean ====
module

public import proofs.«01_k».proof.Proof.Attn.Reads
public import proofs.«01_k».proof.Proof.Attn.Dec

@[expose] public section

set_option maxRecDepth 16384

noncomputable section

namespace Cert.AttnV

open Idealize.ShloMosaic Idealize.ShloMosaic.TcCoe Idealize.SL.Sem
open Cert.AttnIdeal Cert.AttnIdeal.Gen

variable (m : (ℓ : Loc nD τ sig) → Buf (Elt Ideal) ℓ)

set_option maxHeartbeats 1000000 in
/-- The array the kernel writes back. -/
theorem kernel_value (c : Dev nD) (H : Hm m c) : (dats m 0 c).arrAt 11 cfg0.N = Gm m c := by
  refine (dats m 0 c).arrAt_eq_of_covers 11 _ (by decide +kernel) fun t hf y => ?_
  have ht : t.val < 24 := t.isLt
  have hy0 : (y 0).val < 256 := (y 0).isLt
  have hy1 : (y 1).val < 2048 := (y 1).isLt
  have hE : ((View.whole main_v19).slice (win0_11.rect t)).emb y = (ix2 ⟨256 * t.val + (y 0).val, by omega⟩ ⟨(y 1).val, by omega⟩ : S6144x2048.Idx) := by
    obtain ⟨_, _, _, _, _, _, _, _, _, _, _, e11⟩ := idx t
    funext a
    refine Fin.ext ((Pipeline.Window.rect_emb_val win0_11 t y a).trans ?_)
    rw [e11]
    fin_cases a
    · show t.val * 256 + (y 0).val = 256 * t.val + (y 0).val
      omega
    · show 0 * 2048 + (y 1).val = (y 1).val
      omega
  blk_simp
  rw [after0_11]
  refine Eq.trans ?_ (congrArg (Gm m c) hE.symm)
  obtain ⟨Q, hQ⟩ : ∃ Q : S6144x3072.Idx → EReal, V m c main_v5 = Q := ⟨_, rfl⟩
  have hr : 256 * t.val + (y 0).val < 6144 := by omega
  by_cases hA : t.val < 16
  · rw [outsAt0_A m c t hA (by omega)]
    have r0 := rd0 m c t Q hQ ht
    have r1 : ∀ (k : Fin 256) (n : Fin 4096), iblk m c 1 t (ix2 k n) = m ((c : Thread nD τ).loc main_arg1) (ix2 (ctxKey ⟨256 * t.val + (y 0).val, hr⟩ k) n) :=
      fun k n => (rd1 m c t ht k n).trans (at2 _ (by dsimp only [ctxKey]; omega) rfl)
    have r2 : ∀ (k : Fin 256) (n : Fin 128), iblk m c 2 t (ix2 k n) = m ((c : Thread nD τ).loc main_arg2) (ix2 (ctxKey ⟨256 * t.val + (y 0).val, hr⟩ k) n) :=
      fun k n => (rd2 m c t ht k n).trans (at2 _ (by dsimp only [ctxKey]; omega) rfl)
    frame_out
    generalize iblk m c 0 t = B0 at r0 ⊢
    generalize iblk m c 1 t = B1 at r1 ⊢
    generalize iblk m c 2 t = B2 at r2 ⊢
    canon_tiles x h
    case piece0 =>
      idx_vars x
      refine ctx_odd H Q hQ ⟨256 * t.val + (y 0).val, hr⟩ 15 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece1 =>
      idx_vars x
      refine ctx_even H Q hQ ⟨256 * t.val + (y 0).val, hr⟩ 14 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece2 =>
      idx_vars x
      refine ctx_odd H Q hQ ⟨256 * t.val + (y 0).val, hr⟩ 13 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece3 =>
      idx_vars x
      refine ctx_even H Q hQ ⟨256 * t.val + (y 0).val, hr⟩ 12 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece4 =>
      idx_vars x
      refine ctx_odd H Q hQ ⟨256 * t.val + (y 0).val, hr⟩ 11 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece5 =>
      idx_vars x
      refine ctx_even H Q hQ ⟨256 * t.val + (y 0).val, hr⟩ 10 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece6 =>
      idx_vars x
      refine ctx_odd H Q hQ ⟨256 * t.val + (y 0).val, hr⟩ 9 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece7 =>
      idx_vars x
      refine ctx_even H Q hQ ⟨256 * t.val + (y 0).val, hr⟩ 8 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece8 =>
      idx_vars x
      refine ctx_odd H Q hQ ⟨256 * t.val + (y 0).val, hr⟩ 7 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece9 =>
      idx_vars x
      refine ctx_even H Q hQ ⟨256 * t.val + (y 0).val, hr⟩ 6 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece10 =>
      idx_vars x
      refine ctx_odd H Q hQ ⟨256 * t.val + (y 0).val, hr⟩ 5 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece11 =>
      idx_vars x
      refine ctx_even H Q hQ ⟨256 * t.val + (y 0).val, hr⟩ 4 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece12 =>
      idx_vars x
      refine ctx_odd H Q hQ ⟨256 * t.val + (y 0).val, hr⟩ 3 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece13 =>
      idx_vars x
      refine ctx_even H Q hQ ⟨256 * t.val + (y 0).val, hr⟩ 2 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece14 =>
      idx_vars x
      refine ctx_odd H Q hQ ⟨256 * t.val + (y 0).val, hr⟩ 1 x0 x1 _ _ _ _ B2 (fun e => ?_) (fun e => ?_) (fun k e => ?_) (fun k => ?_) (fun k e => r2 k e) (by dsimp only; omega) ⟨(y 1).val, hy1⟩ h1
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
    case piece15 =>
      idx_vars x
      refine ctx_even H Q hQ ⟨256 * t.val + (y 0).val, hr⟩ 0 x0 x1 _ _ _ _ B2 (fun e => ?_) (fun e => ?_) (fun k e => ?_) (fun k => ?_) (fun k e => r2 k e) (by dsimp only; omega) ⟨(y 1).val, hy1⟩ (by dsimp only; omega)
      · pointwise []
        exact (r0 _ _).trans (at2 _ (by first | rfl | omega | (dsimp only; omega) | (simp only [ctxKey]; omega)) (by first | rfl | omega | (dsimp only; omega) | (simp only [ctxKey]; omega)))
      · pointwise []
        exact (r0 _ _).trans (at2 _ (by first | rfl | omega | (dsimp only; omega) | (simp only [ctxKey]; omega)) (by first | rfl | omega | (dsimp only; omega) | (simp only [ctxKey]; omega)))
      · pointwise []
        exact (r1 _ _).trans (at2 _ rfl (by first | rfl | omega | (dsimp only; omega) | (simp only [ctxKey]; omega)))
      · pointwise []
        exact (r1 _ _).trans (at2 _ rfl (by first | rfl | omega | (dsimp only; omega) | (simp only [ctxKey]; omega)))
  · have hb : (t.val - 16) / 4 < 2 := by omega
    have hp : 256 * ((t.val - 16) % 4) + (y 0).val < 1024 := by omega
    have r0 : ∀ (i : Fin 256) (n : Fin 3072), i.val = (y 0).val → iblk m c 0 t (ix2 i n) = Q (ix2 (newRow ⟨(t.val - 16) / 4, hb⟩ ⟨256 * ((t.val - 16) % 4) + (y 0).val, hp⟩) n) :=
      fun i n hi => (rd0 m c t Q hQ ht i n).trans (at2 _ (by dsimp only [newRow]; omega) rfl)
    have r3 : ∀ (k : Fin 1024) (n : Fin 4096), iblk m c 3 t (ix2 k n) = m ((c : Thread nD τ).loc main_arg1) (ix2 (newRow ⟨(t.val - 16) / 4, hb⟩ k) n) :=
      fun k n => (rd3 m c t ht k n).trans (at2 _ rfl rfl)
    have r4 : ∀ (k : Fin 1024) (n : Fin 128), iblk m c 4 t (ix2 k n) = m ((c : Thread nD τ).loc main_arg2) (ix2 (newRow ⟨(t.val - 16) / 4, hb⟩ k) n) :=
      fun k n => (rd4 m c t ht k n).trans (at2 _ rfl rfl)
    have r5 : ∀ (k : Fin 256) (n : Fin 4096), iblk m c 5 t (ix2 k n) = m ((c : Thread nD τ).loc main_arg3) (ix2 ⟨256 * ((t.val - 16) / 4) + k.val, by omega⟩ n) := rd5 m c t ht
    have r6 : ∀ (k : Fin 256) (e : Fin 64), iblk m c 6 t (ix3 0 k ⟨e.val, by omega⟩) = m ((c : Thread nD τ).loc main_arg4) (ix4 ⟨(t.val - 16) / 4, hb⟩ 1 k e) :=
      fun k e => (rd6 m c t _ rfl ht k _).trans (V_kpc m c _ k e)
    have r7 : ∀ (i : Fin 256) (e : Fin 128), i.val = (y 0).val → iblk m c 7 t (ix2 i e) = cosT (m ((c : Thread nD τ).loc main_arg5)) (m ((c : Thread nD τ).loc main_arg7)) ⟨256 * ((t.val - 16) % 4) + (y 0).val, hp⟩ e :=
      fun i e hi => (rd7 m c t _ rfl ht i e).trans ((V_cos m c _ e).trans (congrArg (fun p => cosT (m ((c : Thread nD τ).loc main_arg5)) (m ((c : Thread nD τ).loc main_arg7)) p e) (Fin.ext (by dsimp only; omega))))
    have r8 : ∀ (i : Fin 256) (e : Fin 128), i.val = (y 0).val → iblk m c 8 t (ix2 i e) = sinT (m ((c : Thread nD τ).loc main_arg6)) (m ((c : Thread nD τ).loc main_arg8)) ⟨256 * ((t.val - 16) % 4) + (y 0).val, hp⟩ e :=
      fun i e hi => (rd8 m c t _ rfl ht i e).trans ((V_sin m c _ e).trans (congrArg (fun p => sinT (m ((c : Thread nD τ).loc main_arg6)) (m ((c : Thread nD τ).loc main_arg8)) p e) (Fin.ext (by dsimp only; omega))))
    have r9 : ∀ (k : Fin 1024) (e : Fin 128), iblk m c 9 t (ix2 k e) = cosT (m ((c : Thread nD τ).loc main_arg5)) (m ((c : Thread nD τ).loc main_arg7)) k e := fun k e => (rd9 m c t _ rfl k e).trans (V_cos m c k e)
    have r10 : ∀ (k : Fin 1024) (e : Fin 128), iblk m c 10 t (ix2 k e) = sinT (m ((c : Thread nD τ).loc main_arg6)) (m ((c : Thread nD τ).loc main_arg8)) k e := fun k e => (rd10 m c t _ rfl k e).trans (V_sin m c k e)
    have hR : 256 * t.val + (y 0).val = 4096 + 1024 * ((t.val - 16) / 4) + (256 * ((t.val - 16) % 4) + (y 0).val) := by omega
    rw [outsAt0_B m c t hA (by omega)]
    frame_out
    generalize iblk m c 0 t = B0 at r0 ⊢
    generalize iblk m c 3 t = B3 at r3 ⊢
    generalize iblk m c 4 t = B4 at r4 ⊢
    generalize iblk m c 5 t = B5 at r5 ⊢
    generalize iblk m c 6 t = B6 at r6 ⊢
    generalize iblk m c 7 t = B7 at r7 ⊢
    generalize iblk m c 8 t = B8 at r8 ⊢
    generalize iblk m c 9 t = B9 at r9 ⊢
    generalize iblk m c 10 t = B10 at r10 ⊢
    canon_tiles x h
    case piece0 =>
      idx_vars x
      refine dec_odd H Q hQ ⟨(t.val - 16) / 4, hb⟩ ⟨256 * ((t.val - 16) % 4) + (y 0).val, hp⟩ 15 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece1 =>
      idx_vars x
      refine dec_even H Q hQ ⟨(t.val - 16) / 4, hb⟩ ⟨256 * ((t.val - 16) % 4) + (y 0).val, hp⟩ 14 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece2 =>
      idx_vars x
      refine dec_odd H Q hQ ⟨(t.val - 16) / 4, hb⟩ ⟨256 * ((t.val - 16) % 4) + (y 0).val, hp⟩ 13 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece3 =>
      idx_vars x
      refine dec_even H Q hQ ⟨(t.val - 16) / 4, hb⟩ ⟨256 * ((t.val - 16) % 4) + (y 0).val, hp⟩ 12 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece4 =>
      idx_vars x
      refine dec_odd H Q hQ ⟨(t.val - 16) / 4, hb⟩ ⟨256 * ((t.val - 16) % 4) + (y 0).val, hp⟩ 11 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece5 =>
      idx_vars x
      refine dec_even H Q hQ ⟨(t.val - 16) / 4, hb⟩ ⟨256 * ((t.val - 16) % 4) + (y 0).val, hp⟩ 10 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece6 =>
      idx_vars x
      refine dec_odd H Q hQ ⟨(t.val - 16) / 4, hb⟩ ⟨256 * ((t.val - 16) % 4) + (y 0).val, hp⟩ 9 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece7 =>
      idx_vars x
      refine dec_even H Q hQ ⟨(t.val - 16) / 4, hb⟩ ⟨256 * ((t.val - 16) % 4) + (y 0).val, hp⟩ 8 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece8 =>
      idx_vars x
      refine dec_odd H Q hQ ⟨(t.val - 16) / 4, hb⟩ ⟨256 * ((t.val - 16) % 4) + (y 0).val, hp⟩ 7 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece9 =>
      idx_vars x
      refine dec_even H Q hQ ⟨(t.val - 16) / 4, hb⟩ ⟨256 * ((t.val - 16) % 4) + (y 0).val, hp⟩ 6 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece10 =>
      idx_vars x
      refine dec_odd H Q hQ ⟨(t.val - 16) / 4, hb⟩ ⟨256 * ((t.val - 16) % 4) + (y 0).val, hp⟩ 5 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece11 =>
      idx_vars x
      refine dec_even H Q hQ ⟨(t.val - 16) / 4, hb⟩ ⟨256 * ((t.val - 16) % 4) + (y 0).val, hp⟩ 4 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece12 =>
      idx_vars x
      refine dec_odd H Q hQ ⟨(t.val - 16) / 4, hb⟩ ⟨256 * ((t.val - 16) % 4) + (y 0).val, hp⟩ 3 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece13 =>
      idx_vars x
      refine dec_even H Q hQ ⟨(t.val - 16) / 4, hb⟩ ⟨256 * ((t.val - 16) % 4) + (y 0).val, hp⟩ 2 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece14 =>
      idx_vars x
      refine dec_odd H Q hQ ⟨(t.val - 16) / 4, hb⟩ ⟨256 * ((t.val - 16) % 4) + (y 0).val, hp⟩ 1 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ h1
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))
    case piece15 =>
      idx_vars x
      refine dec_even H Q hQ ⟨(t.val - 16) / 4, hb⟩ ⟨256 * ((t.val - 16) % 4) + (y 0).val, hp⟩ 0 x0 x1 _ _ _ _ B7 B8 _ _ B6 B4 B9 B10 rfl (fun e => ?_) (fun e => ?_) (fun e => r7 x0 e h0.symm) (fun e => r8 x0 e h0.symm) (fun k e => ?_) (fun k => ?_) (fun k e => ?_) (fun k => ?_) r6 r4 r9 r10 ⟨256 * t.val + (y 0).val, hr⟩ hR ⟨(y 1).val, hy1⟩ (by dsimp only; omega)
      · pointwise []
        exact (r0 _ _ h0.symm).trans (at2 _ rfl (by first | rfl | omega | (dsimp only; omega) | (dsimp only [newRow]; omega)))
      · pointwise []
        exact (r0 _ _ h0.symm).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r5 _ _).trans (at2 _ rfl (by first | rfl | omega | (dsimp only; omega) | (dsimp only [newRow]; omega)))
      · pointwise []
        exact (r3 _ _).trans (at2 _ rfl (by first | rfl | omega | (dsimp only; omega) | (dsimp only [newRow]; omega)))
      · pointwise []
        exact (r3 _ _).trans (at2 _ rfl (by first | rfl | omega | (dsimp only; omega) | (dsimp only [newRow]; omega)))

end Cert.AttnV
-- ==== Proof.Attn.RefSoft.lean ====
module

public import proofs.«01_k».proof.Proof.Gen.RefAttnIdeal
public import Idealize.ShloMosaic.Lib.Pipeline.ValueKit
public import Idealize.ShloMosaic.Lib.Pointwise
public import proofs.«01_k».proof.Proof.Attn.Math

@[expose] public section

set_option maxRecDepth 16384

noncomputable section

namespace Cert.AttnV

open Idealize.ShloMosaic Idealize.ShloMosaic.TcCoe Idealize.SL.Sem
open Cert.RefAttnIdeal Cert.RefAttnIdeal.Gen

/-! The reference's attention over queries, keys and values it is given. -/

theorem minus_inf : Ideal.ofBits FTy.f32 4286578688#32 = ⊥ := by
  simp [Ideal.ofBits, Ideal.ieee]

theorem scale_192 : Ideal.rsqrt (Ideal.ofBits FTy.f32 0x43400000#32) = (scale : EReal) := by
  rw [show Ideal.ofBits FTy.f32 0x43400000#32 = ((192 : ℝ) : EReal) by
    simp [Ideal.ofBits, Ideal.ieee, -EReal.coe_mul]; norm_num]
  rw [Ideal.rsqrt_coe, if_neg (by norm_num), if_neg (by norm_num)]
  rfl

/-- The scores of a context step. -/
def sC (q : FVec Ideal S16x256x16x192 .f32) (k : FVec Ideal S16x256x16x192 .f32) : FVec Ideal S16x16x256x256 .f32 :=
  mulf (Host.dotGeneral dot_S16x256x16x192_S16x256x16x192_S16x16x256x256_3_3_1_1_02_02 none q k) (broadcastInDim S16x16x256x256 ![] bcast_S_S16x16x256x256 (Host.rsqrt (constant S_ .f32 0x43400000#32)))

/-- Their exponentials. -/
def eC (s : FVec Ideal S16x16x256x256 .f32) : FVec Ideal S16x16x256x256 .f32 :=
  Host.exp (subf s (broadcastInDim S16x16x256x256 ![0, 1, 2, 3] bcast_S16x16x256x1_S16x16x256x256_0_1_2_3 (broadcastInDim S16x16x256x1 ![0, 1, 2] bcast_S16x16x256_S16x16x256x1_0_1_2 (Host.reduce FloatOps.maximumf s (constant S_ .f32 0xFF800000#32) reducesTo_S16x16x256x256_S16x16x256_d3 h_S_))))

/-- The weighted values. -/
def oC (e : FVec Ideal S16x16x256x256 .f32) (v : FVec Ideal S16x256x16x128 .f32) : FVec Ideal S16x256x16x128 .f32 :=
  transpose S16x256x16x128 [0, 3, 1, 2] (Host.dotGeneral dot_S16x256x16x128_S16x16x256x256_S16x16x128x256_1_3_3_2_02_01 none v (Host.divf e (broadcastInDim S16x16x256x256 ![0, 1, 2, 3] bcast_S16x16x256x1_S16x16x256x256_0_1_2_3 (broadcastInDim S16x16x256x1 ![0, 1, 2] bcast_S16x16x256_S16x16x256x1_0_1_2 (Host.reduceAdd e (constant S_ .f32 0x00000000#32) reducesTo_S16x16x256x256_S16x16x256_d3 h_S_))))) transposes_S16x16x128x256_S16x256x16x128_0_3_1_2

theorem sC_at (q : FVec Ideal S16x256x16x192 .f32) (k : FVec Ideal S16x256x16x192 .f32) (b : Fin 16) (h : Fin 16) (i : Fin 256) (j : Fin 256) :
    sC q k (ix4 b h i j) = (∑ e : Fin 192, q (ix4 b i h e) * k (ix4 b j h e)) * (scale : EReal) := by
  rw [← scale_192]
  unfold sC
  pointwise []

theorem eC_at (s : FVec Ideal S16x16x256x256 .f32) (b : Fin 16) (h : Fin 16) (i : Fin 256) (j : Fin 256) :
    eC s (ix4 b h i j) = Ideal.exp (s (ix4 b h i j) - Finset.univ.fold max ⊥ fun k : Fin 256 => s (ix4 b h i k)) := by
  rw [← minus_inf]
  unfold eC
  pointwise []

theorem oC_at (e : FVec Ideal S16x16x256x256 .f32) (v : FVec Ideal S16x256x16x128 .f32) (b : Fin 16) (h : Fin 16) (i : Fin 256) (j : Fin 128) :
    oC e v (ix4 b i h j) = ∑ k : Fin 256, Ideal.div (e (ix4 b h i k)) (∑ k' : Fin 256, e (ix4 b h i k')) * v (ix4 b k h j) := by
  unfold oC
  pointwise []
  exact Finset.sum_congr rfl fun k _ => mul_comm _ _

/-- A context step's softmax, at a query, a head and a lane. -/
theorem attC (q : FVec Ideal S16x256x16x192 .f32) (k : FVec Ideal S16x256x16x192 .f32) (v : FVec Ideal S16x256x16x128 .f32) (b : Fin 16) (h : Fin 16) (i : Fin 256) (j : Fin 128) :
    oC (eC (sC q k)) v (ix4 b i h j) = soft (fun k' : Fin 256 => ∑ e : Fin 192, q (ix4 b i h e) * k (ix4 b k' h e)) fun k' => v (ix4 b k' h j) := by
  rw [oC_at]
  simp only [eC_at, sC_at]
  rfl

/-- The scores of a decode step. -/
def sD (q : FVec Ideal S2x1024x16x192 .f32) (k : FVec Ideal S2x1280x16x192 .f32) : FVec Ideal S2x16x1024x1280 .f32 :=
  mulf (Host.dotGeneral dot_S2x1024x16x192_S2x1280x16x192_S2x16x1024x1280_3_3_1_1_02_02 none q k) (broadcastInDim S2x16x1024x1280 ![] bcast_S_S2x16x1024x1280 (Host.rsqrt (constant S_ .f32 0x43400000#32)))

/-- Their exponentials. -/
def eD (s : FVec Ideal S2x16x1024x1280 .f32) : FVec Ideal S2x16x1024x1280 .f32 :=
  Host.exp (subf s (broadcastInDim S2x16x1024x1280 ![0, 1, 2, 3] bcast_S2x16x1024x1_S2x16x1024x1280_0_1_2_3 (broadcastInDim S2x16x1024x1 ![0, 1, 2] bcast_S2x16x1024_S2x16x1024x1_0_1_2 (Host.reduce FloatOps.maximumf s (constant S_ .f32 0xFF800000#32) reducesTo_S2x16x1024x1280_S2x16x1024_d3 h_S_))))

/-- The weighted values. -/
def oD (e : FVec Ideal S2x16x1024x1280 .f32) (v : FVec Ideal S2x1280x16x128 .f32) : FVec Ideal S2x1024x16x128 .f32 :=
  transpose S2x1024x16x128 [0, 3, 1, 2] (Host.dotGeneral dot_S2x1280x16x128_S2x16x1024x1280_S2x16x128x1024_1_3_3_2_02_01 none v (Host.divf e (broadcastInDim S2x16x1024x1280 ![0, 1, 2, 3] bcast_S2x16x1024x1_S2x16x1024x1280_0_1_2_3 (broadcastInDim S2x16x1024x1 ![0, 1, 2] bcast_S2x16x1024_S2x16x1024x1_0_1_2 (Host.reduceAdd e (constant S_ .f32 0x00000000#32) reducesTo_S2x16x1024x1280_S2x16x1024_d3 h_S_))))) transposes_S2x16x128x1024_S2x1024x16x128_0_3_1_2

theorem sD_at (q : FVec Ideal S2x1024x16x192 .f32) (k : FVec Ideal S2x1280x16x192 .f32) (b : Fin 2) (h : Fin 16) (i : Fin 1024) (j : Fin 1280) :
    sD q k (ix4 b h i j) = (∑ e : Fin 192, q (ix4 b i h e) * k (ix4 b j h e)) * (scale : EReal) := by
  rw [← scale_192]
  unfold sD
  pointwise []

theorem eD_at (s : FVec Ideal S2x16x1024x1280 .f32) (b : Fin 2) (h : Fin 16) (i : Fin 1024) (j : Fin 1280) :
    eD s (ix4 b h i j) = Ideal.exp (s (ix4 b h i j) - Finset.univ.fold max ⊥ fun k : Fin 1280 => s (ix4 b h i k)) := by
  rw [← minus_inf]
  unfold eD
  pointwise []

theorem oD_at (e : FVec Ideal S2x16x1024x1280 .f32) (v : FVec Ideal S2x1280x16x128 .f32) (b : Fin 2) (h : Fin 16) (i : Fin 1024) (j : Fin 128) :
    oD e v (ix4 b i h j) = ∑ k : Fin 1280, Ideal.div (e (ix4 b h i k)) (∑ k' : Fin 1280, e (ix4 b h i k')) * v (ix4 b k h j) := by
  unfold oD
  pointwise []
  exact Finset.sum_congr rfl fun k _ => mul_comm _ _

/-- A decode step's softmax, at a query, a head and a lane. -/
theorem attD (q : FVec Ideal S2x1024x16x192 .f32) (k : FVec Ideal S2x1280x16x192 .f32) (v : FVec Ideal S2x1280x16x128 .f32) (b : Fin 2) (h : Fin 16) (i : Fin 1024) (j : Fin 128) :
    oD (eD (sD q k)) v (ix4 b i h j) = soft (fun k' : Fin 1280 => ∑ e : Fin 192, q (ix4 b i h e) * k (ix4 b k' h e)) fun k' => v (ix4 b k' h j) := by
  rw [oD_at]
  simp only [eD_at, sD_at]
  rfl

end Cert.AttnV
-- ==== Proof.Attn.RefKeys.lean ====
module

public import proofs.«01_k».proof.Proof.Gen.RefAttnIdeal
public import Idealize.ShloMosaic.Lib.Pipeline.ValueKit
public import Idealize.ShloMosaic.Lib.Pointwise
public import proofs.«01_k».proof.Proof.Attn.Spec

@[expose] public section

set_option maxRecDepth 16384

noncomputable section

namespace Cert.AttnV

open Idealize.ShloMosaic Idealize.ShloMosaic.TcCoe Idealize.SL.Sem
open Cert.RefAttnIdeal Cert.RefAttnIdeal.Gen

/-! What the reference's attention is given: queries, keys and values, from the arrays. -/

variable (a0 : FVec Ideal S6144x3072 .bf16) (a1 : FVec Ideal S6144x4096 .bf16) (a2 : FVec Ideal S6144x128 .f32) (a3 : FVec Ideal S512x4096 .bf16)
  (a4 : FVec Ideal S2x2x256x64 .f32) (a5 a6 a7 a8 : FVec Ideal S1024x16 .f32)

/-- The context's queries. -/
def qC : FVec Ideal S16x256x16x192 .f32 :=
  shapeCast _ (shapeCast _ (extractStridedSlice S4096x3072 ![0, 0] (extf .f32 a0 bitsLt_bf16_f32) slices_S6144x3072_S4096x3072_0_0) shapeCasts_S4096x3072_S16x256x3072) shapeCasts_S16x256x3072_S16x256x16x192

/-- The context's keys and values, joined. -/
def kvC : FVec Ideal S16x256x16x256 .f32 :=
  shapeCast _ (shapeCast _ (extractStridedSlice S4096x4096 ![0, 0] (extf .f32 a1 bitsLt_bf16_f32) slices_S6144x4096_S4096x4096_0_0) shapeCasts_S4096x4096_S16x256x4096) shapeCasts_S16x256x4096_S16x256x16x256

/-- The positional lanes. -/
def kz64 : FVec Ideal S6144x64 .f32 := extractStridedSlice S6144x64 ![0, 0] a2 slices_S6144x128_S6144x64_0_0

/-- The context's keys. -/
def kC : FVec Ideal S16x256x16x192 .f32 :=
  concatenate S16x256x16x192 3 [⟨S16x256x16x128, (extractStridedSlice S16x256x16x128 ![0, 0, 0, 0] (kvC a1) slices_S16x256x16x256_S16x256x16x128_0_0_0_0)⟩, ⟨S16x256x16x64, (broadcastInDim S16x256x16x64 ![0, 1, 2, 3] bcast_S16x256x1x64_S16x256x16x64_0_1_2_3 (broadcastInDim S16x256x1x64 ![0, 1, 3] bcast_S16x256x64_S16x256x1x64_0_1_3 (shapeCast _ (extractStridedSlice S4096x64 ![0, 0] (kz64 a2) slices_S6144x64_S4096x64_0_0) shapeCasts_S4096x64_S16x256x64)))⟩] concatenates_S16x256x16x128_S16x256x16x64_S16x256x16x192_d3

/-- The context's values. -/
def vC : FVec Ideal S16x256x16x128 .f32 := extractStridedSlice S16x256x16x128 ![0, 0, 0, 128] (kvC a1) slices_S16x256x16x256_S16x256x16x128_0_0_0_128

/-- The cached keys and values, joined. -/
def kvP : FVec Ideal S2x256x16x256 .f32 := shapeCast _ (extf .f32 a3 bitsLt_bf16_f32) shapeCasts_S512x4096_S2x256x16x256

/-- The new keys and values, joined. -/
def kvD : FVec Ideal S2x1024x16x256 .f32 :=
  shapeCast _ (shapeCast _ (extractStridedSlice S2048x4096 ![4096, 0] (extf .f32 a1 bitsLt_bf16_f32) slices_S6144x4096_S2048x4096_4096_0) shapeCasts_S2048x4096_S2x1024x4096) shapeCasts_S2x1024x4096_S2x1024x16x256

/-- The new queries. -/
def qD0 : FVec Ideal S2x1024x16x192 .f32 :=
  shapeCast _ (shapeCast _ (extractStridedSlice S2048x3072 ![4096, 0] (extf .f32 a0 bitsLt_bf16_f32) slices_S6144x3072_S2048x3072_4096_0) shapeCasts_S2048x3072_S2x1024x3072) shapeCasts_S2x1024x3072_S2x1024x16x192

/-- A table of angles over heads. -/
def ang (a : FVec Ideal S1024x16 .f32) : FVec Ideal S1x1024x1x16 .f32 := broadcastInDim S1x1024x1x16 ![1, 2, 3] bcast_S1024x1x16_S1x1024x1x16_1_2_3 (broadcastInDim S1024x1x16 ![0, 2] bcast_S1024x16_S1024x1x16_0_2 a)

/-- Half of the turning of the queries. -/
def rotQ (x : FVec Ideal S2x1024x16x32 .f32) (c s : FVec Ideal S1x1024x1x16 .f32) : FVec Ideal S2x1024x16x32 .f32 :=
  concatenate S2x1024x16x32 3 [⟨S2x1024x16x16, (subf (mulf (extractStridedSlice S2x1024x16x16 ![0, 0, 0, 0] x slices_S2x1024x16x32_S2x1024x16x16_0_0_0_0) (broadcastInDim S2x1024x16x16 ![0, 1, 2, 3] bcast_S1x1024x1x16_S2x1024x16x16_0_1_2_3 c)) (mulf (extractStridedSlice S2x1024x16x16 ![0, 0, 0, 16] x slices_S2x1024x16x32_S2x1024x16x16_0_0_0_16) (broadcastInDim S2x1024x16x16 ![0, 1, 2, 3] bcast_S1x1024x1x16_S2x1024x16x16_0_1_2_3 s)))⟩, ⟨S2x1024x16x16, (addf (mulf (extractStridedSlice S2x1024x16x16 ![0, 0, 0, 16] x slices_S2x1024x16x32_S2x1024x16x16_0_0_0_16) (broadcastInDim S2x1024x16x16 ![0, 1, 2, 3] bcast_S1x1024x1x16_S2x1024x16x16_0_1_2_3 c)) (mulf (extractStridedSlice S2x1024x16x16 ![0, 0, 0, 0] x slices_S2x1024x16x32_S2x1024x16x16_0_0_0_0) (broadcastInDim S2x1024x16x16 ![0, 1, 2, 3] bcast_S1x1024x1x16_S2x1024x16x16_0_1_2_3 s)))⟩] concatenates_S2x1024x16x16_S2x1024x16x16_S2x1024x16x32_d3

/-- The turning of the queries. -/
def ropeQ (x : FVec Ideal S2x1024x16x64 .f32) : FVec Ideal S2x1024x16x64 .f32 :=
  concatenate S2x1024x16x64 3 [⟨S2x1024x16x32, rotQ (extractStridedSlice S2x1024x16x32 ![0, 0, 0, 0] x slices_S2x1024x16x64_S2x1024x16x32_0_0_0_0) (ang a5) (ang a6)⟩, ⟨S2x1024x16x32, rotQ (extractStridedSlice S2x1024x16x32 ![0, 0, 0, 32] x slices_S2x1024x16x64_S2x1024x16x32_0_0_0_32) (ang a7) (ang a8)⟩] concatenates_S2x1024x16x32_S2x1024x16x32_S2x1024x16x64_d3

theorem ropeQ_at (x : FVec Ideal S2x1024x16x64 .f32) (b : Fin 2) (p : Fin 1024) (h : Fin 16) (e : Fin 64) :
    ropeQ a5 a6 a7 a8 x (ix4 b p h e) = rope a5 a6 a7 a8 (fun e => x (ix4 b p h e)) p e := by
  unfold ropeQ rotQ ang
  pointwise []
  unfold rope
  by_cases h1 : e.val < 16
  · refine (dif_pos (show e.val < 32 by omega)).trans ((dif_pos h1).trans (Eq.trans ?_ (dif_pos h1).symm))
    exact congrArg₂ (· - ·) (congrArg₂ (· * ·) (at4 _ rfl rfl (by first | omega | rfl | (dsimp only [newRow]; omega)) (by first | omega | rfl | (dsimp only [newRow]; omega))) (at2 _ rfl (by first | omega | rfl | (dsimp only [newRow]; omega)))) (congrArg₂ (· * ·) (at4 _ rfl rfl (by first | omega | rfl | (dsimp only [newRow]; omega)) (by first | omega | rfl | (dsimp only [newRow]; omega))) (at2 _ rfl (by first | omega | rfl | (dsimp only [newRow]; omega))))
  · refine Eq.trans ?_ (dif_neg h1).symm
    by_cases h2 : e.val < 32
    · refine (dif_pos h2).trans ((dif_neg h1).trans (Eq.trans ?_ (dif_pos h2).symm))
      exact congrArg₂ (· + ·) (congrArg₂ (· * ·) (at4 _ rfl rfl (by first | omega | rfl | (dsimp only [newRow]; omega)) (by first | omega | rfl | (dsimp only [newRow]; omega))) (at2 _ rfl (by first | omega | rfl | (dsimp only [newRow]; omega)))) (congrArg₂ (· * ·) (at4 _ rfl rfl (by first | omega | rfl | (dsimp only [newRow]; omega)) (by first | omega | rfl | (dsimp only [newRow]; omega))) (at2 _ rfl (by first | omega | rfl | (dsimp only [newRow]; omega))))
    · refine (dif_neg h2).trans (Eq.trans ?_ (dif_neg h2).symm)
      by_cases h3 : e.val < 48
      · refine (dif_pos (show e.val - 32 < 16 by omega)).trans (Eq.trans ?_ (dif_pos h3).symm)
        exact congrArg₂ (· - ·) (congrArg₂ (· * ·) (at4 _ rfl rfl (by first | omega | rfl | (dsimp only [newRow]; omega)) (by first | omega | rfl | (dsimp only [newRow]; omega))) (at2 _ rfl (by first | omega | rfl | (dsimp only [newRow]; omega)))) (congrArg₂ (· * ·) (at4 _ rfl rfl (by first | omega | rfl | (dsimp only [newRow]; omega)) (by first | omega | rfl | (dsimp only [newRow]; omega))) (at2 _ rfl (by first | omega | rfl | (dsimp only [newRow]; omega))))
      · refine (dif_neg (show ¬ e.val - 32 < 16 by omega)).trans (Eq.trans ?_ (dif_neg h3).symm)
        exact congrArg₂ (· + ·) (congrArg₂ (· * ·) (at4 _ rfl rfl (by first | omega | rfl | (dsimp only [newRow]; omega)) (by first | omega | rfl | (dsimp only [newRow]; omega))) (at2 _ rfl (by first | omega | rfl | (dsimp only [newRow]; omega)))) (congrArg₂ (· * ·) (at4 _ rfl rfl (by first | omega | rfl | (dsimp only [newRow]; omega)) (by first | omega | rfl | (dsimp only [newRow]; omega))) (at2 _ rfl (by first | omega | rfl | (dsimp only [newRow]; omega))))

/-- Half of the turning of the keys. -/
def rotK (x : FVec Ideal S2x1024x1x32 .f32) (c s : FVec Ideal S1x1024x1x16 .f32) : FVec Ideal S2x1024x1x32 .f32 :=
  concatenate S2x1024x1x32 3 [⟨S2x1024x1x16, (subf (mulf (extractStridedSlice S2x1024x1x16 ![0, 0, 0, 0] x slices_S2x1024x1x32_S2x1024x1x16_0_0_0_0) (broadcastInDim S2x1024x1x16 ![0, 1, 2, 3] bcast_S1x1024x1x16_S2x1024x1x16_0_1_2_3 c)) (mulf (extractStridedSlice S2x1024x1x16 ![0, 0, 0, 16] x slices_S2x1024x1x32_S2x1024x1x16_0_0_0_16) (broadcastInDim S2x1024x1x16 ![0, 1, 2, 3] bcast_S1x1024x1x16_S2x1024x1x16_0_1_2_3 s)))⟩, ⟨S2x1024x1x16, (addf (mulf (extractStridedSlice S2x1024x1x16 ![0, 0, 0, 16] x slices_S2x1024x1x32_S2x1024x1x16_0_0_0_16) (broadcastInDim S2x1024x1x16 ![0, 1, 2, 3] bcast_S1x1024x1x16_S2x1024x1x16_0_1_2_3 c)) (mulf (extractStridedSlice S2x1024x1x16 ![0, 0, 0, 0] x slices_S2x1024x1x32_S2x1024x1x16_0_0_0_0) (broadcastInDim S2x1024x1x16 ![0, 1, 2, 3] bcast_S1x1024x1x16_S2x1024x1x16_0_1_2_3 s)))⟩] concatenates_S2x1024x1x16_S2x1024x1x16_S2x1024x1x32_d3

/-- The turning of the keys. -/
def ropeK (x : FVec Ideal S2x1024x1x64 .f32) : FVec Ideal S2x1024x1x64 .f32 :=
  concatenate S2x1024x1x64 3 [⟨S2x1024x1x32, rotK (extractStridedSlice S2x1024x1x32 ![0, 0, 0, 0] x slices_S2x1024x1x64_S2x1024x1x32_0_0_0_0) (ang a5) (ang a6)⟩, ⟨S2x1024x1x32, rotK (extractStridedSlice S2x1024x1x32 ![0, 0, 0, 32] x slices_S2x1024x1x64_S2x1024x1x32_0_0_0_32) (ang a7) (ang a8)⟩] concatenates_S2x1024x1x32_S2x1024x1x32_S2x1024x1x64_d3

theorem ropeK_at (x : FVec Ideal S2x1024x1x64 .f32) (b : Fin 2) (p : Fin 1024) (h : Fin 1) (e : Fin 64) :
    ropeK a5 a6 a7 a8 x (ix4 b p h e) = rope a5 a6 a7 a8 (fun e => x (ix4 b p h e)) p e := by
  unfold ropeK rotK ang
  pointwise []
  unfold rope
  by_cases h1 : e.val < 16
  · refine (dif_pos (show e.val < 32 by omega)).trans ((dif_pos h1).trans (Eq.trans ?_ (dif_pos h1).symm))
    exact congrArg₂ (· - ·) (congrArg₂ (· * ·) (at4 _ rfl rfl (by first | omega | rfl | (dsimp only [newRow]; omega)) (by first | omega | rfl | (dsimp only [newRow]; omega))) (at2 _ rfl (by first | omega | rfl | (dsimp only [newRow]; omega)))) (congrArg₂ (· * ·) (at4 _ rfl rfl (by first | omega | rfl | (dsimp only [newRow]; omega)) (by first | omega | rfl | (dsimp only [newRow]; omega))) (at2 _ rfl (by first | omega | rfl | (dsimp only [newRow]; omega))))
  · refine Eq.trans ?_ (dif_neg h1).symm
    by_cases h2 : e.val < 32
    · refine (dif_pos h2).trans ((dif_neg h1).trans (Eq.trans ?_ (dif_pos h2).symm))
      exact congrArg₂ (· + ·) (congrArg₂ (· * ·) (at4 _ rfl rfl (by first | omega | rfl | (dsimp only [newRow]; omega)) (by first | omega | rfl | (dsimp only [newRow]; omega))) (at2 _ rfl (by first | omega | rfl | (dsimp only [newRow]; omega)))) (congrArg₂ (· * ·) (at4 _ rfl rfl (by first | omega | rfl | (dsimp only [newRow]; omega)) (by first | omega | rfl | (dsimp only [newRow]; omega))) (at2 _ rfl (by first | omega | rfl | (dsimp only [newRow]; omega))))
    · refine (dif_neg h2).trans (Eq.trans ?_ (dif_neg h2).symm)
      by_cases h3 : e.val < 48
      · refine (dif_pos (show e.val - 32 < 16 by omega)).trans (Eq.trans ?_ (dif_pos h3).symm)
        exact congrArg₂ (· - ·) (congrArg₂ (· * ·) (at4 _ rfl rfl (by first | omega | rfl | (dsimp only [newRow]; omega)) (by first | omega | rfl | (dsimp only [newRow]; omega))) (at2 _ rfl (by first | omega | rfl | (dsimp only [newRow]; omega)))) (congrArg₂ (· * ·) (at4 _ rfl rfl (by first | omega | rfl | (dsimp only [newRow]; omega)) (by first | omega | rfl | (dsimp only [newRow]; omega))) (at2 _ rfl (by first | omega | rfl | (dsimp only [newRow]; omega))))
      · refine (dif_neg (show ¬ e.val - 32 < 16 by omega)).trans (Eq.trans ?_ (dif_neg h3).symm)
        exact congrArg₂ (· + ·) (congrArg₂ (· * ·) (at4 _ rfl rfl (by first | omega | rfl | (dsimp only [newRow]; omega)) (by first | omega | rfl | (dsimp only [newRow]; omega))) (at2 _ rfl (by first | omega | rfl | (dsimp only [newRow]; omega)))) (congrArg₂ (· * ·) (at4 _ rfl rfl (by first | omega | rfl | (dsimp only [newRow]; omega)) (by first | omega | rfl | (dsimp only [newRow]; omega))) (at2 _ rfl (by first | omega | rfl | (dsimp only [newRow]; omega))))

/-- The new queries, turned. -/
def qD : FVec Ideal S2x1024x16x192 .f32 :=
  concatenate S2x1024x16x192 3 [⟨S2x1024x16x128, (extractStridedSlice S2x1024x16x128 ![0, 0, 0, 0] (qD0 a0) slices_S2x1024x16x192_S2x1024x16x128_0_0_0_0)⟩, ⟨S2x1024x16x64, ropeQ a5 a6 a7 a8 (extractStridedSlice S2x1024x16x64 ![0, 0, 0, 128] (qD0 a0) slices_S2x1024x16x192_S2x1024x16x64_0_0_0_128)⟩] concatenates_S2x1024x16x128_S2x1024x16x64_S2x1024x16x192_d3

/-- The new positional lanes. -/
def kpeD : FVec Ideal S2x1024x1x64 .f32 := broadcastInDim S2x1024x1x64 ![0, 1, 3] bcast_S2x1024x64_S2x1024x1x64_0_1_3 (shapeCast _ (extractStridedSlice S2048x64 ![4096, 0] (kz64 a2) slices_S6144x64_S2048x64_4096_0) shapeCasts_S2048x64_S2x1024x64)

/-- The new keys. -/
def kNew : FVec Ideal S2x1024x16x192 .f32 :=
  concatenate S2x1024x16x192 3 [⟨S2x1024x16x128, (extractStridedSlice S2x1024x16x128 ![0, 0, 0, 0] (kvD a1) slices_S2x1024x16x256_S2x1024x16x128_0_0_0_0)⟩, ⟨S2x1024x16x64, (broadcastInDim S2x1024x16x64 ![0, 1, 2, 3] bcast_S2x1024x1x64_S2x1024x16x64_0_1_2_3 (ropeK a5 a6 a7 a8 (kpeD a2)))⟩] concatenates_S2x1024x16x128_S2x1024x16x64_S2x1024x16x192_d3

/-- The cached keys. -/
def kOld : FVec Ideal S2x256x16x192 .f32 :=
  concatenate S2x256x16x192 3 [⟨S2x256x16x128, (extractStridedSlice S2x256x16x128 ![0, 0, 0, 0] (kvP a3) slices_S2x256x16x256_S2x256x16x128_0_0_0_0)⟩, ⟨S2x256x16x64, (broadcastInDim S2x256x16x64 ![0, 1, 2, 3] bcast_S2x256x1x64_S2x256x16x64_0_1_2_3 (broadcastInDim S2x256x1x64 ![0, 1, 3] bcast_S2x256x64_S2x256x1x64_0_1_3 (shapeCast _ (extractStridedSlice S2x1x256x64 ![0, 1, 0, 0] a4 slices_S2x2x256x64_S2x1x256x64_0_1_0_0) shapeCasts_S2x1x256x64_S2x256x64)))⟩] concatenates_S2x256x16x128_S2x256x16x64_S2x256x16x192_d3

/-- All keys of a decode step. -/
def kD : FVec Ideal S2x1280x16x192 .f32 := concatenate S2x1280x16x192 1 [⟨S2x256x16x192, kOld a3 a4⟩, ⟨S2x1024x16x192, kNew a1 a2 a5 a6 a7 a8⟩] concatenates_S2x256x16x192_S2x1024x16x192_S2x1280x16x192_d1

/-- All values of a decode step. -/
def vD : FVec Ideal S2x1280x16x128 .f32 := concatenate S2x1280x16x128 1 [⟨S2x256x16x128, (extractStridedSlice S2x256x16x128 ![0, 0, 0, 128] (kvP a3) slices_S2x256x16x256_S2x256x16x128_0_0_0_128)⟩, ⟨S2x1024x16x128, (extractStridedSlice S2x1024x16x128 ![0, 0, 0, 128] (kvD a1) slices_S2x1024x16x256_S2x1024x16x128_0_0_0_128)⟩] concatenates_S2x256x16x128_S2x1024x16x128_S2x1280x16x128_d1

theorem qC_at (b : Fin 16) (i : Fin 256) (h : Fin 16) (e : Fin 192) : qC a0 (ix4 b i h e) = a0 (ix2 ⟨256 * b.val + i.val, by omega⟩ ⟨192 * h.val + e.val, by omega⟩) := by
  unfold qC
  pointwise []
  exact at2 _ (by first | omega | rfl | (dsimp only [newRow]; omega)) (by first | omega | rfl | (dsimp only [newRow]; omega))

theorem kC_n (b : Fin 16) (i : Fin 256) (h : Fin 16) (e : Fin 128) : kC a1 a2 (ix4 b i h ⟨e.val, by omega⟩) = a1 (ix2 ⟨256 * b.val + i.val, by omega⟩ ⟨256 * h.val + e.val, by omega⟩) := by
  unfold kC kvC
  pointwise []
  exact at2 _ (by first | omega | rfl | (dsimp only [newRow]; omega)) (by first | omega | rfl | (dsimp only [newRow]; omega))

theorem kC_p (b : Fin 16) (i : Fin 256) (h : Fin 16) (e : Fin 64) : kC a1 a2 (ix4 b i h ⟨128 + e.val, by omega⟩) = a2 (ix2 ⟨256 * b.val + i.val, by omega⟩ ⟨e.val, by omega⟩) := by
  unfold kC kz64
  pointwise []
  exact at2 _ (by first | omega | rfl | (dsimp only [newRow]; omega)) (by first | omega | rfl | (dsimp only [newRow]; omega))

theorem vC_at (b : Fin 16) (i : Fin 256) (h : Fin 16) (e : Fin 128) : vC a1 (ix4 b i h e) = a1 (ix2 ⟨256 * b.val + i.val, by omega⟩ ⟨256 * h.val + (128 + e.val), by omega⟩) := by
  unfold vC kvC
  pointwise []
  exact at2 _ (by first | omega | rfl | (dsimp only [newRow]; omega)) (by first | omega | rfl | (dsimp only [newRow]; omega))

theorem qD_n (b : Fin 2) (i : Fin 1024) (h : Fin 16) (e : Fin 128) : qD a0 a5 a6 a7 a8 (ix4 b i h ⟨e.val, by omega⟩) = a0 (ix2 (newRow b i) ⟨192 * h.val + e.val, by omega⟩) := by
  unfold qD qD0
  pointwise []
  exact at2 _ (by first | omega | rfl | (dsimp only [newRow]; omega)) (by first | omega | rfl | (dsimp only [newRow]; omega))

theorem qD_p (b : Fin 2) (i : Fin 1024) (h : Fin 16) (e : Fin 64) : qD a0 a5 a6 a7 a8 (ix4 b i h ⟨128 + e.val, by omega⟩) = qryP a5 a6 a7 a8 a0 b i h e := by
  unfold qD
  pointwise []
  rw [ropeQ_at]
  unfold qryP qD0
  refine congrArg (fun x => rope a5 a6 a7 a8 x i e) (funext fun e => ?_)
  pointwise []
  exact at2 _ (by first | omega | rfl | (dsimp only [newRow]; omega)) (by first | omega | rfl | (dsimp only [newRow]; omega))

theorem kD_n (b : Fin 2) (k : Fin 1280) (h : Fin 16) (e : Fin 128) : kD a1 a2 a3 a4 a5 a6 a7 a8 (ix4 b k h ⟨e.val, by omega⟩) = keyN a1 a3 b h k e := by
  unfold kD kOld kNew kvP kvD keyN
  pointwise []
  by_cases hk : k.val < 256
  · refine (dif_pos hk).trans (Eq.trans ?_ (dif_pos hk).symm)
    exact at2 _ (by first | omega | rfl | (dsimp only [newRow]; omega)) (by first | omega | rfl | (dsimp only [newRow]; omega))
  · refine (dif_neg hk).trans (Eq.trans ?_ (dif_neg hk).symm)
    exact at2 _ (by first | omega | rfl | (dsimp only [newRow]; omega)) (by first | omega | rfl | (dsimp only [newRow]; omega))

theorem kD_p (b : Fin 2) (k : Fin 1280) (h : Fin 16) (e : Fin 64) : kD a1 a2 a3 a4 a5 a6 a7 a8 (ix4 b k h ⟨128 + e.val, by omega⟩) = keyP a5 a6 a7 a8 a2 a4 b k e := by
  unfold kD kOld kNew keyP
  pointwise []
  by_cases hk : k.val < 256
  · refine (dif_pos hk).trans (Eq.trans ?_ (dif_pos hk).symm)
    exact at4 _ rfl rfl rfl rfl
  · refine (dif_neg hk).trans (Eq.trans ?_ (dif_neg hk).symm)
    rw [ropeK_at]
    refine congrArg (fun x => rope a5 a6 a7 a8 x ⟨k.val - 256, by omega⟩ e) (funext fun e => ?_)
    unfold kpeD kz64
    pointwise []
    exact at2 _ (by first | omega | rfl | (dsimp only [newRow]; omega)) (by first | omega | rfl | (dsimp only [newRow]; omega))

theorem vD_at (b : Fin 2) (k : Fin 1280) (h : Fin 16) (e : Fin 128) : vD a1 a3 (ix4 b k h e) = keyV a1 a3 b h k e := by
  unfold vD kvP kvD keyV
  pointwise []
  by_cases hk : k.val < 256
  · refine (dif_pos hk).trans (Eq.trans ?_ (dif_pos hk).symm)
    exact at2 _ (by first | omega | rfl | (dsimp only [newRow]; omega)) (by first | omega | rfl | (dsimp only [newRow]; omega))
  · refine (dif_neg hk).trans (Eq.trans ?_ (dif_neg hk).symm)
    exact at2 _ (by first | omega | rfl | (dsimp only [newRow]; omega)) (by first | omega | rfl | (dsimp only [newRow]; omega))

end Cert.AttnV
-- ==== Proof.Attn.RefValue.lean ====
module

public import proofs.«01_k».proof.Proof.Gen.RefAttnIdeal.Run
public import Idealize.ShloMosaic.Lib.Pipeline.ValueKit
public import Idealize.ShloMosaic.Lib.Pointwise
public import proofs.«01_k».proof.Proof.Attn.RefSoft
public import proofs.«01_k».proof.Proof.Attn.RefKeys

@[expose] public section

set_option maxRecDepth 16384

noncomputable section

namespace Cert.AttnV

open Idealize.ShloMosaic Idealize.ShloMosaic.TcCoe Idealize.SL.Sem
open Cert.RefAttnIdeal Cert.RefAttnIdeal.Gen

/-! The array the reference computes. -/

/-- The rows of the context, then the new ones. -/
def joinR (x : FVec Ideal S16x256x16x128 .f32) (y : FVec Ideal S2x1024x16x128 .f32) : FVec Ideal S6144x2048 .bf16 :=
  truncf .bf16 (concatenate S6144x2048 0 [⟨S4096x2048, (shapeCast _ (shapeCast _ x shapeCasts_S16x256x16x128_S16x256x2048) shapeCasts_S16x256x2048_S4096x2048)⟩, ⟨S2048x2048, (shapeCast _ (shapeCast _ y shapeCasts_S2x1024x16x128_S2x1024x2048) shapeCasts_S2x1024x2048_S2048x2048)⟩] concatenates_S4096x2048_S2048x2048_S6144x2048_d0) bitsLt_bf16_f32

theorem joinR_at (x : FVec Ideal S16x256x16x128 .f32) (y : FVec Ideal S2x1024x16x128 .f32) (R : Fin 6144) (n : Fin 2048) :
    joinR x y (ix2 R n) = if h : R.val < 4096 then x (ix4 ⟨R.val / 256, by omega⟩ ⟨R.val % 256, by omega⟩ ⟨n.val / 128, by omega⟩ ⟨n.val % 128, by omega⟩)
      else y (ix4 ⟨R.val / 1024 - 4, by omega⟩ ⟨R.val % 1024, by omega⟩ ⟨n.val / 128, by omega⟩ ⟨n.val % 128, by omega⟩) := by
  unfold joinR
  pointwise []
  by_cases h : R.val < 4096
  · refine (dif_pos h).trans (Eq.trans ?_ (dif_pos h).symm)
    exact at4 _ rfl rfl rfl rfl
  · refine (dif_neg h).trans (Eq.trans ?_ (dif_neg h).symm)
    exact at4 _ (by dsimp only; omega) (by dsimp only; omega) rfl rfl

/-- The reference's result, of the arrays it is given. -/
def refR (a0 : FVec Ideal S6144x3072 .bf16) (a1 : FVec Ideal S6144x4096 .bf16) (a2 : FVec Ideal S6144x128 .f32) (a3 : FVec Ideal S512x4096 .bf16)
    (a4 : FVec Ideal S2x2x256x64 .f32) (a5 a6 a7 a8 : FVec Ideal S1024x16 .f32) : FVec Ideal S6144x2048 .bf16 :=
  joinR (oC (eC (sC (qC a0) (kC a1 a2))) (vC a1)) (oD (eD (sD (qD a0 a5 a6 a7 a8) (kD a1 a2 a3 a4 a5 a6 a7 a8))) (vD a1 a3))

variable (m : (ℓ : Loc nD τ sig) → Buf (Elt Ideal) ℓ)

theorem res_eq (c : Dev nD) : Value.res_main_v160 (F := Ideal) m c =
    refR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_main_v160
  rfl

theorem refR_at (a0 : FVec Ideal S6144x3072 .bf16) (a1 : FVec Ideal S6144x4096 .bf16) (a2 : FVec Ideal S6144x128 .f32) (a3 : FVec Ideal S512x4096 .bf16)
    (a4 : FVec Ideal S2x2x256x64 .f32) (a5 a6 a7 a8 : FVec Ideal S1024x16 .f32) :
    refR a0 a1 a2 a3 a4 a5 a6 a7 a8 = G a5 a6 a7 a8 a0 a1 a2 a3 a4 := by
  funext i
  obtain ⟨R, n, rfl⟩ : ∃ R n, i = ix2 R n := ⟨i 0, i 1, by funext a; fin_cases a <;> rfl⟩
  unfold refR
  rw [joinR_at]
  by_cases h : R.val < 4096
  · rw [G_ctx _ _ _ _ _ _ _ _ _ R h ⟨n.val / 128, by omega⟩ ⟨n.val % 128, by omega⟩ n (by dsimp only; omega)]
    refine (dif_pos h).trans ?_
    rw [attC]
    unfold ctxOut
    refine congrArg₂ soft (funext fun k => ?_) (funext fun k => ?_)
    · rw [score_192]
      simp only [qC_at, kC_n, kC_p]
      congr 1 <;> funext e <;> exact at2 _ (by first | rfl | (dsimp only [ctxKey]; omega)) rfl
    · rw [vC_at]
      exact at2 _ rfl rfl
  · rw [G_dec _ _ _ _ _ _ _ _ _ R ⟨R.val / 1024 - 4, by omega⟩ ⟨R.val % 1024, by omega⟩ (by dsimp only; omega) ⟨n.val / 128, by omega⟩ ⟨n.val % 128, by omega⟩ n (by dsimp only; omega)]
    refine (dif_neg h).trans ?_
    rw [attD]
    unfold decOut
    refine congrArg₂ soft (funext fun k => ?_) (funext fun k => ?_)
    · rw [score_192]
      simp only [qD_n, qD_p, kD_n, kD_p]
    · exact vD_at _ _ _ _ _ _

end Cert.AttnV
-- ==== Proof.Attn.Claims.lean ====
module

public import proofs.«01_k».proof.Defs
public import proofs.«01_k».proof.Proof.Attn.Pre
public import proofs.«01_k».proof.Proof.Attn.Value
public import proofs.«01_k».proof.Proof.Attn.RefValue
public import Idealize.ShloMosaic.Lib.Claim

@[expose] public section

set_option maxRecDepth 16384

noncomputable section

namespace Cert.AttnV

open Idealize.ShloMosaic Idealize.ShloMosaic.TcCoe Idealize.SL.Sem Cert

/-- The reference terminates, keeps its arguments and leaves no counter raised. -/
theorem ref_frame : Cert.quiescent_RefAttnIdeal := fun m g _ =>
  (θ_run _ _ _).mono (fun r h => ⟨fun c => (h c).2, sem_eq_zero_of_no_sems (by decide) r.2⟩)
    (Cert.RefAttnIdeal.Value.run m g)

/-- The same of the arguments the precondition admits. -/
theorem ref_frame_pre : Cert.quiescent_RefAttnIdeal_pre_finite_scores := fun m g _ =>
  (θ_run _ _ _).mono (fun r h => ⟨fun c => (h c).2, sem_eq_zero_of_no_sems (by decide) r.2⟩)
    (Cert.RefAttnIdeal.Value.run m g)

section
open Cert.AttnIdeal

/-- A column's number, with its factors the other way round. -/
theorem at_col {a : ℕ} {x : Shape.Idx ⟨2, ![a, 4096]⟩ → EReal} {R : Fin a} {j : Fin 16} {e : Fin 128} (h : IsReal (x (ix2 R ⟨j.val * 256 + e.val, by omega⟩))) :
    IsReal (x (ix2 R ⟨256 * j.val + e.val, by omega⟩)) := by
  refine (congrArg IsReal (at2 x rfl ?_)).mp h
  dsimp only
  omega

/-- Under the precondition every entry a score reads is real. -/
theorem reals (m : (ℓ : Loc nD τ sig) → Buf (Elt Ideal) ℓ) (h : Cert.Pre_AttnIdeal_finite_scores m) (c : Dev nD) : Hm m c := by
  obtain ⟨h0, h1, h2, h3, h4, h5, h6, h7, h8⟩ := h c
  exact
    { hq := fun R n => fin0 _ _ _ _ _ _ _ _ _ R n h0
      hkv := fun R j e => at_col (fin1 _ _ _ _ _ _ _ _ _ R j e h1)
      hkz := fun R e => fin2 _ _ _ _ _ _ _ _ _ R e h2
      hkvc := fun R j e => at_col (fin3 _ _ _ _ _ _ _ _ _ R j e h3)
      hkpc := fun b k e => fin4 _ _ _ _ _ _ _ _ _ b k e h4
      hcr := fun p e => fin5 _ _ _ _ _ _ _ _ _ p e h5
      hsr := fun p e => fin6 _ _ _ _ _ _ _ _ _ p e h6
      hcc := fun p e => fin7 _ _ _ _ _ _ _ _ _ p e h7
      hsc := fun p e => fin8 _ _ _ _ _ _ _ _ _ p e h8 }

end

/-- The named scale of the scores is its rounded constant's name. -/
theorem preserves : Cert.preserves_Attn_AttnIdeal :=
  IdealRules.named_const.statement Cert.AttnIdeal.κ "scale_log2" .f32 0x3DD53B95#32 (((Real.sqrt 192)⁻¹ * (Real.log 2)⁻¹ : ℝ) : EReal) rfl

/-- The kernel's result is the reference's, where the scores' arguments are finite. -/
theorem algebraic : Cert.algebraic_AttnIdeal_RefAttnIdeal_pre_finite_scores := by
  pair_intro
  · run_from Cert.AttnIdeal.Value.run_blocks m g
  · run_from Cert.RefAttnIdeal.Value.run (F := Ideal) m' g'
    refine Eq.trans ?_ (kernel_value m c (reals m hpre c)).symm
    obtain ⟨e0, e1, e2, e3, e4, e5, e6, e7, e8⟩ := hagree c
    refine (res_eq m' c).trans ?_
    rw [e0, e1, e2, e3, e4, e5, e6, e7, e8]
    exact refR_at _ _ _ _ _ _ _ _ _

end Cert.AttnV
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.RefUpIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.RefDownIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.RefMergeIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.RefOutIdeal
public import proofs.«01_k».proof.Proof.Gen.MixA
public import proofs.«01_k».proof.Proof.Gen.MixA.Skeleton
public import proofs.«01_k».proof.Proof.Gen.MixA.Launch
public import proofs.«01_k».proof.Proof.Gen.MixA.Points
public import proofs.«01_k».proof.Proof.Gen.MixA.Frame
public import proofs.«01_k».proof.Proof.Gen.MixAIdeal
public import proofs.«01_k».proof.Proof.Gen.MixAIdeal.Skeleton
public import proofs.«01_k».proof.Proof.Gen.MixAIdeal.Launch
public import proofs.«01_k».proof.Proof.Gen.MixAIdeal.Points
public import proofs.«01_k».proof.Proof.Gen.MixAIdeal.Frame
public import proofs.«01_k».proof.Proof.Gen.RefMixAIdeal
public import proofs.«01_k».proof.Proof.Gen.Q
public import proofs.«01_k».proof.Proof.Gen.Q.Skeleton
public import proofs.«01_k».proof.Proof.Gen.Q.Launch
public import proofs.«01_k».proof.Proof.Gen.Q.Points
public import proofs.«01_k».proof.Proof.Gen.Q.Frame
public import proofs.«01_k».proof.Proof.Gen.QIdeal
public import proofs.«01_k».proof.Proof.Gen.QIdeal.Skeleton
public import proofs.«01_k».proof.Proof.Gen.QIdeal.Launch
public import proofs.«01_k».proof.Proof.Gen.QIdeal.Points
public import proofs.«01_k».proof.Proof.Gen.QIdeal.Frame
public import proofs.«01_k».proof.Proof.Gen.RefQIdeal
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.RefKvIdeal
public import proofs.«01_k».proof.Proof.Gen.CacheKv
public import proofs.«01_k».proof.Proof.Gen.CacheKv.Skeleton
public import proofs.«01_k».proof.Proof.Gen.CacheKv.Launch
public import proofs.«01_k».proof.Proof.Gen.CacheKv.Points
public import proofs.«01_k».proof.Proof.Gen.CacheKv.Frame
public import proofs.«01_k».proof.Proof.Gen.CacheKvIdeal
public import proofs.«01_k».proof.Proof.Gen.CacheKvIdeal.Skeleton
public import proofs.«01_k».proof.Proof.Gen.CacheKvIdeal.Launch
public import proofs.«01_k».proof.Proof.Gen.CacheKvIdeal.Points
public import proofs.«01_k».proof.Proof.Gen.CacheKvIdeal.Frame
public import proofs.«01_k».proof.Proof.Gen.RefCacheKvIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.RefNormIdeal
public import proofs.«01_k».proof.Proof.Gen.FinalP
public import proofs.«01_k».proof.Proof.Gen.FinalP.Skeleton
public import proofs.«01_k».proof.Proof.Gen.FinalP.Launch
public import proofs.«01_k».proof.Proof.Gen.FinalP.Points
public import proofs.«01_k».proof.Proof.Gen.FinalP.Frame
public import proofs.«01_k».proof.Proof.Gen.FinalPIdeal
public import proofs.«01_k».proof.Proof.Gen.FinalPIdeal.Skeleton
public import proofs.«01_k».proof.Proof.Gen.FinalPIdeal.Launch
public import proofs.«01_k».proof.Proof.Gen.FinalPIdeal.Points
public import proofs.«01_k».proof.Proof.Gen.FinalPIdeal.Frame
public import proofs.«01_k».proof.Proof.Gen.RefFinalPIdeal
public import proofs.«01_k».proof.Proof.Gen.FinalS
public import proofs.«01_k».proof.Proof.Gen.FinalS.Skeleton
public import proofs.«01_k».proof.Proof.Gen.FinalS.Launch
public import proofs.«01_k».proof.Proof.Gen.FinalS.Points
public import proofs.«01_k».proof.Proof.Gen.FinalS.Frame
public import proofs.«01_k».proof.Proof.Gen.FinalSIdeal
public import proofs.«01_k».proof.Proof.Gen.FinalSIdeal.Skeleton
public import proofs.«01_k».proof.Proof.Gen.FinalSIdeal.Launch
public import proofs.«01_k».proof.Proof.Gen.FinalSIdeal.Points
public import proofs.«01_k».proof.Proof.Gen.FinalSIdeal.Frame
public import proofs.«01_k».proof.Proof.Gen.RefFinalSIdeal
public import proofs.«01_k».proof.Proof.Gen.Modu
public import proofs.«01_k».proof.Proof.Gen.Modu.Skeleton
public import proofs.«01_k».proof.Proof.Gen.Modu.Launch
public import proofs.«01_k».proof.Proof.Gen.Modu.Points
public import proofs.«01_k».proof.Proof.Gen.Modu.Frame
public import proofs.«01_k».proof.Proof.Gen.ModuIdeal
public import proofs.«01_k».proof.Proof.Gen.ModuIdeal.Skeleton
public import proofs.«01_k».proof.Proof.Gen.ModuIdeal.Launch
public import proofs.«01_k».proof.Proof.Gen.ModuIdeal.Points
public import proofs.«01_k».proof.Proof.Gen.ModuIdeal.Frame
public import proofs.«01_k».proof.Proof.Gen.RefModuIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.RefAttnIdeal
public import proofs.«01_k».proof.Proof.Tail.Value
public import proofs.«01_k».proof.Proof.Up.Claims
public import proofs.«01_k».proof.Proof.Down.Claims
public import proofs.«01_k».proof.Proof.Merge.Claims
public import proofs.«01_k».proof.Proof.Out.Claims
public import proofs.«01_k».proof.Proof.MixA.Claims
public import proofs.«01_k».proof.Proof.Q.Claims
public import proofs.«01_k».proof.Proof.Kv.Claims
public import proofs.«01_k».proof.Proof.CacheKv.Claims
public import proofs.«01_k».proof.Proof.Norm.Claims
public import proofs.«01_k».proof.Proof.FinalP.Claims
public import proofs.«01_k».proof.Proof.FinalS.Claims
public import proofs.«01_k».proof.Proof.Modu.Claims
public import proofs.«01_k».proof.Proof.Attn.Claims
public import Idealize.ShloMosaic.Adequacy
public import Idealize.ShloMosaic.Init

/-! # The claims, call by call

Each call's value claim and its reference's frame are proved in the call's own modules under `Proof/`; the kernels'
frames are the launches' own. The tail projection's two are put together here. -/

@[expose] public section

noncomputable section

namespace Cert.Proof

open Idealize.ShloMosaic Idealize.SL.Sem Cert.Kernel

/-- The reference of the tail projection runs, keeps its arguments, and has no counter to leave. -/
theorem tail_ref_frame : Cert.quiescent_ReferenceIdeal := fun m g _ =>
  (θ_run _ _ _).mono (fun r h => ⟨fun c => (h c).2, sem_eq_zero_of_no_sems (by decide) r.2⟩)
    (Cert.ReferenceIdeal.Value.run m g)

/-- Tail projection: the kernel and its reference end with the same array. -/
theorem tail_algebraic : Cert.algebraic_KernelIdeal_ReferenceIdeal := by
  pair_intro
  · run_from Cert.KernelIdeal.Value.run_blocks m g
  · run_from Cert.ReferenceIdeal.Value.run (F := Ideal) m' g'
    exact (Cert.Tail.ref_value _ _).trans (Cert.Tail.kernel_value m c).symm

/-- Every claim of every call. -/
theorem claim : Cert.Claim := ⟨Cert.Kernel.Gen.facts,
  Cert.KernelIdeal.Gen.facts,
  Cert.ReferenceIdeal.Gen.facts,
  Cert.Up.Gen.facts,
  Cert.UpIdeal.Gen.facts,
  Cert.RefUpIdeal.Gen.facts,
  Cert.Down.Gen.facts,
  Cert.DownIdeal.Gen.facts,
  Cert.RefDownIdeal.Gen.facts,
  Cert.Merge.Gen.facts,
  Cert.MergeIdeal.Gen.facts,
  Cert.RefMergeIdeal.Gen.facts,
  Cert.Out.Gen.facts,
  Cert.OutIdeal.Gen.facts,
  Cert.RefOutIdeal.Gen.facts,
  Cert.MixA.Gen.facts,
  Cert.MixAIdeal.Gen.facts,
  Cert.RefMixAIdeal.Gen.facts,
  Cert.Q.Gen.facts,
  Cert.QIdeal.Gen.facts,
  Cert.RefQIdeal.Gen.facts,
  Cert.Kv.Gen.facts,
  Cert.KvIdeal.Gen.facts,
  Cert.RefKvIdeal.Gen.facts,
  Cert.CacheKv.Gen.facts,
  Cert.CacheKvIdeal.Gen.facts,
  Cert.RefCacheKvIdeal.Gen.facts,
  Cert.Norm.Gen.facts,
  Cert.NormIdeal.Gen.facts,
  Cert.RefNormIdeal.Gen.facts,
  Cert.FinalP.Gen.facts,
  Cert.FinalPIdeal.Gen.facts,
  Cert.RefFinalPIdeal.Gen.facts,
  Cert.FinalS.Gen.facts,
  Cert.FinalSIdeal.Gen.facts,
  Cert.RefFinalSIdeal.Gen.facts,
  Cert.Modu.Gen.facts,
  Cert.ModuIdeal.Gen.facts,
  Cert.RefModuIdeal.Gen.facts,
  Cert.Attn.Gen.facts,
  Cert.AttnIdeal.Gen.facts,
  Cert.RefAttnIdeal.Gen.facts,
  Cert.AttnV.pre_facts,
  fun m ρ _ => Cert.Kernel.Gen.frame m ρ, fun m ρ _ => Cert.KernelIdeal.Gen.frame m ρ, tail_ref_frame,
  fun m ρ _ => Cert.Up.Gen.frame m ρ, fun m ρ _ => Cert.UpIdeal.Gen.frame m ρ, Cert.UpV.ref_frame,
  fun m ρ _ => Cert.Down.Gen.frame m ρ, fun m ρ _ => Cert.DownIdeal.Gen.frame m ρ, Cert.DownV.ref_frame,
  fun m ρ _ => Cert.Merge.Gen.frame m ρ, fun m ρ _ => Cert.MergeIdeal.Gen.frame m ρ, Cert.MergeV.ref_frame,
  fun m ρ _ => Cert.Out.Gen.frame m ρ, fun m ρ _ => Cert.OutIdeal.Gen.frame m ρ, Cert.OutV.ref_frame,
  fun m ρ _ => Cert.MixA.Gen.frame m ρ, fun m ρ _ => Cert.MixAIdeal.Gen.frame m ρ, Cert.MixAV.ref_frame,
  fun m ρ _ => Cert.Q.Gen.frame m ρ, fun m ρ _ => Cert.QIdeal.Gen.frame m ρ, Cert.QV.ref_frame,
  Cert.KvV.bits_frame, Cert.KvV.ideal_frame, Cert.KvV.ref_frame,
  fun m ρ _ => Cert.CacheKv.Gen.frame m ρ, fun m ρ _ => Cert.CacheKvIdeal.Gen.frame m ρ, Cert.CacheKvV.ref_frame,
  fun m ρ _ => Cert.Norm.Gen.frame m ρ, fun m ρ _ => Cert.NormIdeal.Gen.frame m ρ, Cert.NormV.ref_frame,
  fun m ρ _ => Cert.FinalP.Gen.frame m ρ, fun m ρ _ => Cert.FinalPIdeal.Gen.frame m ρ, Cert.FinalPV.ref_frame,
  fun m ρ _ => Cert.FinalS.Gen.frame m ρ, fun m ρ _ => Cert.FinalSIdeal.Gen.frame m ρ, Cert.FinalSV.ref_frame,
  fun m ρ _ => Cert.Modu.Gen.frame m ρ, fun m ρ _ => Cert.ModuIdeal.Gen.frame m ρ, Cert.ModuV.ref_frame,
  fun m ρ _ => Cert.Attn.Gen.frame m ρ, fun m ρ _ => Cert.AttnIdeal.Gen.frame m ρ, fun m ρ _ => Cert.AttnIdeal.Gen.frame m ρ, Cert.AttnV.ref_frame, Cert.AttnV.ref_frame_pre,
  trivial, tail_algebraic,
  trivial, Cert.UpV.algebraic,
  trivial, Cert.DownV.algebraic,
  trivial, Cert.MergeV.algebraic,
  trivial, Cert.OutV.algebraic,
  trivial, Cert.MixAV.algebraic,
  trivial, Cert.QV.algebraic,
  trivial, Cert.KvV.algebraic,
  trivial, Cert.CacheKvV.algebraic,
  trivial, Cert.NormV.algebraic,
  trivial, Cert.FinalPV.algebraic,
  trivial, Cert.FinalSV.algebraic,
  trivial, Cert.ModuV.algebraic,
  Cert.AttnV.preserves, Cert.AttnV.algebraic⟩

end Cert.Proof

end
